-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_near [hPre_near : Cert.Pre_near.Facts] (m : (ℓ : Loc Cert.KernelIdeal.nD Cert.KernelIdeal.τ Cert.KernelIdeal.sig) → Buf (Elt Ideal) ℓ) : Prop :=
  ∀ c : Dev Cert.KernelIdeal.nD,
    (Cert.Pre_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_near [hPre_near : Cert.Pre_near.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_near.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_near2 [hPre_near2 : Cert.Pre_near2.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_near2.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_near2 [hPre_near2 : Cert.Pre_near2.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_near2.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_near [hKernelIdeal : Cert.KernelIdeal.Facts] [hPre_near : Cert.Pre_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_near m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_near [hReferenceIdeal : Cert.ReferenceIdeal.Facts] [hPre_near : Cert.Pre_near.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_near m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Kernel2Ideal_pre_near2 [hKernel2Ideal : Cert.Kernel2Ideal.Facts] [hPre_near2 : Cert.Pre_near2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_near2 m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Reference2Ideal_pre_near2 [hReference2Ideal : Cert.Reference2Ideal.Facts] [hPre_near2 : Cert.Pre_near2.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_near2 m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def preserves_Kernel_KernelIdeal : Prop :=
  True

def algebraic_KernelIdeal_ReferenceIdeal_pre_near [hKernelIdeal : Cert.KernelIdeal.Facts] [hReferenceIdeal : Cert.ReferenceIdeal.Facts] [hPre_near : Cert.Pre_near.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_near m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v116) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_near2 [hKernel2Ideal : Cert.Kernel2Ideal.Facts] [hReference2Ideal : Cert.Reference2Ideal.Facts] [hPre_near2 : Cert.Pre_near2.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_near2 m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v102)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v102) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v125) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v14) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_near : Cert.Pre_near.Facts) (hPre_near2 : Cert.Pre_near2.Facts),
    quiescent_Kernel (hKernel := hKernel)
    ∧ quiescent_KernelIdeal (hKernelIdeal := hKernelIdeal)
    ∧ quiescent_KernelIdeal_pre_near (hKernelIdeal := hKernelIdeal) (hPre_near := hPre_near)
    ∧ quiescent_ReferenceIdeal (hReferenceIdeal := hReferenceIdeal)
    ∧ quiescent_ReferenceIdeal_pre_near (hReferenceIdeal := hReferenceIdeal) (hPre_near := hPre_near)
    ∧ quiescent_Kernel2 (hKernel2 := hKernel2)
    ∧ quiescent_Kernel2Ideal (hKernel2Ideal := hKernel2Ideal)
    ∧ quiescent_Kernel2Ideal_pre_near2 (hKernel2Ideal := hKernel2Ideal) (hPre_near2 := hPre_near2)
    ∧ quiescent_Reference2Ideal (hReference2Ideal := hReference2Ideal)
    ∧ quiescent_Reference2Ideal_pre_near2 (hReference2Ideal := hReference2Ideal) (hPre_near2 := hPre_near2)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_near (hKernelIdeal := hKernelIdeal) (hReferenceIdeal := hReferenceIdeal) (hPre_near := hPre_near)
    ∧ preserves_Kernel2_Kernel2Ideal
    ∧ algebraic_Kernel2Ideal_Reference2Ideal_pre_near2 (hKernel2Ideal := hKernel2Ideal) (hReference2Ideal := hReference2Ideal) (hPre_near2 := hPre_near2)
    ∧ preserves_Kernel3_Kernel3Ideal
    ∧ algebraic_Kernel3Ideal_Reference3Ideal (hKernel3Ideal := hKernel3Ideal) (hReference3Ideal := hReference3Ideal)
-- ==== Pre_near.lean ====
abbrev S192x192x192 : Shape := ⟨3, ![192, 192, 192]⟩
abbrev S3 : Shape := ⟨1, ![3]⟩
abbrev S50000x6 : Shape := ⟨2, ![50000, 6]⟩
abbrev S6x50000 : Shape := ⟨2, ![6, 50000]⟩
abbrev S3x50000 : Shape := ⟨2, ![3, 50000]⟩
abbrev S50000x3 : Shape := ⟨2, ![50000, 3]⟩
abbrev S96 : Shape := ⟨1, ![96]⟩
abbrev S_ : Shape := ⟨0, ![]⟩
abbrev S50000x1x3 : Shape := ⟨3, ![50000, 1, 3]⟩
abbrev S1x96x1 : Shape := ⟨3, ![1, 96, 1]⟩
abbrev S50000x96x3 : Shape := ⟨3, ![50000, 96, 3]⟩
abbrev S1x1x3 : Shape := ⟨3, ![1, 1, 3]⟩

class Facts : Prop where
  transposes_S50000x6_S6x50000_1_0 : S50000x6.Transposes [1, 0] S6x50000
  slices_S6x50000_S3x50000_0_0 : S6x50000.Slices ![0, 0] S3x50000
  transposes_S3x50000_S50000x3_1_0 : S3x50000.Transposes [1, 0] S50000x3
  slices_S6x50000_S3x50000_3_0 : S6x50000.Slices ![3, 0] S3x50000
  bcast_S_S96 : S_.BroadcastsInDim S96 (![] : Fin 0 → Fin S96.rank)
  bcast_S50000x3_S50000x1x3_0_2 : S50000x3.BroadcastsInDim S50000x1x3 (![0, 2] : Fin 2 → Fin S50000x1x3.rank)
  bcast_S96_S1x96x1_1 : S96.BroadcastsInDim S1x96x1 (![1] : Fin 1 → Fin S1x96x1.rank)
  bcast_S1x96x1_S50000x96x3_0_1_2 : S1x96x1.BroadcastsInDim S50000x96x3 (![0, 1, 2] : Fin 3 → Fin S50000x96x3.rank)
  bcast_S50000x1x3_S50000x96x3_0_1_2 : S50000x1x3.BroadcastsInDim S50000x96x3 (![0, 1, 2] : Fin 3 → Fin S50000x96x3.rank)
  bcast_S_S3 : S_.BroadcastsInDim S3 (![] : Fin 0 → Fin S3.rank)
  bcast_S3_S1x1x3_2 : S3.BroadcastsInDim S1x1x3 (![2] : Fin 1 → Fin S1x1x3.rank)
  bcast_S1x1x3_S50000x96x3_0_1_2 : S1x1x3.BroadcastsInDim S50000x96x3 (![0, 1, 2] : Fin 3 → Fin S50000x96x3.rank)
  bcast_S_S50000x96x3 : S_.BroadcastsInDim S50000x96x3 (![] : Fin 0 → Fin S50000x96x3.rank)
  reducesTo_S50000x96x3_S_d0_1_2 : S50000x96x3.ReducesTo [0, 1, 2] S_
  h_S_ : 0 < S_.numel

variable [Facts]

def fn_part1 {F : FTy → Type} [FloatOps F] (main_arg1 : FVec F S3 .f32) (main_arg2 : FVec F S3 .f32) (main_v18 : FVec F S50000x96x3 .f32) (main_v19 : FVec F S3 .f32) (main_cst_2 : FVec F S_ .f32) : IVec S_ 1 :=
  let main_v20 : FVec F S3 .f32 := broadcastInDim S3 ![] bcast_S_S3 main_cst_2
  let main_v21 : FVec F S3 .f32 := mulf main_v20 main_arg2
  let main_v22 : FVec F S3 .f32 := subf main_arg1 main_v21
  let main_v23 : FVec F S1x1x3 .f32 := broadcastInDim S1x1x3 ![2] bcast_S3_S1x1x3_2 main_v22
  let main_v24 : FVec F S50000x96x3 .f32 := broadcastInDim S50000x96x3 ![0, 1, 2] bcast_S1x1x3_S50000x96x3_0_1_2 main_v23
  let main_v25 : FVec F S50000x96x3 .f32 := subf main_v18 main_v24
  let main_v26 : FVec F S1x1x3 .f32 := broadcastInDim S1x1x3 ![2] bcast_S3_S1x1x3_2 main_v19
  let main_v27 : FVec F S50000x96x3 .f32 := broadcastInDim S50000x96x3 ![0, 1, 2] bcast_S1x1x3_S50000x96x3_0_1_2 main_v26
  let main_v28 : FVec F S50000x96x3 .f32 := Host.divf main_v25 main_v27
  let main_cst_3 : FVec F S_ .f32 := constant S_ .f32 0x3F000000#32
  let main_v29 : FVec F S50000x96x3 .f32 := broadcastInDim S50000x96x3 ![] bcast_S_S50000x96x3 main_cst_3
  let main_v30 : FVec F S50000x96x3 .f32 := subf main_v28 main_v29
  let main_cst_4 : FVec F S_ .f32 := constant S_ .f32 0xBF800000#32
  let main_v31 : FVec F S50000x96x3 .f32 := broadcastInDim S50000x96x3 ![] bcast_S_S50000x96x3 main_cst_4
  let main_v32 : IVec S50000x96x3 1 := cmpf .oge main_v30 main_v31
  let main_cst_5 : FVec F S_ .f32 := constant S_ .f32 0x43400000#32
  let main_v33 : FVec F S50000x96x3 .f32 := broadcastInDim S50000x96x3 ![] bcast_S_S50000x96x3 main_cst_5
  let main_v34 : IVec S50000x96x3 1 := cmpf .olt main_v30 main_v33
  let main_v35 : IVec S50000x96x3 1 := andi main_v32 main_v34
  let main_c : IVec S_ 1 := constantI S_ 1 1#1
  let main_v36 : IVec S_ 1 := (fun x v => Host.reduce IntOp.andi x v reducesTo_S50000x96x3_S_d0_1_2 h_S_) main_v35 main_c
  main_v36

def fn {F : FTy → Type} [FloatOps F] (main_arg0 : FVec F S192x192x192 .f32) (main_arg1 : FVec F S3 .f32) (main_arg2 : FVec F S3 .f32) (main_arg3 : FVec F S50000x6 .f32) : IVec S_ 1 :=
  let main_cst : FVec F S3 .f32 := constant S3 .f32 0x43400000#32
  let main_v0 : FVec F S6x50000 .f32 := (transpose S6x50000 [1, 0] · transposes_S50000x6_S6x50000_1_0) main_arg3
  let main_v1 : FVec F S3x50000 .f32 := (extractStridedSlice S3x50000 ![0, 0] · slices_S6x50000_S3x50000_0_0) main_v0
  let main_v2 : FVec F S50000x3 .f32 := (transpose S50000x3 [1, 0] · transposes_S3x50000_S50000x3_1_0) main_v1
  let main_v3 : FVec F S3x50000 .f32 := (extractStridedSlice S3x50000 ![3, 0] · slices_S6x50000_S3x50000_3_0) main_v0
  let main_v4 : FVec F S50000x3 .f32 := (transpose S50000x3 [1, 0] · transposes_S3x50000_S50000x3_1_0) main_v3
  let main_v5 : FVec F S96 .f32 := sitofp .f32 (iotaInDim S96 32 0)
  let main_cst_0 : FVec F S_ .f32 := constant S_ .f32 0x3F000000#32
  let main_v6 : FVec F S96 .f32 := broadcastInDim S96 ![] bcast_S_S96 main_cst_0
  let main_v7 : FVec F S96 .f32 := addf main_v5 main_v6
  let main_cst_1 : FVec F S_ .f32 := constant S_ .f32 0x42C00000#32
  let main_v8 : FVec F S96 .f32 := broadcastInDim S96 ![] bcast_S_S96 main_cst_1
  let main_v9 : FVec F S96 .f32 := Host.divf main_v7 main_v8
  let main_v10 : FVec F S50000x1x3 .f32 := broadcastInDim S50000x1x3 ![0, 2] bcast_S50000x3_S50000x1x3_0_2 main_v2
  let main_v11 : FVec F S1x96x1 .f32 := broadcastInDim S1x96x1 ![1] bcast_S96_S1x96x1_1 main_v9
  let main_v12 : FVec F S50000x3 .f32 := subf main_v4 main_v2
  let main_v13 : FVec F S50000x1x3 .f32 := broadcastInDim S50000x1x3 ![0, 2] bcast_S50000x3_S50000x1x3_0_2 main_v12
  let main_v14 : FVec F S50000x96x3 .f32 := broadcastInDim S50000x96x3 ![0, 1, 2] bcast_S1x96x1_S50000x96x3_0_1_2 main_v11
  let main_v15 : FVec F S50000x96x3 .f32 := broadcastInDim S50000x96x3 ![0, 1, 2] bcast_S50000x1x3_S50000x96x3_0_1_2 main_v13
  let main_v16 : FVec F S50000x96x3 .f32 := mulf main_v14 main_v15
  let main_v17 : FVec F S50000x96x3 .f32 := broadcastInDim S50000x96x3 ![0, 1, 2] bcast_S50000x1x3_S50000x96x3_0_1_2 main_v10
  let main_v18 : FVec F S50000x96x3 .f32 := addf main_v17 main_v16
  let main_v19 : FVec F S3 .f32 := Host.divf main_arg2 main_cst
  let main_cst_2 : FVec F S_ .f32 := constant S_ .f32 0x3F000000#32
  fn_part1 (F := F) main_arg1 main_arg2 main_v18 main_v19 main_cst_2
-- ==== Pre_near2.lean ====
abbrev S3 : Shape := ⟨1, ![3]⟩
abbrev S50000x6 : Shape := ⟨2, ![50000, 6]⟩
abbrev S1000x1x50 : Shape := ⟨3, ![1000, 1, 50]⟩
abbrev S6x50000 : Shape := ⟨2, ![6, 50000]⟩
abbrev S3x50000 : Shape := ⟨2, ![3, 50000]⟩
abbrev S50000x3 : Shape := ⟨2, ![50000, 3]⟩
abbrev S96 : Shape := ⟨1, ![96]⟩
abbrev S_ : Shape := ⟨0, ![]⟩
abbrev S50000x1x3 : Shape := ⟨3, ![50000, 1, 3]⟩
abbrev S1x96x1 : Shape := ⟨3, ![1, 96, 1]⟩
abbrev S50000x96x3 : Shape := ⟨3, ![50000, 96, 3]⟩
abbrev S1x1x3 : Shape := ⟨3, ![1, 1, 3]⟩

class Facts : Prop where
  transposes_S50000x6_S6x50000_1_0 : S50000x6.Transposes [1, 0] S6x50000
  slices_S6x50000_S3x50000_0_0 : S6x50000.Slices ![0, 0] S3x50000
  transposes_S3x50000_S50000x3_1_0 : S3x50000.Transposes [1, 0] S50000x3
  slices_S6x50000_S3x50000_3_0 : S6x50000.Slices ![3, 0] S3x50000
  bcast_S_S96 : S_.BroadcastsInDim S96 (![] : Fin 0 → Fin S96.rank)
  bcast_S50000x3_S50000x1x3_0_2 : S50000x3.BroadcastsInDim S50000x1x3 (![0, 2] : Fin 2 → Fin S50000x1x3.rank)
  bcast_S96_S1x96x1_1 : S96.BroadcastsInDim S1x96x1 (![1] : Fin 1 → Fin S1x96x1.rank)
  bcast_S1x96x1_S50000x96x3_0_1_2 : S1x96x1.BroadcastsInDim S50000x96x3 (![0, 1, 2] : Fin 3 → Fin S50000x96x3.rank)
  bcast_S50000x1x3_S50000x96x3_0_1_2 : S50000x1x3.BroadcastsInDim S50000x96x3 (![0, 1, 2] : Fin 3 → Fin S50000x96x3.rank)
  bcast_S_S3 : S_.BroadcastsInDim S3 (![] : Fin 0 → Fin S3.rank)
  bcast_S3_S1x1x3_2 : S3.BroadcastsInDim S1x1x3 (![2] : Fin 1 → Fin S1x1x3.rank)
  bcast_S1x1x3_S50000x96x3_0_1_2 : S1x1x3.BroadcastsInDim S50000x96x3 (![0, 1, 2] : Fin 3 → Fin S50000x96x3.rank)
  bcast_S_S50000x96x3 : S_.BroadcastsInDim S50000x96x3 (![] : Fin 0 → Fin S50000x96x3.rank)
  reducesTo_S50000x96x3_S_d0_1_2 : S50000x96x3.ReducesTo [0, 1, 2] S_
  h_S_ : 0 < S_.numel

variable [Facts]

def fn_part1 {F : FTy → Type} [FloatOps F] (main_arg0 : FVec F S3 .f32) (main_arg1 : FVec F S3 .f32) (main_v18 : FVec F S50000x96x3 .f32) (main_v19 : FVec F S3 .f32) (main_cst_2 : FVec F S_ .f32) : IVec S_ 1 :=
  let main_v20 : FVec F S3 .f32 := broadcastInDim S3 ![] bcast_S_S3 main_cst_2
  let main_v21 : FVec F S3 .f32 := mulf main_v20 main_arg1
  let main_v22 : FVec F S3 .f32 := subf main_arg0 main_v21
  let main_v23 : FVec F S1x1x3 .f32 := broadcastInDim S1x1x3 ![2] bcast_S3_S1x1x3_2 main_v22
  let main_v24 : FVec F S50000x96x3 .f32 := broadcastInDim S50000x96x3 ![0, 1, 2] bcast_S1x1x3_S50000x96x3_0_1_2 main_v23
  let main_v25 : FVec F S50000x96x3 .f32 := subf main_v18 main_v24
  let main_v26 : FVec F S1x1x3 .f32 := broadcastInDim S1x1x3 ![2] bcast_S3_S1x1x3_2 main_v19
  let main_v27 : FVec F S50000x96x3 .f32 := broadcastInDim S50000x96x3 ![0, 1, 2] bcast_S1x1x3_S50000x96x3_0_1_2 main_v26
  let main_v28 : FVec F S50000x96x3 .f32 := Host.divf main_v25 main_v27
  let main_cst_3 : FVec F S_ .f32 := constant S_ .f32 0x3F000000#32
  let main_v29 : FVec F S50000x96x3 .f32 := broadcastInDim S50000x96x3 ![] bcast_S_S50000x96x3 main_cst_3
  let main_v30 : FVec F S50000x96x3 .f32 := subf main_v28 main_v29
  let main_cst_4 : FVec F S_ .f32 := constant S_ .f32 0xBF800000#32
  let main_v31 : FVec F S50000x96x3 .f32 := broadcastInDim S50000x96x3 ![] bcast_S_S50000x96x3 main_cst_4
  let main_v32 : IVec S50000x96x3 1 := cmpf .oge main_v30 main_v31
  let main_cst_5 : FVec F S_ .f32 := constant S_ .f32 0x43400000#32
  let main_v33 : FVec F S50000x96x3 .f32 := broadcastInDim S50000x96x3 ![] bcast_S_S50000x96x3 main_cst_5
  let main_v34 : IVec S50000x96x3 1 := cmpf .olt main_v30 main_v33
  let main_v35 : IVec S50000x96x3 1 := andi main_v32 main_v34
  let main_c : IVec S_ 1 := constantI S_ 1 1#1
  let main_v36 : IVec S_ 1 := (fun x v => Host.reduce IntOp.andi x v reducesTo_S50000x96x3_S_d0_1_2 h_S_) main_v35 main_c
  main_v36

def fn {F : FTy → Type} [FloatOps F] (main_arg0 : FVec F S3 .f32) (main_arg1 : FVec F S3 .f32) (main_arg2 : FVec F S50000x6 .f32) (main_arg3 : FVec F S1000x1x50 .f32) : IVec S_ 1 :=
  let main_cst : FVec F S3 .f32 := constant S3 .f32 0x43400000#32
  let main_v0 : FVec F S6x50000 .f32 := (transpose S6x50000 [1, 0] · transposes_S50000x6_S6x50000_1_0) main_arg2
  let main_v1 : FVec F S3x50000 .f32 := (extractStridedSlice S3x50000 ![0, 0] · slices_S6x50000_S3x50000_0_0) main_v0
  let main_v2 : FVec F S50000x3 .f32 := (transpose S50000x3 [1, 0] · transposes_S3x50000_S50000x3_1_0) main_v1
  let main_v3 : FVec F S3x50000 .f32 := (extractStridedSlice S3x50000 ![3, 0] · slices_S6x50000_S3x50000_3_0) main_v0
  let main_v4 : FVec F S50000x3 .f32 := (transpose S50000x3 [1, 0] · transposes_S3x50000_S50000x3_1_0) main_v3
  let main_v5 : FVec F S96 .f32 := sitofp .f32 (iotaInDim S96 32 0)
  let main_cst_0 : FVec F S_ .f32 := constant S_ .f32 0x3F000000#32
  let main_v6 : FVec F S96 .f32 := broadcastInDim S96 ![] bcast_S_S96 main_cst_0
  let main_v7 : FVec F S96 .f32 := addf main_v5 main_v6
  let main_cst_1 : FVec F S_ .f32 := constant S_ .f32 0x42C00000#32
  let main_v8 : FVec F S96 .f32 := broadcastInDim S96 ![] bcast_S_S96 main_cst_1
  let main_v9 : FVec F S96 .f32 := Host.divf main_v7 main_v8
  let main_v10 : FVec F S50000x1x3 .f32 := broadcastInDim S50000x1x3 ![0, 2] bcast_S50000x3_S50000x1x3_0_2 main_v2
  let main_v11 : FVec F S1x96x1 .f32 := broadcastInDim S1x96x1 ![1] bcast_S96_S1x96x1_1 main_v9
  let main_v12 : FVec F S50000x3 .f32 := subf main_v4 main_v2
  let main_v13 : FVec F S50000x1x3 .f32 := broadcastInDim S50000x1x3 ![0, 2] bcast_S50000x3_S50000x1x3_0_2 main_v12
  let main_v14 : FVec F S50000x96x3 .f32 := broadcastInDim S50000x96x3 ![0, 1, 2] bcast_S1x96x1_S50000x96x3_0_1_2 main_v11
  let main_v15 : FVec F S50000x96x3 .f32 := broadcastInDim S50000x96x3 ![0, 1, 2] bcast_S50000x1x3_S50000x96x3_0_1_2 main_v13
  let main_v16 : FVec F S50000x96x3 .f32 := mulf main_v14 main_v15
  let main_v17 : FVec F S50000x96x3 .f32 := broadcastInDim S50000x96x3 ![0, 1, 2] bcast_S50000x1x3_S50000x96x3_0_1_2 main_v10
  let main_v18 : FVec F S50000x96x3 .f32 := addf main_v17 main_v16
  let main_v19 : FVec F S3 .f32 := Host.divf main_arg1 main_cst
  let main_cst_2 : FVec F S_ .f32 := constant S_ .f32 0x3F000000#32
  fn_part1 (F := F) main_arg0 main_arg1 main_v18 main_v19 main_cst_2
-- ==== Kernel.lean ====
abbrev S192x192x192 : Shape := ⟨3, ![192, 192, 192]⟩
abbrev S3 : Shape := ⟨1, ![3]⟩
abbrev S50000x6 : Shape := ⟨2, ![50000, 6]⟩
abbrev S50000x3 : Shape := ⟨2, ![50000, 3]⟩
abbrev S96 : Shape := ⟨1, ![96]⟩
abbrev S_ : Shape := ⟨0, ![]⟩
abbrev S50000x1x3 : Shape := ⟨3, ![50000, 1, 3]⟩
abbrev S1x96x1 : Shape := ⟨3, ![1, 96, 1]⟩
abbrev S50000x96x3 : Shape := ⟨3, ![50000, 96, 3]⟩
abbrev S1x1x3 : Shape := ⟨3, ![1, 1, 3]⟩
abbrev S50000 : Shape := ⟨1, ![50000]⟩
abbrev S50000x96x1 : Shape := ⟨3, ![50000, 96, 1]⟩
abbrev S50000x96 : Shape := ⟨2, ![50000, 96]⟩
abbrev S1000x4800 : Shape := ⟨2, ![1000, 4800]⟩
abbrev S1000x1x4800 : Shape := ⟨3, ![1000, 1, 4800]⟩
abbrev S1000x3x4800 : Shape := ⟨3, ![1000, 3, 4800]⟩
abbrev S1000x4x4800 : Shape := ⟨3, ![1000, 4, 4800]⟩
abbrev S192x194x256 : Shape := ⟨3, ![192, 194, 256]⟩
abbrev S37248x1x256 : Shape := ⟨3, ![37248, 1, 256]⟩
abbrev S37250x1x256 : Shape := ⟨3, ![37250, 1, 256]⟩
abbrev S1000x1x50 : Shape := ⟨3, ![1000, 1, 50]⟩
abbrev S1x3x4800 : Shape := ⟨3, ![1, 3, 4800]⟩
abbrev S1x4x4800 : Shape := ⟨3, ![1, 4, 4800]⟩
abbrev S1x1x50 : Shape := ⟨3, ![1, 1, 50]⟩
abbrev S3x4800 : Shape := ⟨2, ![3, 4800]⟩
abbrev S4x4800 : Shape := ⟨2, ![4, 4800]⟩
abbrev S1 : Shape := ⟨1, ![1]⟩
abbrev S1x256 : Shape := ⟨2, ![1, 256]⟩
abbrev S1x50 : Shape := ⟨2, ![1, 50]⟩
abbrev S1x1 : Shape := ⟨2, ![1, 1]⟩
abbrev S1x1x256 : Shape := ⟨3, ![1, 1, 256]⟩

abbrev nBuf : Space → Nat
  | .hbm => 155
  | .vmem => 7
  | .smem => 2
  | _ => 0

abbrev hbmTy0_0 (i : Nat) : BufTy := match i % 128 with
  | 0 => ⟨S192x192x192, .f32⟩
  | 1 => ⟨S3, .f32⟩
  | 2 => ⟨S3, .f32⟩
  | 3 => ⟨S50000x6, .f32⟩
  | 4 => ⟨S50000x3, .f32⟩
  | 5 => ⟨S50000x3, .f32⟩
  | 6 => ⟨S96, .f32⟩
  | 7 => ⟨S_, .f32⟩
  | 8 => ⟨S96, .f32⟩
  | 9 => ⟨S96, .f32⟩
  | 10 => ⟨S_, .f32⟩
  | 11 => ⟨S96, .f32⟩
  | 12 => ⟨S96, .f32⟩
  | 13 => ⟨S50000x1x3, .f32⟩
  | 14 => ⟨S1x96x1, .f32⟩
  | 15 => ⟨S50000x3, .f32⟩
  | 16 => ⟨S50000x1x3, .f32⟩
  | 17 => ⟨S50000x96x3, .f32⟩
  | 18 => ⟨S50000x96x3, .f32⟩
  | 19 => ⟨S50000x96x3, .f32⟩
  | 20 => ⟨S50000x96x3, .f32⟩
  | 21 => ⟨S50000x96x3, .f32⟩
  | 22 => ⟨S_, .f32⟩
  | 23 => ⟨S3, .f32⟩
  | 24 => ⟨S3, .f32⟩
  | 25 => ⟨S_, .f32⟩
  | 26 => ⟨S3, .f32⟩
  | 27 => ⟨S3, .f32⟩
  | 28 => ⟨S3, .f32⟩
  | 29 => ⟨S1x1x3, .f32⟩
  | 30 => ⟨S50000x96x3, .f32⟩
  | 31 => ⟨S50000x96x3, .f32⟩
  | 32 => ⟨S1x1x3, .f32⟩
  | 33 => ⟨S50000x96x3, .f32⟩
  | 34 => ⟨S50000x96x3, .f32⟩
  | 35 => ⟨S_, .f32⟩
  | 36 => ⟨S50000x96x3, .f32⟩
  | 37 => ⟨S50000x96x3, .f32⟩
  | 38 => ⟨S50000x3, .f32⟩
  | 39 => ⟨S50000x3, .f32⟩
  | 40 => ⟨S_, .f32⟩
  | 41 => ⟨S50000, .f32⟩
  | 42 => ⟨S50000, .f32⟩
  | 43 => ⟨S_, .f32⟩
  | 44 => ⟨S50000, .f32⟩
  | 45 => ⟨S50000, .f32⟩
  | 46 => ⟨S50000x96x1, .f32⟩
  | 47 => ⟨S50000x96, .f32⟩
  | 48 => ⟨S50000x96x1, .f32⟩
  | 49 => ⟨S50000x96, .f32⟩
  | 50 => ⟨S50000x96x1, .f32⟩
  | 51 => ⟨S50000x96, .f32⟩
  | 52 => ⟨S50000x96, .f32⟩
  | 53 => ⟨S50000x96, .f32⟩
  | 54 => ⟨S50000x96, .f32⟩
  | 55 => ⟨S50000x96, .f32⟩
  | 56 => ⟨S50000x96, .f32⟩
  | 57 => ⟨S50000x96, .f32⟩
  | 58 => ⟨S50000x96, .i32⟩
  | 59 => ⟨S_, .i32⟩
  | 60 => ⟨S_, .i32⟩
  | 61 => ⟨S_, .i32⟩
  | 62 => ⟨S50000x96, .i32⟩
  | 63 => ⟨S50000x96, .i32⟩
  | 64 => ⟨S_, .i32⟩
  | 65 => ⟨S50000x96, .i32⟩
  | 66 => ⟨S50000x96, .i32⟩
  | 67 => ⟨S50000x96, .i32⟩
  | 68 => ⟨S_, .i32⟩
  | 69 => ⟨S_, .i32⟩
  | 70 => ⟨S_, .i32⟩
  | 71 => ⟨S50000x96, .i32⟩
  | 72 => ⟨S50000x96, .i32⟩
  | 73 => ⟨S_, .i32⟩
  | 74 => ⟨S50000x96, .i32⟩
  | 75 => ⟨S50000x96, .i32⟩
  | 76 => ⟨S50000x96, .i32⟩
  | 77 => ⟨S_, .i32⟩
  | 78 => ⟨S_, .i32⟩
  | 79 => ⟨S_, .i32⟩
  | 80 => ⟨S50000x96, .i32⟩
  | 81 => ⟨S50000x96, .i32⟩
  | 82 => ⟨S_, .i32⟩
  | 83 => ⟨S50000x96, .i32⟩
  | 84 => ⟨S50000x96, .i32⟩
  | 85 => ⟨S_, .i32⟩
  | 86 => ⟨S50000x96, .i32⟩
  | 87 => ⟨S50000x96, .i1⟩
  | 88 => ⟨S_, .i32⟩
  | 89 => ⟨S50000x96, .i32⟩
  | 90 => ⟨S50000x96, .i1⟩
  | 91 => ⟨S50000x96, .i1⟩
  | 92 => ⟨S_, .i32⟩
  | 93 => ⟨S50000x96, .i32⟩
  | 94 => ⟨S50000x96, .i32⟩
  | 95 => ⟨S_, .i32⟩
  | 96 => ⟨S50000x96, .i32⟩
  | 97 => ⟨S50000x96, .i1⟩
  | 98 => ⟨S_, .f32⟩
  | 99 => ⟨S50000x96, .f32⟩
  | 100 => ⟨S50000x96, .f32⟩
  | 101 => ⟨S_, .f32⟩
  | 102 => ⟨S_, .f32⟩
  | 103 => ⟨S50000x96, .f32⟩
  | 104 => ⟨S50000x96, .f32⟩
  | 105 => ⟨S_, .f32⟩
  | 106 => ⟨S_, .f32⟩
  | 107 => ⟨S50000x96, .f32⟩
  | 108 => ⟨S50000x96, .f32⟩
  | 109 => ⟨S_, .i32⟩
  | 110 => ⟨S50000x96, .i32⟩
  | 111 => ⟨S50000x96, .i32⟩
  | 112 => ⟨S_, .i32⟩
  | 113 => ⟨S50000x96, .i32⟩
  | 114 => ⟨S50000x96, .i32⟩
  | 115 => ⟨S50000x96, .i32⟩
  | 116 => ⟨S_, .i32⟩
  | 117 => ⟨S_, .i32⟩
  | 118 => ⟨S50000x96, .i32⟩
  | 119 => ⟨S50000x96, .i32⟩
  | 120 => ⟨S_, .i32⟩
  | 121 => ⟨S50000x96, .i32⟩
  | 122 => ⟨S50000x96, .i32⟩
  | 123 => ⟨S_, .i32⟩
  | 124 => ⟨S50000x96, .i32⟩
  | 125 => ⟨S50000x96, .i32⟩
  | 126 => ⟨S50000x96, .i32⟩
  | 127 => ⟨S_, .i32⟩
  | _ => ⟨S192x192x192, .f32⟩

abbrev hbmTy0_1 (i : Nat) : BufTy := match i % 128 with
  | 0 => ⟨S_, .i32⟩
  | 1 => ⟨S50000x96, .i32⟩
  | 2 => ⟨S50000x96, .i32⟩
  | 3 => ⟨S1000x4800, .i32⟩
  | 4 => ⟨S1000x4800, .i32⟩
  | 5 => ⟨S1000x4800, .i32⟩
  | 6 => ⟨S1000x1x4800, .i32⟩
  | 7 => ⟨S1000x1x4800, .i32⟩
  | 8 => ⟨S1000x1x4800, .i32⟩
  | 9 => ⟨S1000x3x4800, .i32⟩
  | 10 => ⟨S1000x4800, .f32⟩
  | 11 => ⟨S1000x4800, .f32⟩
  | 12 => ⟨S1000x4800, .f32⟩
  | 13 => ⟨S1000x4800, .f32⟩
  | 14 => ⟨S1000x1x4800, .f32⟩
  | 15 => ⟨S1000x1x4800, .f32⟩
  | 16 => ⟨S1000x1x4800, .f32⟩
  | 17 => ⟨S1000x1x4800, .f32⟩
  | 18 => ⟨S1000x4x4800, .f32⟩
  | 19 => ⟨S_, .i32⟩
  | 20 => ⟨S_, .f32⟩
  | 21 => ⟨S192x194x256, .f32⟩
  | 22 => ⟨S37248x1x256, .f32⟩
  | 23 => ⟨S_, .i32⟩
  | 24 => ⟨S_, .f32⟩
  | 25 => ⟨S37250x1x256, .f32⟩
  | 26 => ⟨S1000x1x50, .f32⟩
  | _ => ⟨S192x192x192, .f32⟩

abbrev hbmTy (i : Nat) : BufTy := match i / 128 with
  | 0 => hbmTy0_0 i
  | 1 => hbmTy0_1 i
  | _ => ⟨S192x192x192, .f32⟩

abbrev bufTy : (tb : Table) → Fin (tcTables nBuf tb) → BufTy
  | .hbm, ⟨i, _⟩ => hbmTy i
  | .local _ .vmem, ⟨0, _⟩ => ⟨S1x3x4800, .i32⟩
  | .local _ .vmem, ⟨1, _⟩ => ⟨S1x3x4800, .i32⟩
  | .local _ .vmem, ⟨2, _⟩ => ⟨S1x4x4800, .f32⟩
  | .local _ .vmem, ⟨3, _⟩ => ⟨S1x4x4800, .f32⟩
  | .local _ .vmem, ⟨4, _⟩ => ⟨S1x1x50, .f32⟩
  | .local _ .vmem, ⟨5, _⟩ => ⟨S1x1x50, .f32⟩
  | .local _ .vmem, ⟨6, _⟩ => ⟨S37250x1x256, .f32⟩
  | .local _ .smem, ⟨0, _⟩ => ⟨S3x4800, .i32⟩
  | .local _ .smem, ⟨1, _⟩ => ⟨S4x4800, .f32⟩
  | _, _ => ⟨S192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c : Ref sig .tc := ⟨.hbm, 59, rfl⟩
abbrev main_c_5 : Ref sig .tc := ⟨.hbm, 60, rfl⟩
abbrev main_call1_v0 : Ref sig .tc := ⟨.hbm, 61, rfl⟩
abbrev main_call1_v1 : Ref sig .tc := ⟨.hbm, 62, rfl⟩
abbrev main_call1_v2 : Ref sig .tc := ⟨.hbm, 63, rfl⟩
abbrev main_call1_v3 : Ref sig .tc := ⟨.hbm, 64, rfl⟩
abbrev main_call1_v4 : Ref sig .tc := ⟨.hbm, 65, rfl⟩
abbrev main_v46 : Ref sig .tc := ⟨.hbm, 66, rfl⟩
abbrev main_v47 : Ref sig .tc := ⟨.hbm, 67, rfl⟩
abbrev main_c_6 : Ref sig .tc := ⟨.hbm, 68, rfl⟩
abbrev main_c_7 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v48 : Ref sig .tc := ⟨.hbm, 75, rfl⟩
abbrev main_v49 : Ref sig .tc := ⟨.hbm, 76, rfl⟩
abbrev main_c_8 : Ref sig .tc := ⟨.hbm, 77, rfl⟩
abbrev main_c_9 : Ref sig .tc := ⟨.hbm, 78, rfl⟩
abbrev main_call3_v0 : Ref sig .tc := ⟨.hbm, 79, rfl⟩
abbrev main_call3_v1 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_v50 : Ref sig .tc := ⟨.hbm, 84, rfl⟩
abbrev main_c_10 : Ref sig .tc := ⟨.hbm, 85, rfl⟩
abbrev main_v51 : Ref sig .tc := ⟨.hbm, 86, rfl⟩
abbrev main_v52 : Ref sig .tc := ⟨.hbm, 87, rfl⟩
abbrev main_c_11 : Ref sig .tc := ⟨.hbm, 88, rfl⟩
abbrev main_v53 : Ref sig .tc := ⟨.hbm, 89, rfl⟩
abbrev main_v54 : Ref sig .tc := ⟨.hbm, 90, rfl⟩
abbrev main_v55 : Ref sig .tc := ⟨.hbm, 91, rfl⟩
abbrev main_c_12 : Ref sig .tc := ⟨.hbm, 92, rfl⟩
abbrev main_v56 : Ref sig .tc := ⟨.hbm, 93, rfl⟩
abbrev main_v57 : Ref sig .tc := ⟨.hbm, 94, rfl⟩
abbrev main_c_13 : Ref sig .tc := ⟨.hbm, 95, rfl⟩
abbrev main_v58 : Ref sig .tc := ⟨.hbm, 96, rfl⟩
abbrev main_v59 : Ref sig .tc := ⟨.hbm, 97, rfl⟩
abbrev main_cst_14 : Ref sig .tc := ⟨.hbm, 98, rfl⟩
abbrev main_v60 : Ref sig .tc := ⟨.hbm, 99, rfl⟩
abbrev main_v61 : Ref sig .tc := ⟨.hbm, 100, rfl⟩
abbrev main_cst_15 : Ref sig .tc := ⟨.hbm, 101, rfl⟩
abbrev main_call4_v0 : Ref sig .tc := ⟨.hbm, 102, rfl⟩
abbrev main_call4_v1 : Ref sig .tc := ⟨.hbm, 103, rfl⟩
abbrev main_v62 : Ref sig .tc := ⟨.hbm, 104, rfl⟩
abbrev main_cst_16 : Ref sig .tc := ⟨.hbm, 105, rfl⟩
abbrev main_call5_v0 : Ref sig .tc := ⟨.hbm, 106, rfl⟩
abbrev main_call5_v1 : Ref sig .tc := ⟨.hbm, 107, rfl⟩
abbrev main_v63 : Ref sig .tc := ⟨.hbm, 108, rfl⟩
abbrev main_c_17 : Ref sig .tc := ⟨.hbm, 109, rfl⟩
abbrev main_v64 : Ref sig .tc := ⟨.hbm, 110, rfl⟩
abbrev main_v65 : Ref sig .tc := ⟨.hbm, 111, rfl⟩
abbrev main_c_18 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_c_19 : Ref sig .tc := ⟨.hbm, 116, rfl⟩
abbrev main_call6_v0 : Ref sig .tc := ⟨.hbm, 117, rfl⟩
abbrev main_call6_v1 : Ref sig .tc := ⟨.hbm, 118, rfl⟩
abbrev main_v69 : Ref sig .tc := ⟨.hbm, 119, rfl⟩
abbrev main_c_20 : Ref sig .tc := ⟨.hbm, 120, rfl⟩
abbrev main_v70 : Ref sig .tc := ⟨.hbm, 121, rfl⟩
abbrev main_v71 : Ref sig .tc := ⟨.hbm, 122, rfl⟩
abbrev main_c_21 : Ref sig .tc := ⟨.hbm, 123, rfl⟩
abbrev main_v72 : Ref sig .tc := ⟨.hbm, 124, rfl⟩
abbrev main_v73 : Ref sig .tc := ⟨.hbm, 125, rfl⟩
abbrev main_v74 : Ref sig .tc := ⟨.hbm, 126, rfl⟩
abbrev main_c_22 : Ref sig .tc := ⟨.hbm, 127, rfl⟩
abbrev main_call7_v0 : Ref sig .tc := ⟨.hbm, 128, rfl⟩
abbrev main_call7_v1 : Ref sig .tc := ⟨.hbm, 129, rfl⟩
abbrev main_v75 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_v80 : Ref sig .tc := ⟨.hbm, 135, rfl⟩
abbrev main_v81 : Ref sig .tc := ⟨.hbm, 136, rfl⟩
abbrev main_v82 : Ref sig .tc := ⟨.hbm, 137, rfl⟩
abbrev main_v83 : Ref sig .tc := ⟨.hbm, 138, rfl⟩
abbrev main_v84 : Ref sig .tc := ⟨.hbm, 139, rfl⟩
abbrev main_v85 : Ref sig .tc := ⟨.hbm, 140, rfl⟩
abbrev main_v86 : Ref sig .tc := ⟨.hbm, 141, rfl⟩
abbrev main_v87 : Ref sig .tc := ⟨.hbm, 142, rfl⟩
abbrev main_v88 : Ref sig .tc := ⟨.hbm, 143, rfl⟩
abbrev main_v89 : Ref sig .tc := ⟨.hbm, 144, rfl⟩
abbrev main_v90 : Ref sig .tc := ⟨.hbm, 145, rfl⟩
abbrev main_v91 : Ref sig .tc := ⟨.hbm, 146, rfl⟩
abbrev main_c_23 : Ref sig .tc := ⟨.hbm, 147, rfl⟩
abbrev main_call8_v0 : Ref sig .tc := ⟨.hbm, 148, rfl⟩
abbrev main_v92 : Ref sig .tc := ⟨.hbm, 149, rfl⟩
abbrev main_v93 : Ref sig .tc := ⟨.hbm, 150, rfl⟩
abbrev main_c_24 : Ref sig .tc := ⟨.hbm, 151, rfl⟩
abbrev main_call9_v0 : Ref sig .tc := ⟨.hbm, 152, rfl⟩
abbrev main_v94 : Ref sig .tc := ⟨.hbm, 153, rfl⟩
abbrev main_v95 : Ref sig .tc := ⟨.hbm, 154, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.smem, 0, rfl⟩
abbrev cc0_scratch2 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 500], ![false, false]⟩

@[reducible] def k0_t1_loop : Scf.Loop 32 :=
  let c0_i32_16 : BitVec 32 := 0#32
  let c50_i32 : BitVec 32 := 50#32
  let v23 : BitVec 32 := Scalar.addi c0_i32_16 c50_i32
  let c1_i32_17 : BitVec 32 := 1#32
  ⟨c0_i32_16, v23, c1_i32_17⟩
@[reducible] def k0_t2_loop : Scf.Loop 32 :=
  let c0_i32_21 : BitVec 32 := 0#32
  let c12_i32 : BitVec 32 := 12#32
  let v28 : BitVec 32 := Scalar.addi c0_i32_21 c12_i32
  let c1_i32_22 : BitVec 32 := 1#32
  ⟨c0_i32_21, v28, c1_i32_22⟩
def k0_off1 (k0_t1 : Fin k0_t1_loop.trips) (k0_t2 : Fin k0_t2_loop.trips) : Fin 2 → Nat :=
  let c0_27 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c0_i32_26 : BitVec 32 := 0#32
  let v42 : BitVec 32 := Scalar.addi v41 c0_i32_26
  let v43 : Index := Scalar.indexCast v42
  ![0, v43.toNat]
def k0_off2 (k0_t1 : Fin k0_t1_loop.trips) (k0_t2 : Fin k0_t2_loop.trips) : Fin 2 → Nat :=
  let c1 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c0_i32_26 : BitVec 32 := 0#32
  let v42 : BitVec 32 := Scalar.addi v41 c0_i32_26
  let v45 : Index := Scalar.indexCast v42
  ![1, v45.toNat]
def k0_off3 (k0_t1 : Fin k0_t1_loop.trips) (k0_t2 : Fin k0_t2_loop.trips) : Fin 2 → Nat :=
  let c2 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c0_i32_26 : BitVec 32 := 0#32
  let v42 : BitVec 32 := Scalar.addi v41 c0_i32_26
  let v47 : Index := Scalar.indexCast v42
  ![2, v47.toNat]
def k0_off4 (k0_t1 : Fin k0_t1_loop.trips) (k0_t2 : Fin k0_t2_loop.trips) : Fin 2 → Nat :=
  let c0_28 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c0_i32_26 : BitVec 32 := 0#32
  let v42 : BitVec 32 := Scalar.addi v41 c0_i32_26
  let v49 : Index := Scalar.indexCast v42
  ![0, v49.toNat]
def k0_off5 (k0_t1 : Fin k0_t1_loop.trips) (k0_t2 : Fin k0_t2_loop.trips) : Fin 2 → Nat :=
  let c1_29 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c0_i32_26 : BitVec 32 := 0#32
  let v42 : BitVec 32 := Scalar.addi v41 c0_i32_26
  let v51 : Index := Scalar.indexCast v42
  ![1, v51.toNat]
def k0_off6 (k0_t1 : Fin k0_t1_loop.trips) (k0_t2 : Fin k0_t2_loop.trips) : Fin 2 → Nat :=
  let c2_30 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c0_i32_26 : BitVec 32 := 0#32
  let v42 : BitVec 32 := Scalar.addi v41 c0_i32_26
  let v53 : Index := Scalar.indexCast v42
  ![2, v53.toNat]
def k0_off7 (k0_t1 : Fin k0_t1_loop.trips) (k0_t2 : Fin k0_t2_loop.trips) : Fin 2 → Nat :=
  let c3 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c0_i32_26 : BitVec 32 := 0#32
  let v42 : BitVec 32 := Scalar.addi v41 c0_i32_26
  let v55 : Index := Scalar.indexCast v42
  ![3, v55.toNat]
def k0_off8 (v44 : BitVec 32) : Fin 3 → Nat :=
  let v57 : Index := Scalar.indexCast v44
  let c0_31 : Index := 0#32
  let c0_32 : Index := 0#32
  ![v57.toNat, 0, 0]

def k0_off9 (v44 : BitVec 32) : Fin 3 → Nat :=
  let c1_i32_33 : BitVec 32 := 1#32
  let v60 : BitVec 32 := Scalar.addi v44 c1_i32_33
  let v61 : Index := Scalar.indexCast v60
  let c0_34 : Index := 0#32
  let c0_35 : Index := 0#32
  ![v61.toNat, 0, 0]

def k0_chk1 (v44 : BitVec 32) : Prop :=
  (∀ a, (k0_off8 v44) a + S1x1x256.size a ≤ S37250x1x256.size a) ∧
  (∀ a, (k0_off9 v44) a + S1x1x256.size a ≤ S37250x1x256.size a)
theorem k0_off8_inb : ∀ (v44 : BitVec 32) (k0_hw1 : k0_chk1 v44), ∀ a, (k0_off8 v44) a + S1x1x256.size a ≤ S37250x1x256.size a := fun v44 k0_hw1 => k0_hw1.1
theorem k0_off9_inb : ∀ (v44 : BitVec 32) (k0_hw1 : k0_chk1 v44), ∀ a, (k0_off9 v44) a + S1x1x256.size a ≤ S37250x1x256.size a := fun v44 k0_hw1 => k0_hw1.2

def k0_off10 (v46 : BitVec 32) : Fin 3 → Nat :=
  let v64 : Index := Scalar.indexCast v46
  let c0_36 : Index := 0#32
  let c0_37 : Index := 0#32
  ![v64.toNat, 0, 0]

def k0_off11 (v46 : BitVec 32) : Fin 3 → Nat :=
  let c1_i32_38 : BitVec 32 := 1#32
  let v67 : BitVec 32 := Scalar.addi v46 c1_i32_38
  let v68 : Index := Scalar.indexCast v67
  let c0_39 : Index := 0#32
  let c0_40 : Index := 0#32
  ![v68.toNat, 0, 0]

def k0_chk2 (v46 : BitVec 32) : Prop :=
  (∀ a, (k0_off10 v46) a + S1x1x256.size a ≤ S37250x1x256.size a) ∧
  (∀ a, (k0_off11 v46) a + S1x1x256.size a ≤ S37250x1x256.size a)
theorem k0_off10_inb : ∀ (v46 : BitVec 32) (k0_hw2 : k0_chk2 v46), ∀ a, (k0_off10 v46) a + S1x1x256.size a ≤ S37250x1x256.size a := fun v46 k0_hw2 => k0_hw2.1
theorem k0_off11_inb : ∀ (v46 : BitVec 32) (k0_hw2 : k0_chk2 v46), ∀ a, (k0_off11 v46) a + S1x1x256.size a ≤ S37250x1x256.size a := fun v46 k0_hw2 => k0_hw2.2

def k0_off12 (k0_t1 : Fin k0_t1_loop.trips) (k0_t2 : Fin k0_t2_loop.trips) : Fin 2 → Nat :=
  let c0_47 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c1_i32_46 : BitVec 32 := 1#32
  let v102 : BitVec 32 := Scalar.addi v41 c1_i32_46
  let v103 : Index := Scalar.indexCast v102
  ![0, v103.toNat]
def k0_off13 (k0_t1 : Fin k0_t1_loop.trips) (k0_t2 : Fin k0_t2_loop.trips) : Fin 2 → Nat :=
  let c1_48 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c1_i32_46 : BitVec 32 := 1#32
  let v102 : BitVec 32 := Scalar.addi v41 c1_i32_46
  let v105 : Index := Scalar.indexCast v102
  ![1, v105.toNat]
def k0_off14 (k0_t1 : Fin k0_t1_loop.trips) (k0_t2 : Fin k0_t2_loop.trips) : Fin 2 → Nat :=
  let c2_49 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c1_i32_46 : BitVec 32 := 1#32
  let v102 : BitVec 32 := Scalar.addi v41 c1_i32_46
  let v107 : Index := Scalar.indexCast v102
  ![2, v107.toNat]
def k0_off15 (k0_t1 : Fin k0_t1_loop.trips) (k0_t2 : Fin k0_t2_loop.trips) : Fin 2 → Nat :=
  let c0_50 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c1_i32_46 : BitVec 32 := 1#32
  let v102 : BitVec 32 := Scalar.addi v41 c1_i32_46
  let v109 : Index := Scalar.indexCast v102
  ![0, v109.toNat]
def k0_off16 (k0_t1 : Fin k0_t1_loop.trips) (k0_t2 : Fin k0_t2_loop.trips) : Fin 2 → Nat :=
  let c1_51 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c1_i32_46 : BitVec 32 := 1#32
  let v102 : BitVec 32 := Scalar.addi v41 c1_i32_46
  let v111 : Index := Scalar.indexCast v102
  ![1, v111.toNat]
def k0_off17 (k0_t1 : Fin k0_t1_loop.trips) (k0_t2 : Fin k0_t2_loop.trips) : Fin 2 → Nat :=
  let c2_52 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c1_i32_46 : BitVec 32 := 1#32
  let v102 : BitVec 32 := Scalar.addi v41 c1_i32_46
  let v113 : Index := Scalar.indexCast v102
  ![2, v113.toNat]
def k0_off18 (k0_t1 : Fin k0_t1_loop.trips) (k0_t2 : Fin k0_t2_loop.trips) : Fin 2 → Nat :=
  let c3_53 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c1_i32_46 : BitVec 32 := 1#32
  let v102 : BitVec 32 := Scalar.addi v41 c1_i32_46
  let v115 : Index := Scalar.indexCast v102
  ![3, v115.toNat]
def k0_off19 (v104 : BitVec 32) : Fin 3 → Nat :=
  let v117 : Index := Scalar.indexCast v104
  let c0_54 : Index := 0#32
  let c0_55 : Index := 0#32
  ![v117.toNat, 0, 0]

def k0_off20 (v104 : BitVec 32) : Fin 3 → Nat :=
  let c1_i32_56 : BitVec 32 := 1#32
  let v120 : BitVec 32 := Scalar.addi v104 c1_i32_56
  let v121 : Index := Scalar.indexCast v120
  let c0_57 : Index := 0#32
  let c0_58 : Index := 0#32
  ![v121.toNat, 0, 0]

def k0_chk3 (v104 : BitVec 32) : Prop :=
  (∀ a, (k0_off19 v104) a + S1x1x256.size a ≤ S37250x1x256.size a) ∧
  (∀ a, (k0_off20 v104) a + S1x1x256.size a ≤ S37250x1x256.size a)
theorem k0_off19_inb : ∀ (v104 : BitVec 32) (k0_hw3 : k0_chk3 v104), ∀ a, (k0_off19 v104) a + S1x1x256.size a ≤ S37250x1x256.size a := fun v104 k0_hw3 => k0_hw3.1
theorem k0_off20_inb : ∀ (v104 : BitVec 32) (k0_hw3 : k0_chk3 v104), ∀ a, (k0_off20 v104) a + S1x1x256.size a ≤ S37250x1x256.size a := fun v104 k0_hw3 => k0_hw3.2

def k0_off21 (v106 : BitVec 32) : Fin 3 → Nat :=
  let v124 : Index := Scalar.indexCast v106
  let c0_59 : Index := 0#32
  let c0_60 : Index := 0#32
  ![v124.toNat, 0, 0]

def k0_off22 (v106 : BitVec 32) : Fin 3 → Nat :=
  let c1_i32_61 : BitVec 32 := 1#32
  let v127 : BitVec 32 := Scalar.addi v106 c1_i32_61
  let v128 : Index := Scalar.indexCast v127
  let c0_62 : Index := 0#32
  let c0_63 : Index := 0#32
  ![v128.toNat, 0, 0]

def k0_chk4 (v106 : BitVec 32) : Prop :=
  (∀ a, (k0_off21 v106) a + S1x1x256.size a ≤ S37250x1x256.size a) ∧
  (∀ a, (k0_off22 v106) a + S1x1x256.size a ≤ S37250x1x256.size a)
theorem k0_off21_inb : ∀ (v106 : BitVec 32) (k0_hw4 : k0_chk4 v106), ∀ a, (k0_off21 v106) a + S1x1x256.size a ≤ S37250x1x256.size a := fun v106 k0_hw4 => k0_hw4.1
theorem k0_off22_inb : ∀ (v106 : BitVec 32) (k0_hw4 : k0_chk4 v106), ∀ a, (k0_off22 v106) a + S1x1x256.size a ≤ S37250x1x256.size a := fun v106 k0_hw4 => k0_hw4.2

def k0_off23 (k0_t1 : Fin k0_t1_loop.trips) (k0_t2 : Fin k0_t2_loop.trips) : Fin 2 → Nat :=
  let c0_70 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c2_i32_69 : BitVec 32 := 2#32
  let v162 : BitVec 32 := Scalar.addi v41 c2_i32_69
  let v163 : Index := Scalar.indexCast v162
  ![0, v163.toNat]
def k0_off24 (k0_t1 : Fin k0_t1_loop.trips) (k0_t2 : Fin k0_t2_loop.trips) : Fin 2 → Nat :=
  let c1_71 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c2_i32_69 : BitVec 32 := 2#32
  let v162 : BitVec 32 := Scalar.addi v41 c2_i32_69
  let v165 : Index := Scalar.indexCast v162
  ![1, v165.toNat]
def k0_off25 (k0_t1 : Fin k0_t1_loop.trips) (k0_t2 : Fin k0_t2_loop.trips) : Fin 2 → Nat :=
  let c2_72 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c2_i32_69 : BitVec 32 := 2#32
  let v162 : BitVec 32 := Scalar.addi v41 c2_i32_69
  let v167 : Index := Scalar.indexCast v162
  ![2, v167.toNat]
def k0_off26 (k0_t1 : Fin k0_t1_loop.trips) (k0_t2 : Fin k0_t2_loop.trips) : Fin 2 → Nat :=
  let c0_73 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c2_i32_69 : BitVec 32 := 2#32
  let v162 : BitVec 32 := Scalar.addi v41 c2_i32_69
  let v169 : Index := Scalar.indexCast v162
  ![0, v169.toNat]
def k0_off27 (k0_t1 : Fin k0_t1_loop.trips) (k0_t2 : Fin k0_t2_loop.trips) : Fin 2 → Nat :=
  let c1_74 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c2_i32_69 : BitVec 32 := 2#32
  let v162 : BitVec 32 := Scalar.addi v41 c2_i32_69
  let v171 : Index := Scalar.indexCast v162
  ![1, v171.toNat]
def k0_off28 (k0_t1 : Fin k0_t1_loop.trips) (k0_t2 : Fin k0_t2_loop.trips) : Fin 2 → Nat :=
  let c2_75 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c2_i32_69 : BitVec 32 := 2#32
  let v162 : BitVec 32 := Scalar.addi v41 c2_i32_69
  let v173 : Index := Scalar.indexCast v162
  ![2, v173.toNat]
def k0_off29 (k0_t1 : Fin k0_t1_loop.trips) (k0_t2 : Fin k0_t2_loop.trips) : Fin 2 → Nat :=
  let c3_76 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c2_i32_69 : BitVec 32 := 2#32
  let v162 : BitVec 32 := Scalar.addi v41 c2_i32_69
  let v175 : Index := Scalar.indexCast v162
  ![3, v175.toNat]
def k0_off30 (v164 : BitVec 32) : Fin 3 → Nat :=
  let v177 : Index := Scalar.indexCast v164
  let c0_77 : Index := 0#32
  let c0_78 : Index := 0#32
  ![v177.toNat, 0, 0]

def k0_off31 (v164 : BitVec 32) : Fin 3 → Nat :=
  let c1_i32_79 : BitVec 32 := 1#32
  let v180 : BitVec 32 := Scalar.addi v164 c1_i32_79
  let v181 : Index := Scalar.indexCast v180
  let c0_80 : Index := 0#32
  let c0_81 : Index := 0#32
  ![v181.toNat, 0, 0]

def k0_chk5 (v164 : BitVec 32) : Prop :=
  (∀ a, (k0_off30 v164) a + S1x1x256.size a ≤ S37250x1x256.size a) ∧
  (∀ a, (k0_off31 v164) a + S1x1x256.size a ≤ S37250x1x256.size a)
theorem k0_off30_inb : ∀ (v164 : BitVec 32) (k0_hw5 : k0_chk5 v164), ∀ a, (k0_off30 v164) a + S1x1x256.size a ≤ S37250x1x256.size a := fun v164 k0_hw5 => k0_hw5.1
theorem k0_off31_inb : ∀ (v164 : BitVec 32) (k0_hw5 : k0_chk5 v164), ∀ a, (k0_off31 v164) a + S1x1x256.size a ≤ S37250x1x256.size a := fun v164 k0_hw5 => k0_hw5.2

def k0_off32 (v166 : BitVec 32) : Fin 3 → Nat :=
  let v184 : Index := Scalar.indexCast v166
  let c0_82 : Index := 0#32
  let c0_83 : Index := 0#32
  ![v184.toNat, 0, 0]

def k0_off33 (v166 : BitVec 32) : Fin 3 → Nat :=
  let c1_i32_84 : BitVec 32 := 1#32
  let v187 : BitVec 32 := Scalar.addi v166 c1_i32_84
  let v188 : Index := Scalar.indexCast v187
  let c0_85 : Index := 0#32
  let c0_86 : Index := 0#32
  ![v188.toNat, 0, 0]

def k0_chk6 (v166 : BitVec 32) : Prop :=
  (∀ a, (k0_off32 v166) a + S1x1x256.size a ≤ S37250x1x256.size a) ∧
  (∀ a, (k0_off33 v166) a + S1x1x256.size a ≤ S37250x1x256.size a)
theorem k0_off32_inb : ∀ (v166 : BitVec 32) (k0_hw6 : k0_chk6 v166), ∀ a, (k0_off32 v166) a + S1x1x256.size a ≤ S37250x1x256.size a := fun v166 k0_hw6 => k0_hw6.1
theorem k0_off33_inb : ∀ (v166 : BitVec 32) (k0_hw6 : k0_chk6 v166), ∀ a, (k0_off33 v166) a + S1x1x256.size a ≤ S37250x1x256.size a := fun v166 k0_hw6 => k0_hw6.2

def k0_off34 (k0_t1 : Fin k0_t1_loop.trips) (k0_t2 : Fin k0_t2_loop.trips) : Fin 2 → Nat :=
  let c0_92 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c3_i32 : BitVec 32 := 3#32
  let v222 : BitVec 32 := Scalar.addi v41 c3_i32
  let v223 : Index := Scalar.indexCast v222
  ![0, v223.toNat]
def k0_off35 (k0_t1 : Fin k0_t1_loop.trips) (k0_t2 : Fin k0_t2_loop.trips) : Fin 2 → Nat :=
  let c1_93 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c3_i32 : BitVec 32 := 3#32
  let v222 : BitVec 32 := Scalar.addi v41 c3_i32
  let v225 : Index := Scalar.indexCast v222
  ![1, v225.toNat]
def k0_off36 (k0_t1 : Fin k0_t1_loop.trips) (k0_t2 : Fin k0_t2_loop.trips) : Fin 2 → Nat :=
  let c2_94 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c3_i32 : BitVec 32 := 3#32
  let v222 : BitVec 32 := Scalar.addi v41 c3_i32
  let v227 : Index := Scalar.indexCast v222
  ![2, v227.toNat]
def k0_off37 (k0_t1 : Fin k0_t1_loop.trips) (k0_t2 : Fin k0_t2_loop.trips) : Fin 2 → Nat :=
  let c0_95 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c3_i32 : BitVec 32 := 3#32
  let v222 : BitVec 32 := Scalar.addi v41 c3_i32
  let v229 : Index := Scalar.indexCast v222
  ![0, v229.toNat]
def k0_off38 (k0_t1 : Fin k0_t1_loop.trips) (k0_t2 : Fin k0_t2_loop.trips) : Fin 2 → Nat :=
  let c1_96 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c3_i32 : BitVec 32 := 3#32
  let v222 : BitVec 32 := Scalar.addi v41 c3_i32
  let v231 : Index := Scalar.indexCast v222
  ![1, v231.toNat]
def k0_off39 (k0_t1 : Fin k0_t1_loop.trips) (k0_t2 : Fin k0_t2_loop.trips) : Fin 2 → Nat :=
  let c2_97 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c3_i32 : BitVec 32 := 3#32
  let v222 : BitVec 32 := Scalar.addi v41 c3_i32
  let v233 : Index := Scalar.indexCast v222
  ![2, v233.toNat]
def k0_off40 (k0_t1 : Fin k0_t1_loop.trips) (k0_t2 : Fin k0_t2_loop.trips) : Fin 2 → Nat :=
  let c3_98 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c3_i32 : BitVec 32 := 3#32
  let v222 : BitVec 32 := Scalar.addi v41 c3_i32
  let v235 : Index := Scalar.indexCast v222
  ![3, v235.toNat]
def k0_off41 (v224 : BitVec 32) : Fin 3 → Nat :=
  let v237 : Index := Scalar.indexCast v224
  let c0_99 : Index := 0#32
  let c0_100 : Index := 0#32
  ![v237.toNat, 0, 0]

def k0_off42 (v224 : BitVec 32) : Fin 3 → Nat :=
  let c1_i32_101 : BitVec 32 := 1#32
  let v240 : BitVec 32 := Scalar.addi v224 c1_i32_101
  let v241 : Index := Scalar.indexCast v240
  let c0_102 : Index := 0#32
  let c0_103 : Index := 0#32
  ![v241.toNat, 0, 0]

def k0_chk7 (v224 : BitVec 32) : Prop :=
  (∀ a, (k0_off41 v224) a + S1x1x256.size a ≤ S37250x1x256.size a) ∧
  (∀ a, (k0_off42 v224) a + S1x1x256.size a ≤ S37250x1x256.size a)
theorem k0_off41_inb : ∀ (v224 : BitVec 32) (k0_hw7 : k0_chk7 v224), ∀ a, (k0_off41 v224) a + S1x1x256.size a ≤ S37250x1x256.size a := fun v224 k0_hw7 => k0_hw7.1
theorem k0_off42_inb : ∀ (v224 : BitVec 32) (k0_hw7 : k0_chk7 v224), ∀ a, (k0_off42 v224) a + S1x1x256.size a ≤ S37250x1x256.size a := fun v224 k0_hw7 => k0_hw7.2

def k0_off43 (v226 : BitVec 32) : Fin 3 → Nat :=
  let v244 : Index := Scalar.indexCast v226
  let c0_104 : Index := 0#32
  let c0_105 : Index := 0#32
  ![v244.toNat, 0, 0]

def k0_off44 (v226 : BitVec 32) : Fin 3 → Nat :=
  let c1_i32_106 : BitVec 32 := 1#32
  let v247 : BitVec 32 := Scalar.addi v226 c1_i32_106
  let v248 : Index := Scalar.indexCast v247
  let c0_107 : Index := 0#32
  let c0_108 : Index := 0#32
  ![v248.toNat, 0, 0]

def k0_chk8 (v226 : BitVec 32) : Prop :=
  (∀ a, (k0_off43 v226) a + S1x1x256.size a ≤ S37250x1x256.size a) ∧
  (∀ a, (k0_off44 v226) a + S1x1x256.size a ≤ S37250x1x256.size a)
theorem k0_off43_inb : ∀ (v226 : BitVec 32) (k0_hw8 : k0_chk8 v226), ∀ a, (k0_off43 v226) a + S1x1x256.size a ≤ S37250x1x256.size a := fun v226 k0_hw8 => k0_hw8.1
theorem k0_off44_inb : ∀ (v226 : BitVec 32) (k0_hw8 : k0_chk8 v226), ∀ a, (k0_off44 v226) a + S1x1x256.size a ≤ S37250x1x256.size a := fun v226 k0_hw8 => k0_hw8.2

def k0_off45 (k0_t1 : Fin k0_t1_loop.trips) (k0_t2 : Fin k0_t2_loop.trips) : Fin 2 → Nat :=
  let c0_114 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c4_i32 : BitVec 32 := 4#32
  let v282 : BitVec 32 := Scalar.addi v41 c4_i32
  let v283 : Index := Scalar.indexCast v282
  ![0, v283.toNat]
def k0_off46 (k0_t1 : Fin k0_t1_loop.trips) (k0_t2 : Fin k0_t2_loop.trips) : Fin 2 → Nat :=
  let c1_115 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c4_i32 : BitVec 32 := 4#32
  let v282 : BitVec 32 := Scalar.addi v41 c4_i32
  let v285 : Index := Scalar.indexCast v282
  ![1, v285.toNat]
def k0_off47 (k0_t1 : Fin k0_t1_loop.trips) (k0_t2 : Fin k0_t2_loop.trips) : Fin 2 → Nat :=
  let c2_116 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c4_i32 : BitVec 32 := 4#32
  let v282 : BitVec 32 := Scalar.addi v41 c4_i32
  let v287 : Index := Scalar.indexCast v282
  ![2, v287.toNat]
def k0_off48 (k0_t1 : Fin k0_t1_loop.trips) (k0_t2 : Fin k0_t2_loop.trips) : Fin 2 → Nat :=
  let c0_117 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c4_i32 : BitVec 32 := 4#32
  let v282 : BitVec 32 := Scalar.addi v41 c4_i32
  let v289 : Index := Scalar.indexCast v282
  ![0, v289.toNat]
def k0_off49 (k0_t1 : Fin k0_t1_loop.trips) (k0_t2 : Fin k0_t2_loop.trips) : Fin 2 → Nat :=
  let c1_118 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c4_i32 : BitVec 32 := 4#32
  let v282 : BitVec 32 := Scalar.addi v41 c4_i32
  let v291 : Index := Scalar.indexCast v282
  ![1, v291.toNat]
def k0_off50 (k0_t1 : Fin k0_t1_loop.trips) (k0_t2 : Fin k0_t2_loop.trips) : Fin 2 → Nat :=
  let c2_119 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c4_i32 : BitVec 32 := 4#32
  let v282 : BitVec 32 := Scalar.addi v41 c4_i32
  let v293 : Index := Scalar.indexCast v282
  ![2, v293.toNat]
def k0_off51 (k0_t1 : Fin k0_t1_loop.trips) (k0_t2 : Fin k0_t2_loop.trips) : Fin 2 → Nat :=
  let c3_120 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c4_i32 : BitVec 32 := 4#32
  let v282 : BitVec 32 := Scalar.addi v41 c4_i32
  let v295 : Index := Scalar.indexCast v282
  ![3, v295.toNat]
def k0_off52 (v284 : BitVec 32) : Fin 3 → Nat :=
  let v297 : Index := Scalar.indexCast v284
  let c0_121 : Index := 0#32
  let c0_122 : Index := 0#32
  ![v297.toNat, 0, 0]

def k0_off53 (v284 : BitVec 32) : Fin 3 → Nat :=
  let c1_i32_123 : BitVec 32 := 1#32
  let v300 : BitVec 32 := Scalar.addi v284 c1_i32_123
  let v301 : Index := Scalar.indexCast v300
  let c0_124 : Index := 0#32
  let c0_125 : Index := 0#32
  ![v301.toNat, 0, 0]

def k0_chk9 (v284 : BitVec 32) : Prop :=
  (∀ a, (k0_off52 v284) a + S1x1x256.size a ≤ S37250x1x256.size a) ∧
  (∀ a, (k0_off53 v284) a + S1x1x256.size a ≤ S37250x1x256.size a)
theorem k0_off52_inb : ∀ (v284 : BitVec 32) (k0_hw9 : k0_chk9 v284), ∀ a, (k0_off52 v284) a + S1x1x256.size a ≤ S37250x1x256.size a := fun v284 k0_hw9 => k0_hw9.1
theorem k0_off53_inb : ∀ (v284 : BitVec 32) (k0_hw9 : k0_chk9 v284), ∀ a, (k0_off53 v284) a + S1x1x256.size a ≤ S37250x1x256.size a := fun v284 k0_hw9 => k0_hw9.2

def k0_off54 (v286 : BitVec 32) : Fin 3 → Nat :=
  let v304 : Index := Scalar.indexCast v286
  let c0_126 : Index := 0#32
  let c0_127 : Index := 0#32
  ![v304.toNat, 0, 0]

def k0_off55 (v286 : BitVec 32) : Fin 3 → Nat :=
  let c1_i32_128 : BitVec 32 := 1#32
  let v307 : BitVec 32 := Scalar.addi v286 c1_i32_128
  let v308 : Index := Scalar.indexCast v307
  let c0_129 : Index := 0#32
  let c0_130 : Index := 0#32
  ![v308.toNat, 0, 0]

def k0_chk10 (v286 : BitVec 32) : Prop :=
  (∀ a, (k0_off54 v286) a + S1x1x256.size a ≤ S37250x1x256.size a) ∧
  (∀ a, (k0_off55 v286) a + S1x1x256.size a ≤ S37250x1x256.size a)
theorem k0_off54_inb : ∀ (v286 : BitVec 32) (k0_hw10 : k0_chk10 v286), ∀ a, (k0_off54 v286) a + S1x1x256.size a ≤ S37250x1x256.size a := fun v286 k0_hw10 => k0_hw10.1
theorem k0_off55_inb : ∀ (v286 : BitVec 32) (k0_hw10 : k0_chk10 v286), ∀ a, (k0_off55 v286) a + S1x1x256.size a ≤ S37250x1x256.size a := fun v286 k0_hw10 => k0_hw10.2

def k0_off56 (k0_t1 : Fin k0_t1_loop.trips) (k0_t2 : Fin k0_t2_loop.trips) : Fin 2 → Nat :=
  let c0_136 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c5_i32 : BitVec 32 := 5#32
  let v342 : BitVec 32 := Scalar.addi v41 c5_i32
  let v343 : Index := Scalar.indexCast v342
  ![0, v343.toNat]
def k0_off57 (k0_t1 : Fin k0_t1_loop.trips) (k0_t2 : Fin k0_t2_loop.trips) : Fin 2 → Nat :=
  let c1_137 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c5_i32 : BitVec 32 := 5#32
  let v342 : BitVec 32 := Scalar.addi v41 c5_i32
  let v345 : Index := Scalar.indexCast v342
  ![1, v345.toNat]
def k0_off58 (k0_t1 : Fin k0_t1_loop.trips) (k0_t2 : Fin k0_t2_loop.trips) : Fin 2 → Nat :=
  let c2_138 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c5_i32 : BitVec 32 := 5#32
  let v342 : BitVec 32 := Scalar.addi v41 c5_i32
  let v347 : Index := Scalar.indexCast v342
  ![2, v347.toNat]
def k0_off59 (k0_t1 : Fin k0_t1_loop.trips) (k0_t2 : Fin k0_t2_loop.trips) : Fin 2 → Nat :=
  let c0_139 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c5_i32 : BitVec 32 := 5#32
  let v342 : BitVec 32 := Scalar.addi v41 c5_i32
  let v349 : Index := Scalar.indexCast v342
  ![0, v349.toNat]
def k0_off60 (k0_t1 : Fin k0_t1_loop.trips) (k0_t2 : Fin k0_t2_loop.trips) : Fin 2 → Nat :=
  let c1_140 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c5_i32 : BitVec 32 := 5#32
  let v342 : BitVec 32 := Scalar.addi v41 c5_i32
  let v351 : Index := Scalar.indexCast v342
  ![1, v351.toNat]
def k0_off61 (k0_t1 : Fin k0_t1_loop.trips) (k0_t2 : Fin k0_t2_loop.trips) : Fin 2 → Nat :=
  let c2_141 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c5_i32 : BitVec 32 := 5#32
  let v342 : BitVec 32 := Scalar.addi v41 c5_i32
  let v353 : Index := Scalar.indexCast v342
  ![2, v353.toNat]
def k0_off62 (k0_t1 : Fin k0_t1_loop.trips) (k0_t2 : Fin k0_t2_loop.trips) : Fin 2 → Nat :=
  let c3_142 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c5_i32 : BitVec 32 := 5#32
  let v342 : BitVec 32 := Scalar.addi v41 c5_i32
  let v355 : Index := Scalar.indexCast v342
  ![3, v355.toNat]
def k0_off63 (v344 : BitVec 32) : Fin 3 → Nat :=
  let v357 : Index := Scalar.indexCast v344
  let c0_143 : Index := 0#32
  let c0_144 : Index := 0#32
  ![v357.toNat, 0, 0]

def k0_off64 (v344 : BitVec 32) : Fin 3 → Nat :=
  let c1_i32_145 : BitVec 32 := 1#32
  let v360 : BitVec 32 := Scalar.addi v344 c1_i32_145
  let v361 : Index := Scalar.indexCast v360
  let c0_146 : Index := 0#32
  let c0_147 : Index := 0#32
  ![v361.toNat, 0, 0]

def k0_chk11 (v344 : BitVec 32) : Prop :=
  (∀ a, (k0_off63 v344) a + S1x1x256.size a ≤ S37250x1x256.size a) ∧
  (∀ a, (k0_off64 v344) a + S1x1x256.size a ≤ S37250x1x256.size a)
theorem k0_off63_inb : ∀ (v344 : BitVec 32) (k0_hw11 : k0_chk11 v344), ∀ a, (k0_off63 v344) a + S1x1x256.size a ≤ S37250x1x256.size a := fun v344 k0_hw11 => k0_hw11.1
theorem k0_off64_inb : ∀ (v344 : BitVec 32) (k0_hw11 : k0_chk11 v344), ∀ a, (k0_off64 v344) a + S1x1x256.size a ≤ S37250x1x256.size a := fun v344 k0_hw11 => k0_hw11.2

def k0_off65 (v346 : BitVec 32) : Fin 3 → Nat :=
  let v364 : Index := Scalar.indexCast v346
  let c0_148 : Index := 0#32
  let c0_149 : Index := 0#32
  ![v364.toNat, 0, 0]

def k0_off66 (v346 : BitVec 32) : Fin 3 → Nat :=
  let c1_i32_150 : BitVec 32 := 1#32
  let v367 : BitVec 32 := Scalar.addi v346 c1_i32_150
  let v368 : Index := Scalar.indexCast v367
  let c0_151 : Index := 0#32
  let c0_152 : Index := 0#32
  ![v368.toNat, 0, 0]

def k0_chk12 (v346 : BitVec 32) : Prop :=
  (∀ a, (k0_off65 v346) a + S1x1x256.size a ≤ S37250x1x256.size a) ∧
  (∀ a, (k0_off66 v346) a + S1x1x256.size a ≤ S37250x1x256.size a)
theorem k0_off65_inb : ∀ (v346 : BitVec 32) (k0_hw12 : k0_chk12 v346), ∀ a, (k0_off65 v346) a + S1x1x256.size a ≤ S37250x1x256.size a := fun v346 k0_hw12 => k0_hw12.1
theorem k0_off66_inb : ∀ (v346 : BitVec 32) (k0_hw12 : k0_chk12 v346), ∀ a, (k0_off66 v346) a + S1x1x256.size a ≤ S37250x1x256.size a := fun v346 k0_hw12 => k0_hw12.2

def k0_off67 (k0_t1 : Fin k0_t1_loop.trips) (k0_t2 : Fin k0_t2_loop.trips) : Fin 2 → Nat :=
  let c0_158 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c6_i32 : BitVec 32 := 6#32
  let v402 : BitVec 32 := Scalar.addi v41 c6_i32
  let v403 : Index := Scalar.indexCast v402
  ![0, v403.toNat]
def k0_off68 (k0_t1 : Fin k0_t1_loop.trips) (k0_t2 : Fin k0_t2_loop.trips) : Fin 2 → Nat :=
  let c1_159 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c6_i32 : BitVec 32 := 6#32
  let v402 : BitVec 32 := Scalar.addi v41 c6_i32
  let v405 : Index := Scalar.indexCast v402
  ![1, v405.toNat]
def k0_off69 (k0_t1 : Fin k0_t1_loop.trips) (k0_t2 : Fin k0_t2_loop.trips) : Fin 2 → Nat :=
  let c2_160 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c6_i32 : BitVec 32 := 6#32
  let v402 : BitVec 32 := Scalar.addi v41 c6_i32
  let v407 : Index := Scalar.indexCast v402
  ![2, v407.toNat]
def k0_off70 (k0_t1 : Fin k0_t1_loop.trips) (k0_t2 : Fin k0_t2_loop.trips) : Fin 2 → Nat :=
  let c0_161 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c6_i32 : BitVec 32 := 6#32
  let v402 : BitVec 32 := Scalar.addi v41 c6_i32
  let v409 : Index := Scalar.indexCast v402
  ![0, v409.toNat]
def k0_off71 (k0_t1 : Fin k0_t1_loop.trips) (k0_t2 : Fin k0_t2_loop.trips) : Fin 2 → Nat :=
  let c1_162 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c6_i32 : BitVec 32 := 6#32
  let v402 : BitVec 32 := Scalar.addi v41 c6_i32
  let v411 : Index := Scalar.indexCast v402
  ![1, v411.toNat]
def k0_off72 (k0_t1 : Fin k0_t1_loop.trips) (k0_t2 : Fin k0_t2_loop.trips) : Fin 2 → Nat :=
  let c2_163 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c6_i32 : BitVec 32 := 6#32
  let v402 : BitVec 32 := Scalar.addi v41 c6_i32
  let v413 : Index := Scalar.indexCast v402
  ![2, v413.toNat]
def k0_off73 (k0_t1 : Fin k0_t1_loop.trips) (k0_t2 : Fin k0_t2_loop.trips) : Fin 2 → Nat :=
  let c3_164 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c6_i32 : BitVec 32 := 6#32
  let v402 : BitVec 32 := Scalar.addi v41 c6_i32
  let v415 : Index := Scalar.indexCast v402
  ![3, v415.toNat]
def k0_off74 (v404 : BitVec 32) : Fin 3 → Nat :=
  let v417 : Index := Scalar.indexCast v404
  let c0_165 : Index := 0#32
  let c0_166 : Index := 0#32
  ![v417.toNat, 0, 0]

def k0_off75 (v404 : BitVec 32) : Fin 3 → Nat :=
  let c1_i32_167 : BitVec 32 := 1#32
  let v420 : BitVec 32 := Scalar.addi v404 c1_i32_167
  let v421 : Index := Scalar.indexCast v420
  let c0_168 : Index := 0#32
  let c0_169 : Index := 0#32
  ![v421.toNat, 0, 0]

def k0_chk13 (v404 : BitVec 32) : Prop :=
  (∀ a, (k0_off74 v404) a + S1x1x256.size a ≤ S37250x1x256.size a) ∧
  (∀ a, (k0_off75 v404) a + S1x1x256.size a ≤ S37250x1x256.size a)
theorem k0_off74_inb : ∀ (v404 : BitVec 32) (k0_hw13 : k0_chk13 v404), ∀ a, (k0_off74 v404) a + S1x1x256.size a ≤ S37250x1x256.size a := fun v404 k0_hw13 => k0_hw13.1
theorem k0_off75_inb : ∀ (v404 : BitVec 32) (k0_hw13 : k0_chk13 v404), ∀ a, (k0_off75 v404) a + S1x1x256.size a ≤ S37250x1x256.size a := fun v404 k0_hw13 => k0_hw13.2

def k0_off76 (v406 : BitVec 32) : Fin 3 → Nat :=
  let v424 : Index := Scalar.indexCast v406
  let c0_170 : Index := 0#32
  let c0_171 : Index := 0#32
  ![v424.toNat, 0, 0]

def k0_off77 (v406 : BitVec 32) : Fin 3 → Nat :=
  let c1_i32_172 : BitVec 32 := 1#32
  let v427 : BitVec 32 := Scalar.addi v406 c1_i32_172
  let v428 : Index := Scalar.indexCast v427
  let c0_173 : Index := 0#32
  let c0_174 : Index := 0#32
  ![v428.toNat, 0, 0]

def k0_chk14 (v406 : BitVec 32) : Prop :=
  (∀ a, (k0_off76 v406) a + S1x1x256.size a ≤ S37250x1x256.size a) ∧
  (∀ a, (k0_off77 v406) a + S1x1x256.size a ≤ S37250x1x256.size a)
theorem k0_off76_inb : ∀ (v406 : BitVec 32) (k0_hw14 : k0_chk14 v406), ∀ a, (k0_off76 v406) a + S1x1x256.size a ≤ S37250x1x256.size a := fun v406 k0_hw14 => k0_hw14.1
theorem k0_off77_inb : ∀ (v406 : BitVec 32) (k0_hw14 : k0_chk14 v406), ∀ a, (k0_off77 v406) a + S1x1x256.size a ≤ S37250x1x256.size a := fun v406 k0_hw14 => k0_hw14.2

def k0_off78 (k0_t1 : Fin k0_t1_loop.trips) (k0_t2 : Fin k0_t2_loop.trips) : Fin 2 → Nat :=
  let c0_180 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c7_i32 : BitVec 32 := 7#32
  let v462 : BitVec 32 := Scalar.addi v41 c7_i32
  let v463 : Index := Scalar.indexCast v462
  ![0, v463.toNat]
def k0_off79 (k0_t1 : Fin k0_t1_loop.trips) (k0_t2 : Fin k0_t2_loop.trips) : Fin 2 → Nat :=
  let c1_181 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c7_i32 : BitVec 32 := 7#32
  let v462 : BitVec 32 := Scalar.addi v41 c7_i32
  let v465 : Index := Scalar.indexCast v462
  ![1, v465.toNat]
def k0_off80 (k0_t1 : Fin k0_t1_loop.trips) (k0_t2 : Fin k0_t2_loop.trips) : Fin 2 → Nat :=
  let c2_182 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c7_i32 : BitVec 32 := 7#32
  let v462 : BitVec 32 := Scalar.addi v41 c7_i32
  let v467 : Index := Scalar.indexCast v462
  ![2, v467.toNat]
def k0_off81 (k0_t1 : Fin k0_t1_loop.trips) (k0_t2 : Fin k0_t2_loop.trips) : Fin 2 → Nat :=
  let c0_183 : Index := 0#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c7_i32 : BitVec 32 := 7#32
  let v462 : BitVec 32 := Scalar.addi v41 c7_i32
  let v469 : Index := Scalar.indexCast v462
  ![0, v469.toNat]
def k0_off82 (k0_t1 : Fin k0_t1_loop.trips) (k0_t2 : Fin k0_t2_loop.trips) : Fin 2 → Nat :=
  let c1_184 : Index := 1#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c7_i32 : BitVec 32 := 7#32
  let v462 : BitVec 32 := Scalar.addi v41 c7_i32
  let v471 : Index := Scalar.indexCast v462
  ![1, v471.toNat]
def k0_off83 (k0_t1 : Fin k0_t1_loop.trips) (k0_t2 : Fin k0_t2_loop.trips) : Fin 2 → Nat :=
  let c2_185 : Index := 2#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c7_i32 : BitVec 32 := 7#32
  let v462 : BitVec 32 := Scalar.addi v41 c7_i32
  let v473 : Index := Scalar.indexCast v462
  ![2, v473.toNat]
def k0_off84 (k0_t1 : Fin k0_t1_loop.trips) (k0_t2 : Fin k0_t2_loop.trips) : Fin 2 → Nat :=
  let c3_186 : Index := 3#32
  let c0_i32_16 : BitVec 32 := 0#32
  let c1_i32_17 : BitVec 32 := 1#32
  let arg10 : BitVec 32 := Scf.iv c0_i32_16 c1_i32_17 k0_t1
  let c96_i32 : BitVec 32 := 96#32
  let v39 : BitVec 32 := Scalar.muli arg10 c96_i32
  let c0_i32_21 : BitVec 32 := 0#32
  let c1_i32_22 : BitVec 32 := 1#32
  let arg12 : BitVec 32 := Scf.iv c0_i32_21 c1_i32_22 k0_t2
  let c8_i32 : BitVec 32 := 8#32
  let v40 : BitVec 32 := Scalar.muli arg12 c8_i32
  let v41 : BitVec 32 := Scalar.addi v39 v40
  let c7_i32 : BitVec 32 := 7#32
  let v462 : BitVec 32 := Scalar.addi v41 c7_i32
  let v475 : Index := Scalar.indexCast v462
  ![3, v475.toNat]
def k0_off85 (v464 : BitVec 32) : Fin 3 → Nat :=
  let v477 : Index := Scalar.indexCast v464
  let c0_187 : Index := 0#32
  let c0_188 : Index := 0#32
  ![v477.toNat, 0, 0]

def k0_off86 (v464 : BitVec 32) : Fin 3 → Nat :=
  let c1_i32_189 : BitVec 32 := 1#32
  let v480 : BitVec 32 := Scalar.addi v464 c1_i32_189
  let v481 : Index := Scalar.indexCast v480
  let c0_190 : Index := 0#32
  let c0_191 : Index := 0#32
  ![v481.toNat, 0, 0]

def k0_chk15 (v464 : BitVec 32) : Prop :=
  (∀ a, (k0_off85 v464) a + S1x1x256.size a ≤ S37250x1x256.size a) ∧
  (∀ a, (k0_off86 v464) a + S1x1x256.size a ≤ S37250x1x256.size a)
theorem k0_off85_inb : ∀ (v464 : BitVec 32) (k0_hw15 : k0_chk15 v464), ∀ a, (k0_off85 v464) a + S1x1x256.size a ≤ S37250x1x256.size a := fun v464 k0_hw15 => k0_hw15.1
theorem k0_off86_inb : ∀ (v464 : BitVec 32) (k0_hw15 : k0_chk15 v464), ∀ a, (k0_off86 v464) a + S1x1x256.size a ≤ S37250x1x256.size a := fun v464 k0_hw15 => k0_hw15.2

def k0_off87 (v466 : BitVec 32) : Fin 3 → Nat :=
  let v484 : Index := Scalar.indexCast v466
  let c0_192 : Index := 0#32
  let c0_193 : Index := 0#32
  ![v484.toNat, 0, 0]

def k0_off88 (v466 : BitVec 32) : Fin 3 → Nat :=
  let c1_i32_194 : BitVec 32 := 1#32
  let v487 : BitVec 32 := Scalar.addi v466 c1_i32_194
  let v488 : Index := Scalar.indexCast v487
  let c0_195 : Index := 0#32
  let c0_196 : Index := 0#32
  ![v488.toNat, 0, 0]

def k0_chk16 (v466 : BitVec 32) : Prop :=
  (∀ a, (k0_off87 v466) a + S1x1x256.size a ≤ S37250x1x256.size a) ∧
  (∀ a, (k0_off88 v466) a + S1x1x256.size a ≤ S37250x1x256.size a)
theorem k0_off87_inb : ∀ (v466 : BitVec 32) (k0_hw16 : k0_chk16 v466), ∀ a, (k0_off87 v466) a + S1x1x256.size a ≤ S37250x1x256.size a := fun v466 k0_hw16 => k0_hw16.1
theorem k0_off88_inb : ∀ (v466 : BitVec 32) (k0_hw16 : k0_chk16 v466), ∀ a, (k0_off88 v466) a + S1x1x256.size a ≤ S37250x1x256.size a := fun v466 k0_hw16 => k0_hw16.2

def cc0_transform_1 (i : grid0.Coords) : Fin 3 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x3x4800 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S192x192x192 : Shape := ⟨3, ![192, 192, 192]⟩
abbrev S3 : Shape := ⟨1, ![3]⟩
abbrev S50000x6 : Shape := ⟨2, ![50000, 6]⟩
abbrev S6x50000 : Shape := ⟨2, ![6, 50000]⟩
abbrev S3x50000 : Shape := ⟨2, ![3, 50000]⟩
abbrev S50000x3 : Shape := ⟨2, ![50000, 3]⟩
abbrev S96 : Shape := ⟨1, ![96]⟩
abbrev S_ : Shape := ⟨0, ![]⟩
abbrev S50000x1x3 : Shape := ⟨3, ![50000, 1, 3]⟩
abbrev S1x96x1 : Shape := ⟨3, ![1, 96, 1]⟩
abbrev S50000x96x3 : Shape := ⟨3, ![50000, 96, 3]⟩
abbrev S1x1x3 : Shape := ⟨3, ![1, 1, 3]⟩
abbrev S50000x96x1x3 : Shape := ⟨4, ![50000, 96, 1, 3]⟩
abbrev S8 : Shape := ⟨1, ![8]⟩
abbrev S8x1 : Shape := ⟨2, ![8, 1]⟩
abbrev S8x3 : Shape := ⟨2, ![8, 3]⟩
abbrev S1x1x8x3 : Shape := ⟨4, ![1, 1, 8, 3]⟩
abbrev S50000x96x8x3 : Shape := ⟨4, ![50000, 96, 8, 3]⟩
abbrev S50000x96x8x1 : Shape := ⟨4, ![50000, 96, 8, 1]⟩
abbrev S50000x96x8 : Shape := ⟨3, ![50000, 96, 8]⟩
abbrev S1x1x1x3 : Shape := ⟨4, ![1, 1, 1, 3]⟩
abbrev S50000x96 : Shape := ⟨2, ![50000, 96]⟩
abbrev S50000 : Shape := ⟨1, ![50000]⟩
abbrev S1000x1x50 : Shape := ⟨3, ![1000, 1, 50]⟩

abbrev nBuf : Space → Nat
  | .hbm => 154
  | .vmem => 0
  | .smem => 0
  | _ => 0

abbrev hbmTy0_0 (i : Nat) : BufTy := match i % 128 with
  | 0 => ⟨S192x192x192, .f32⟩
  | 1 => ⟨S3, .f32⟩
  | 2 => ⟨S3, .f32⟩
  | 3 => ⟨S50000x6, .f32⟩
  | 4 => ⟨S3, .f32⟩
  | 5 => ⟨S3, .i32⟩
  | 6 => ⟨S6x50000, .f32⟩
  | 7 => ⟨S3x50000, .f32⟩
  | 8 => ⟨S50000x3, .f32⟩
  | 9 => ⟨S3x50000, .f32⟩
  | 10 => ⟨S50000x3, .f32⟩
  | 11 => ⟨S96, .f32⟩
  | 12 => ⟨S_, .f32⟩
  | 13 => ⟨S96, .f32⟩
  | 14 => ⟨S96, .f32⟩
  | 15 => ⟨S_, .f32⟩
  | 16 => ⟨S96, .f32⟩
  | 17 => ⟨S96, .f32⟩
  | 18 => ⟨S50000x1x3, .f32⟩
  | 19 => ⟨S1x96x1, .f32⟩
  | 20 => ⟨S50000x3, .f32⟩
  | 21 => ⟨S50000x1x3, .f32⟩
  | 22 => ⟨S50000x96x3, .f32⟩
  | 23 => ⟨S50000x96x3, .f32⟩
  | 24 => ⟨S50000x96x3, .f32⟩
  | 25 => ⟨S50000x96x3, .f32⟩
  | 26 => ⟨S50000x96x3, .f32⟩
  | 27 => ⟨S3, .f32⟩
  | 28 => ⟨S_, .f32⟩
  | 29 => ⟨S3, .f32⟩
  | 30 => ⟨S3, .f32⟩
  | 31 => ⟨S3, .f32⟩
  | 32 => ⟨S1x1x3, .f32⟩
  | 33 => ⟨S50000x96x3, .f32⟩
  | 34 => ⟨S50000x96x3, .f32⟩
  | 35 => ⟨S1x1x3, .f32⟩
  | 36 => ⟨S50000x96x3, .f32⟩
  | 37 => ⟨S50000x96x3, .f32⟩
  | 38 => ⟨S_, .f32⟩
  | 39 => ⟨S50000x96x3, .f32⟩
  | 40 => ⟨S50000x96x3, .f32⟩
  | 41 => ⟨S50000x96x3, .f32⟩
  | 42 => ⟨S50000x96x3, .f32⟩
  | 43 => ⟨S50000x96x1x3, .f32⟩
  | 44 => ⟨S8, .i32⟩
  | 45 => ⟨S_, .i32⟩
  | 46 => ⟨S8, .i32⟩
  | 47 => ⟨S8, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S8x1, .i32⟩
  | 61 => ⟨S8x1, .i32⟩
  | 62 => ⟨S8x1, .i32⟩
  | 63 => ⟨S8x3, .i32⟩
  | 64 => ⟨S50000x96x3, .i32⟩
  | 65 => ⟨S50000x96x1x3, .i32⟩
  | 66 => ⟨S1x1x8x3, .i32⟩
  | 67 => ⟨S50000x96x8x3, .i32⟩
  | 68 => ⟨S50000x96x8x3, .i32⟩
  | 69 => ⟨S50000x96x8x3, .i32⟩
  | 70 => ⟨S_, .i32⟩
  | 71 => ⟨S8x3, .i32⟩
  | 72 => ⟨S8x3, .i1⟩
  | 73 => ⟨S_, .f32⟩
  | 74 => ⟨S50000x96x1x3, .f32⟩
  | 75 => ⟨S50000x96x1x3, .f32⟩
  | 76 => ⟨S50000x96x8x3, .i1⟩
  | 77 => ⟨S50000x96x8x3, .f32⟩
  | 78 => ⟨S50000x96x8x3, .f32⟩
  | 79 => ⟨S50000x96x8x3, .f32⟩
  | 80 => ⟨S50000x96x8x1, .f32⟩
  | 81 => ⟨S50000x96x8, .f32⟩
  | 82 => ⟨S50000x96x8x1, .f32⟩
  | 83 => ⟨S50000x96x8, .f32⟩
  | 84 => ⟨S50000x96x8, .f32⟩
  | 85 => ⟨S50000x96x8x1, .f32⟩
  | 86 => ⟨S50000x96x8, .f32⟩
  | 87 => ⟨S50000x96x8, .f32⟩
  | 88 => ⟨S_, .i32⟩
  | 89 => ⟨S50000x96x8x3, .i32⟩
  | 90 => ⟨S50000x96x8x3, .i1⟩
  | 91 => ⟨S1x1x1x3, .i32⟩
  | 92 => ⟨S50000x96x8x3, .i32⟩
  | 93 => ⟨S50000x96x8x3, .i1⟩
  | 94 => ⟨S50000x96x8x3, .i1⟩
  | 95 => ⟨S50000x96x8x1, .i1⟩
  | 96 => ⟨S50000x96x8, .i1⟩
  | 97 => ⟨S50000x96x8x1, .i1⟩
  | 98 => ⟨S50000x96x8, .i1⟩
  | 99 => ⟨S50000x96x8, .i1⟩
  | 100 => ⟨S50000x96x8x1, .i1⟩
  | 101 => ⟨S50000x96x8, .i1⟩
  | 102 => ⟨S50000x96x8, .i1⟩
  | 103 => ⟨S_, .f32⟩
  | 104 => ⟨S50000x96x8, .f32⟩
  | 105 => ⟨S50000x96x8, .f32⟩
  | 106 => ⟨S_, .i32⟩
  | 107 => ⟨S3, .i32⟩
  | 108 => ⟨S3, .i32⟩
  | 109 => ⟨S_, .i32⟩
  | 110 => ⟨S_, .i32⟩
  | 111 => ⟨S50000x96x8x3, .i32⟩
  | 112 => ⟨S50000x96x8x3, .i32⟩
  | 113 => ⟨S1x1x1x3, .i32⟩
  | 114 => ⟨S50000x96x8x3, .i32⟩
  | 115 => ⟨S50000x96x8x3, .i32⟩
  | 116 => ⟨S50000x96x8x1, .i32⟩
  | 117 => ⟨S50000x96x8, .i32⟩
  | 118 => ⟨S50000x96x8x1, .i32⟩
  | 119 => ⟨S50000x96x8, .i32⟩
  | 120 => ⟨S50000x96x8x1, .i32⟩
  | 121 => ⟨S50000x96x8, .i32⟩
  | 122 => ⟨S_, .i32⟩
  | 123 => ⟨S50000x96x8, .i32⟩
  | 124 => ⟨S50000x96x8, .i1⟩
  | 125 => ⟨S_, .i32⟩
  | 126 => ⟨S50000x96x8, .i32⟩
  | 127 => ⟨S50000x96x8, .i32⟩
  | _ => ⟨S192x192x192, .f32⟩

abbrev hbmTy0_1 (i : Nat) : BufTy := match i % 128 with
  | 0 => ⟨S50000x96x8, .i32⟩
  | 1 => ⟨S_, .i32⟩
  | 2 => ⟨S50000x96x8, .i32⟩
  | 3 => ⟨S50000x96x8, .i1⟩
  | 4 => ⟨S_, .i32⟩
  | 5 => ⟨S50000x96x8, .i32⟩
  | 6 => ⟨S50000x96x8, .i32⟩
  | 7 => ⟨S50000x96x8, .i32⟩
  | 8 => ⟨S_, .i32⟩
  | 9 => ⟨S50000x96x8, .i32⟩
  | 10 => ⟨S50000x96x8, .i1⟩
  | 11 => ⟨S_, .i32⟩
  | 12 => ⟨S50000x96x8, .i32⟩
  | 13 => ⟨S50000x96x8, .i32⟩
  | 14 => ⟨S50000x96x8, .i32⟩
  | 15 => ⟨S50000x96x8x1, .i32⟩
  | 16 => ⟨S50000x96x8x1, .i32⟩
  | 17 => ⟨S50000x96x8x1, .i32⟩
  | 18 => ⟨S50000x96x8x3, .i32⟩
  | 19 => ⟨S50000x96x8, .f32⟩
  | 20 => ⟨S50000x96x8, .f32⟩
  | 21 => ⟨S_, .f32⟩
  | 22 => ⟨S50000x96, .f32⟩
  | 23 => ⟨S_, .f32⟩
  | 24 => ⟨S50000, .f32⟩
  | 25 => ⟨S1000x1x50, .f32⟩
  | _ => ⟨S192x192x192, .f32⟩

abbrev hbmTy (i : Nat) : BufTy := match i / 128 with
  | 0 => hbmTy0_0 i
  | 1 => hbmTy0_1 i
  | _ => ⟨S192x192x192, .f32⟩

abbrev bufTy : (tb : Table) → Fin (tcTables nBuf tb) → BufTy
  | .hbm, ⟨i, _⟩ => hbmTy i
  | _, _ => ⟨S192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_c_13 : Ref sig .tc := ⟨.hbm, 106, rfl⟩
abbrev main_v84 : Ref sig .tc := ⟨.hbm, 107, rfl⟩
abbrev main_v85 : Ref sig .tc := ⟨.hbm, 108, rfl⟩
abbrev main_c_14 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_c_15 : Ref sig .tc := ⟨.hbm, 122, rfl⟩
abbrev main_v93 : Ref sig .tc := ⟨.hbm, 123, rfl⟩
abbrev main_v94 : Ref sig .tc := ⟨.hbm, 124, rfl⟩
abbrev main_c_16 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_c_17 : Ref sig .tc := ⟨.hbm, 129, rfl⟩
abbrev main_v98 : Ref sig .tc := ⟨.hbm, 130, rfl⟩
abbrev main_v99 : Ref sig .tc := ⟨.hbm, 131, rfl⟩
abbrev main_c_18 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_c_19 : Ref sig .tc := ⟨.hbm, 136, rfl⟩
abbrev main_v103 : Ref sig .tc := ⟨.hbm, 137, rfl⟩
abbrev main_v104 : Ref sig .tc := ⟨.hbm, 138, rfl⟩
abbrev main_c_20 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_cst_21 : Ref sig .tc := ⟨.hbm, 149, rfl⟩
abbrev main_v114 : Ref sig .tc := ⟨.hbm, 150, rfl⟩
abbrev main_cst_22 : Ref sig .tc := ⟨.hbm, 151, rfl⟩
abbrev main_v115 : Ref sig .tc := ⟨.hbm, 152, rfl⟩
abbrev main_v116 : Ref sig .tc := ⟨.hbm, 153, rfl⟩

abbrev nD : Nat := 1
abbrev τ : Topo := Topo.v7x

variable {F : FTy → Type} [FloatOps F]
-- ==== Kernel2.lean ====
abbrev S3 : Shape := ⟨1, ![3]⟩
abbrev S50000x6 : Shape := ⟨2, ![50000, 6]⟩
abbrev S1000x1x50 : Shape := ⟨3, ![1000, 1, 50]⟩
abbrev S50000x3 : Shape := ⟨2, ![50000, 3]⟩
abbrev S96 : Shape := ⟨1, ![96]⟩
abbrev S_ : Shape := ⟨0, ![]⟩
abbrev S50000x1x3 : Shape := ⟨3, ![50000, 1, 3]⟩
abbrev S1x96x1 : Shape := ⟨3, ![1, 96, 1]⟩
abbrev S50000x96x3 : Shape := ⟨3, ![50000, 96, 3]⟩
abbrev S1x1x3 : Shape := ⟨3, ![1, 1, 3]⟩
abbrev S50000 : Shape := ⟨1, ![50000]⟩
abbrev S50000x96x1 : Shape := ⟨3, ![50000, 96, 1]⟩
abbrev S50000x96 : Shape := ⟨2, ![50000, 96]⟩
abbrev S1000x4800 : Shape := ⟨2, ![1000, 4800]⟩
abbrev S1000x1x4800 : Shape := ⟨3, ![1000, 1, 4800]⟩
abbrev S1000x3x4800 : Shape := ⟨3, ![1000, 3, 4800]⟩
abbrev S1000x4x4800 : Shape := ⟨3, ![1000, 4, 4800]⟩
abbrev S74500x1x256 : Shape := ⟨3, ![74500, 1, 256]⟩
abbrev S1x3x4800 : Shape := ⟨3, ![1, 3, 4800]⟩
abbrev S1x4x4800 : Shape := ⟨3, ![1, 4, 4800]⟩
abbrev S1x1x50 : Shape := ⟨3, ![1, 1, 50]⟩
abbrev S37250x1x256 : Shape := ⟨3, ![37250, 1, 256]⟩
abbrev S3x4800 : Shape := ⟨2, ![3, 4800]⟩
abbrev S4x4800 : Shape := ⟨2, ![4, 4800]⟩
abbrev S50 : Shape := ⟨1, ![50]⟩
abbrev S4 : Shape := ⟨1, ![4]⟩
abbrev S50x1x256 : Shape := ⟨3, ![50, 1, 256]⟩
abbrev S1 : Shape := ⟨1, ![1]⟩
abbrev S1x256 : Shape := ⟨2, ![1, 256]⟩
abbrev S1x1 : Shape := ⟨2, ![1, 1]⟩
abbrev S1x1x256 : Shape := ⟨3, ![1, 1, 256]⟩
abbrev S2x37250x256 : Shape := ⟨3, ![2, 37250, 256]⟩
abbrev S2x37248x192 : Shape := ⟨3, ![2, 37248, 192]⟩
abbrev S2x192x194x192 : Shape := ⟨4, ![2, 192, 194, 192]⟩
abbrev S2x192x192x192 : Shape := ⟨4, ![2, 192, 192, 192]⟩
abbrev S384x192x192 : Shape := ⟨3, ![384, 192, 192]⟩

abbrev nBuf : Space → Nat
  | .hbm => 159
  | .vmem => 7
  | .smem => 3
  | _ => 0

abbrev hbmTy0_0 (i : Nat) : BufTy := match i % 128 with
  | 0 => ⟨S3, .f32⟩
  | 1 => ⟨S3, .f32⟩
  | 2 => ⟨S50000x6, .f32⟩
  | 3 => ⟨S1000x1x50, .f32⟩
  | 4 => ⟨S50000x3, .f32⟩
  | 5 => ⟨S50000x3, .f32⟩
  | 6 => ⟨S96, .f32⟩
  | 7 => ⟨S_, .f32⟩
  | 8 => ⟨S96, .f32⟩
  | 9 => ⟨S96, .f32⟩
  | 10 => ⟨S_, .f32⟩
  | 11 => ⟨S96, .f32⟩
  | 12 => ⟨S96, .f32⟩
  | 13 => ⟨S50000x1x3, .f32⟩
  | 14 => ⟨S1x96x1, .f32⟩
  | 15 => ⟨S50000x3, .f32⟩
  | 16 => ⟨S50000x1x3, .f32⟩
  | 17 => ⟨S50000x96x3, .f32⟩
  | 18 => ⟨S50000x96x3, .f32⟩
  | 19 => ⟨S50000x96x3, .f32⟩
  | 20 => ⟨S50000x96x3, .f32⟩
  | 21 => ⟨S50000x96x3, .f32⟩
  | 22 => ⟨S_, .f32⟩
  | 23 => ⟨S3, .f32⟩
  | 24 => ⟨S3, .f32⟩
  | 25 => ⟨S_, .f32⟩
  | 26 => ⟨S3, .f32⟩
  | 27 => ⟨S3, .f32⟩
  | 28 => ⟨S3, .f32⟩
  | 29 => ⟨S1x1x3, .f32⟩
  | 30 => ⟨S50000x96x3, .f32⟩
  | 31 => ⟨S50000x96x3, .f32⟩
  | 32 => ⟨S1x1x3, .f32⟩
  | 33 => ⟨S50000x96x3, .f32⟩
  | 34 => ⟨S50000x96x3, .f32⟩
  | 35 => ⟨S_, .f32⟩
  | 36 => ⟨S50000x96x3, .f32⟩
  | 37 => ⟨S50000x96x3, .f32⟩
  | 38 => ⟨S50000x3, .f32⟩
  | 39 => ⟨S50000x3, .f32⟩
  | 40 => ⟨S_, .f32⟩
  | 41 => ⟨S50000, .f32⟩
  | 42 => ⟨S50000, .f32⟩
  | 43 => ⟨S_, .f32⟩
  | 44 => ⟨S50000, .f32⟩
  | 45 => ⟨S50000, .f32⟩
  | 46 => ⟨S_, .f32⟩
  | 47 => ⟨S50000, .f32⟩
  | 48 => ⟨S50000, .f32⟩
  | 49 => ⟨S1000x1x50, .f32⟩
  | 50 => ⟨S1000x1x50, .f32⟩
  | 51 => ⟨S1000x1x50, .f32⟩
  | 52 => ⟨S50000x96x1, .f32⟩
  | 53 => ⟨S50000x96, .f32⟩
  | 54 => ⟨S50000x96x1, .f32⟩
  | 55 => ⟨S50000x96, .f32⟩
  | 56 => ⟨S50000x96x1, .f32⟩
  | 57 => ⟨S50000x96, .f32⟩
  | 58 => ⟨S50000x96, .f32⟩
  | 59 => ⟨S50000x96, .f32⟩
  | 60 => ⟨S50000x96, .f32⟩
  | 61 => ⟨S50000x96, .f32⟩
  | 62 => ⟨S50000x96, .f32⟩
  | 63 => ⟨S50000x96, .f32⟩
  | 64 => ⟨S50000x96, .i32⟩
  | 65 => ⟨S_, .i32⟩
  | 66 => ⟨S_, .i32⟩
  | 67 => ⟨S_, .i32⟩
  | 68 => ⟨S50000x96, .i32⟩
  | 69 => ⟨S50000x96, .i32⟩
  | 70 => ⟨S_, .i32⟩
  | 71 => ⟨S50000x96, .i32⟩
  | 72 => ⟨S50000x96, .i32⟩
  | 73 => ⟨S50000x96, .i32⟩
  | 74 => ⟨S_, .i32⟩
  | 75 => ⟨S_, .i32⟩
  | 76 => ⟨S_, .i32⟩
  | 77 => ⟨S50000x96, .i32⟩
  | 78 => ⟨S50000x96, .i32⟩
  | 79 => ⟨S_, .i32⟩
  | 80 => ⟨S50000x96, .i32⟩
  | 81 => ⟨S50000x96, .i32⟩
  | 82 => ⟨S50000x96, .i32⟩
  | 83 => ⟨S_, .i32⟩
  | 84 => ⟨S_, .i32⟩
  | 85 => ⟨S_, .i32⟩
  | 86 => ⟨S50000x96, .i32⟩
  | 87 => ⟨S50000x96, .i32⟩
  | 88 => ⟨S_, .i32⟩
  | 89 => ⟨S50000x96, .i32⟩
  | 90 => ⟨S50000x96, .i32⟩
  | 91 => ⟨S_, .i32⟩
  | 92 => ⟨S50000x96, .i32⟩
  | 93 => ⟨S50000x96, .i1⟩
  | 94 => ⟨S_, .i32⟩
  | 95 => ⟨S50000x96, .i32⟩
  | 96 => ⟨S50000x96, .i1⟩
  | 97 => ⟨S50000x96, .i1⟩
  | 98 => ⟨S_, .i32⟩
  | 99 => ⟨S50000x96, .i32⟩
  | 100 => ⟨S50000x96, .i32⟩
  | 101 => ⟨S_, .i32⟩
  | 102 => ⟨S50000x96, .i32⟩
  | 103 => ⟨S50000x96, .i1⟩
  | 104 => ⟨S_, .f32⟩
  | 105 => ⟨S50000x96, .f32⟩
  | 106 => ⟨S50000x96, .f32⟩
  | 107 => ⟨S_, .f32⟩
  | 108 => ⟨S_, .f32⟩
  | 109 => ⟨S50000x96, .f32⟩
  | 110 => ⟨S50000x96, .f32⟩
  | 111 => ⟨S_, .f32⟩
  | 112 => ⟨S_, .f32⟩
  | 113 => ⟨S50000x96, .f32⟩
  | 114 => ⟨S50000x96, .f32⟩
  | 115 => ⟨S_, .i32⟩
  | 116 => ⟨S50000x96, .i32⟩
  | 117 => ⟨S50000x96, .i32⟩
  | 118 => ⟨S_, .i32⟩
  | 119 => ⟨S50000x96, .i32⟩
  | 120 => ⟨S50000x96, .i32⟩
  | 121 => ⟨S50000x96, .i32⟩
  | 122 => ⟨S_, .i32⟩
  | 123 => ⟨S_, .i32⟩
  | 124 => ⟨S50000x96, .i32⟩
  | 125 => ⟨S50000x96, .i32⟩
  | 126 => ⟨S_, .i32⟩
  | 127 => ⟨S50000x96, .i32⟩
  | _ => ⟨S3, .f32⟩

abbrev hbmTy0_1 (i : Nat) : BufTy := match i % 128 with
  | 0 => ⟨S50000x96, .i32⟩
  | 1 => ⟨S_, .i32⟩
  | 2 => ⟨S50000x96, .i32⟩
  | 3 => ⟨S50000x96, .i32⟩
  | 4 => ⟨S50000x96, .i32⟩
  | 5 => ⟨S_, .i32⟩
  | 6 => ⟨S_, .i32⟩
  | 7 => ⟨S50000x96, .i32⟩
  | 8 => ⟨S50000x96, .i32⟩
  | 9 => ⟨S1000x4800, .i32⟩
  | 10 => ⟨S1000x4800, .i32⟩
  | 11 => ⟨S1000x4800, .i32⟩
  | 12 => ⟨S1000x1x4800, .i32⟩
  | 13 => ⟨S1000x1x4800, .i32⟩
  | 14 => ⟨S1000x1x4800, .i32⟩
  | 15 => ⟨S1000x3x4800, .i32⟩
  | 16 => ⟨S1000x4800, .f32⟩
  | 17 => ⟨S1000x4800, .f32⟩
  | 18 => ⟨S1000x4800, .f32⟩
  | 19 => ⟨S1000x4800, .f32⟩
  | 20 => ⟨S1000x1x4800, .f32⟩
  | 21 => ⟨S1000x1x4800, .f32⟩
  | 22 => ⟨S1000x1x4800, .f32⟩
  | 23 => ⟨S1000x1x4800, .f32⟩
  | 24 => ⟨S1000x4x4800, .f32⟩
  | 25 => ⟨S74500x1x256, .f32⟩
  | 26 => ⟨S2x37250x256, .f32⟩
  | 27 => ⟨S2x37248x192, .f32⟩
  | 28 => ⟨S2x192x194x192, .f32⟩
  | 29 => ⟨S2x192x192x192, .f32⟩
  | 30 => ⟨S384x192x192, .f32⟩
  | _ => ⟨S3, .f32⟩

abbrev hbmTy (i : Nat) : BufTy := match i / 128 with
  | 0 => hbmTy0_0 i
  | 1 => hbmTy0_1 i
  | _ => ⟨S3, .f32⟩

abbrev bufTy : (tb : Table) → Fin (tcTables nBuf tb) → BufTy
  | .hbm, ⟨i, _⟩ => hbmTy i
  | .local _ .vmem, ⟨0, _⟩ => ⟨S1x3x4800, .i32⟩
  | .local _ .vmem, ⟨1, _⟩ => ⟨S1x3x4800, .i32⟩
  | .local _ .vmem, ⟨2, _⟩ => ⟨S1x4x4800, .f32⟩
  | .local _ .vmem, ⟨3, _⟩ => ⟨S1x4x4800, .f32⟩
  | .local _ .vmem, ⟨4, _⟩ => ⟨S1x1x50, .f32⟩
  | .local _ .vmem, ⟨5, _⟩ => ⟨S1x1x50, .f32⟩
  | .local _ .vmem, ⟨6, _⟩ => ⟨S37250x1x256, .f32⟩
  | .local _ .smem, ⟨0, _⟩ => ⟨S3x4800, .i32⟩
  | .local _ .smem, ⟨1, _⟩ => ⟨S4x4800, .f32⟩
  | .local _ .smem, ⟨2, _⟩ => ⟨S50, .f32⟩
  | _, _ => ⟨S3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_call0_v0 : Ref sig .tc := ⟨.hbm, 39, rfl⟩
abbrev main_call0_cst : Ref sig .tc := ⟨.hbm, 40, rfl⟩
abbrev main_call0_v1 : Ref sig .tc := ⟨.hbm, 41, rfl⟩
abbrev main_v30 : Ref sig .tc := ⟨.hbm, 42, rfl⟩
abbrev main_cst_4 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_c : Ref sig .tc := ⟨.hbm, 65, rfl⟩
abbrev main_c_6 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_call1_v4 : Ref sig .tc := ⟨.hbm, 71, rfl⟩
abbrev main_v51 : Ref sig .tc := ⟨.hbm, 72, rfl⟩
abbrev main_v52 : Ref sig .tc := ⟨.hbm, 73, rfl⟩
abbrev main_c_7 : Ref sig .tc := ⟨.hbm, 74, rfl⟩
abbrev main_c_8 : Ref sig .tc := ⟨.hbm, 75, rfl⟩
abbrev main_call2_v0 : Ref sig .tc := ⟨.hbm, 76, rfl⟩
abbrev main_call2_v1 : Ref sig .tc := ⟨.hbm, 77, rfl⟩
abbrev main_call2_v2 : Ref sig .tc := ⟨.hbm, 78, rfl⟩
abbrev main_call2_v3 : Ref sig .tc := ⟨.hbm, 79, rfl⟩
abbrev main_call2_v4 : Ref sig .tc := ⟨.hbm, 80, rfl⟩
abbrev main_v53 : Ref sig .tc := ⟨.hbm, 81, rfl⟩
abbrev main_v54 : Ref sig .tc := ⟨.hbm, 82, rfl⟩
abbrev main_c_9 : Ref sig .tc := ⟨.hbm, 83, rfl⟩
abbrev main_c_10 : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_call3_v3 : Ref sig .tc := ⟨.hbm, 88, rfl⟩
abbrev main_call3_v4 : Ref sig .tc := ⟨.hbm, 89, rfl⟩
abbrev main_v55 : Ref sig .tc := ⟨.hbm, 90, rfl⟩
abbrev main_c_11 : Ref sig .tc := ⟨.hbm, 91, rfl⟩
abbrev main_v56 : Ref sig .tc := ⟨.hbm, 92, rfl⟩
abbrev main_v57 : Ref sig .tc := ⟨.hbm, 93, rfl⟩
abbrev main_c_12 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_c_13 : Ref sig .tc := ⟨.hbm, 98, rfl⟩
abbrev main_v61 : Ref sig .tc := ⟨.hbm, 99, rfl⟩
abbrev main_v62 : Ref sig .tc := ⟨.hbm, 100, rfl⟩
abbrev main_c_14 : Ref sig .tc := ⟨.hbm, 101, rfl⟩
abbrev main_v63 : Ref sig .tc := ⟨.hbm, 102, rfl⟩
abbrev main_v64 : Ref sig .tc := ⟨.hbm, 103, rfl⟩
abbrev main_cst_15 : Ref sig .tc := ⟨.hbm, 104, rfl⟩
abbrev main_v65 : Ref sig .tc := ⟨.hbm, 105, rfl⟩
abbrev main_v66 : Ref sig .tc := ⟨.hbm, 106, rfl⟩
abbrev main_cst_16 : Ref sig .tc := ⟨.hbm, 107, rfl⟩
abbrev main_call4_v0 : Ref sig .tc := ⟨.hbm, 108, rfl⟩
abbrev main_call4_v1 : Ref sig .tc := ⟨.hbm, 109, rfl⟩
abbrev main_v67 : Ref sig .tc := ⟨.hbm, 110, rfl⟩
abbrev main_cst_17 : Ref sig .tc := ⟨.hbm, 111, rfl⟩
abbrev main_call5_v0 : Ref sig .tc := ⟨.hbm, 112, rfl⟩
abbrev main_call5_v1 : Ref sig .tc := ⟨.hbm, 113, rfl⟩
abbrev main_v68 : Ref sig .tc := ⟨.hbm, 114, rfl⟩
abbrev main_c_18 : Ref sig .tc := ⟨.hbm, 115, rfl⟩
abbrev main_v69 : Ref sig .tc := ⟨.hbm, 116, rfl⟩
abbrev main_v70 : Ref sig .tc := ⟨.hbm, 117, rfl⟩
abbrev main_c_19 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_c_20 : Ref sig .tc := ⟨.hbm, 122, rfl⟩
abbrev main_call6_v0 : Ref sig .tc := ⟨.hbm, 123, rfl⟩
abbrev main_call6_v1 : Ref sig .tc := ⟨.hbm, 124, rfl⟩
abbrev main_v74 : Ref sig .tc := ⟨.hbm, 125, rfl⟩
abbrev main_c_21 : Ref sig .tc := ⟨.hbm, 126, rfl⟩
abbrev main_v75 : Ref sig .tc := ⟨.hbm, 127, rfl⟩
abbrev main_v76 : Ref sig .tc := ⟨.hbm, 128, rfl⟩
abbrev main_c_22 : Ref sig .tc := ⟨.hbm, 129, rfl⟩
abbrev main_v77 : Ref sig .tc := ⟨.hbm, 130, rfl⟩
abbrev main_v78 : Ref sig .tc := ⟨.hbm, 131, rfl⟩
abbrev main_v79 : Ref sig .tc := ⟨.hbm, 132, rfl⟩
abbrev main_c_23 : Ref sig .tc := ⟨.hbm, 133, rfl⟩
abbrev main_call7_v0 : Ref sig .tc := ⟨.hbm, 134, rfl⟩
abbrev main_call7_v1 : Ref sig .tc := ⟨.hbm, 135, rfl⟩
abbrev main_v80 : Ref sig .tc := ⟨.hbm, 136, rfl⟩
abbrev main_v81 : Ref sig .tc := ⟨.hbm, 137, rfl⟩
abbrev main_v82 : Ref sig .tc := ⟨.hbm, 138, rfl⟩
abbrev main_v83 : Ref sig .tc := ⟨.hbm, 139, rfl⟩
abbrev main_v84 : Ref sig .tc := ⟨.hbm, 140, rfl⟩
abbrev main_v85 : Ref sig .tc := ⟨.hbm, 141, rfl⟩
abbrev main_v86 : Ref sig .tc := ⟨.hbm, 142, rfl⟩
abbrev main_v87 : Ref sig .tc := ⟨.hbm, 143, rfl⟩
abbrev main_v88 : Ref sig .tc := ⟨.hbm, 144, rfl⟩
abbrev main_v89 : Ref sig .tc := ⟨.hbm, 145, rfl⟩
abbrev main_v90 : Ref sig .tc := ⟨.hbm, 146, rfl⟩
abbrev main_v91 : Ref sig .tc := ⟨.hbm, 147, rfl⟩
abbrev main_v92 : Ref sig .tc := ⟨.hbm, 148, rfl⟩
abbrev main_v93 : Ref sig .tc := ⟨.hbm, 149, rfl⟩
abbrev main_v94 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.smem, 0, rfl⟩
abbrev cc0_scratch2 : Ref sig .tc := ⟨.smem, 1, rfl⟩
abbrev cc0_scratch3 : Ref sig .tc := ⟨.smem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 500], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_27 : BitVec 32 := 0#32
  let c745_i32 : BitVec 32 := 745#32
  let v32 : BitVec 32 := Scalar.addi c0_i32_27 c745_i32
  let c1_i32_28 : BitVec 32 := 1#32
  ⟨c0_i32_27, v32, c1_i32_28⟩
def k0_off1 (k0_t1 : Fin k0_t1_loop.trips) : Fin 3 → Nat :=
  let c0_i32_27 : BitVec 32 := 0#32
  let c1_i32_28 : BitVec 32 := 1#32
  let arg11 : BitVec 32 := Scf.iv c0_i32_27 c1_i32_28 k0_t1
  let c50_i32_30 : BitVec 32 := 50#32
  let v34 : BitVec 32 := Scalar.muli arg11 c50_i32_30
  let v35 : Index := Scalar.indexCast v34
  let c0 : Index := 0#32
  let c0_31 : Index := 0#32
  ![v35.toNat, 0, 0]
@[reducible] def k0_t2_loop : Scf.Loop 32 :=
  let c0_i32_23 : BitVec 32 := 0#32
  let c50_i32 : BitVec 32 := 50#32
  let v28 : BitVec 32 := Scalar.addi c0_i32_23 c50_i32
  let c1_i32_24 : BitVec 32 := 1#32
  ⟨c0_i32_23, v28, c1_i32_24⟩
def k0_off2 (k0_t2 : Fin k0_t2_loop.trips) : Fin 1 → Nat :=
  let c0_i32_23 : BitVec 32 := 0#32
  let c1_i32_24 : BitVec 32 := 1#32
  let arg11 : BitVec 32 := Scf.iv c0_i32_23 c1_i32_24 k0_t2
  let v32 : Index := Scalar.indexCast arg11
  ![v32.toNat]
@[reducible] def k0_t3_loop : Scf.Loop 32 :=
  let c0_i32_27 : BitVec 32 := 0#32
  let c12_i32 : BitVec 32 := 12#32
  let v34 : BitVec 32 := Scalar.addi c0_i32_27 c12_i32
  let c1_i32_28 : BitVec 32 := 1#32
  ⟨c0_i32_27, v34, c1_i32_28⟩
def k0_off3 (k0_t2 : Fin k0_t2_loop.trips) (k0_t3 : Fin k0_t3_loop.trips) : Fin 2 → Nat :=
  let c0 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c0_i32_30 : BitVec 32 := 0#32
  let v38 : BitVec 32 := Scalar.addi v37 c0_i32_30
  let v39 : Index := Scalar.indexCast v38
  ![0, v39.toNat]
def k0_off4 (k0_t2 : Fin k0_t2_loop.trips) (k0_t3 : Fin k0_t3_loop.trips) : Fin 2 → Nat :=
  let c1 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c0_i32_30 : BitVec 32 := 0#32
  let v38 : BitVec 32 := Scalar.addi v37 c0_i32_30
  let v41 : Index := Scalar.indexCast v38
  ![1, v41.toNat]
def k0_off5 (k0_t2 : Fin k0_t2_loop.trips) (k0_t3 : Fin k0_t3_loop.trips) : Fin 2 → Nat :=
  let c2 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c0_i32_30 : BitVec 32 := 0#32
  let v38 : BitVec 32 := Scalar.addi v37 c0_i32_30
  let v43 : Index := Scalar.indexCast v38
  ![2, v43.toNat]
def k0_off6 (k0_t2 : Fin k0_t2_loop.trips) (k0_t3 : Fin k0_t3_loop.trips) : Fin 2 → Nat :=
  let c0_31 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c0_i32_30 : BitVec 32 := 0#32
  let v38 : BitVec 32 := Scalar.addi v37 c0_i32_30
  let v45 : Index := Scalar.indexCast v38
  ![0, v45.toNat]
def k0_off7 (k0_t2 : Fin k0_t2_loop.trips) (k0_t3 : Fin k0_t3_loop.trips) : Fin 2 → Nat :=
  let c1_32 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c0_i32_30 : BitVec 32 := 0#32
  let v38 : BitVec 32 := Scalar.addi v37 c0_i32_30
  let v47 : Index := Scalar.indexCast v38
  ![1, v47.toNat]
def k0_off8 (k0_t2 : Fin k0_t2_loop.trips) (k0_t3 : Fin k0_t3_loop.trips) : Fin 2 → Nat :=
  let c2_33 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c0_i32_30 : BitVec 32 := 0#32
  let v38 : BitVec 32 := Scalar.addi v37 c0_i32_30
  let v49 : Index := Scalar.indexCast v38
  ![2, v49.toNat]
def k0_off9 (k0_t2 : Fin k0_t2_loop.trips) (k0_t3 : Fin k0_t3_loop.trips) : Fin 2 → Nat :=
  let c3 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c0_i32_30 : BitVec 32 := 0#32
  let v38 : BitVec 32 := Scalar.addi v37 c0_i32_30
  let v51 : Index := Scalar.indexCast v38
  ![3, v51.toNat]
def k0_off10 (v40 : BitVec 32) : Fin 3 → Nat :=
  let v69 : Index := Scalar.indexCast v40
  let c0_38 : Index := 0#32
  let c0_39 : Index := 0#32
  ![v69.toNat, 0, 0]

def k0_off11 (v40 : BitVec 32) : Fin 3 → Nat :=
  let c1_i32_40 : BitVec 32 := 1#32
  let v76 : BitVec 32 := Scalar.addi v40 c1_i32_40
  let v77 : Index := Scalar.indexCast v76
  let c0_41 : Index := 0#32
  let c0_42 : Index := 0#32
  ![v77.toNat, 0, 0]
def k0_off12 (v42 : BitVec 32) : Fin 3 → Nat :=
  let v84 : Index := Scalar.indexCast v42
  let c0_43 : Index := 0#32
  let c0_44 : Index := 0#32
  ![v84.toNat, 0, 0]

def k0_off13 (v42 : BitVec 32) : Fin 3 → Nat :=
  let c1_i32_45 : BitVec 32 := 1#32
  let v91 : BitVec 32 := Scalar.addi v42 c1_i32_45
  let v92 : Index := Scalar.indexCast v91
  let c0_46 : Index := 0#32
  let c0_47 : Index := 0#32
  ![v92.toNat, 0, 0]

def k0_chk2 (v42 : BitVec 32) : Prop :=
  (∀ a, (k0_off12 v42) a + S1x1x256.size a ≤ S37250x1x256.size a) ∧
  (∀ a, (k0_off13 v42) a + S1x1x256.size a ≤ S37250x1x256.size a)
theorem k0_off12_inb : ∀ (v42 : BitVec 32) (k0_hw2 : k0_chk2 v42), ∀ a, (k0_off12 v42) a + S1x1x256.size a ≤ S37250x1x256.size a := fun v42 k0_hw2 => k0_hw2.1
theorem k0_off13_inb : ∀ (v42 : BitVec 32) (k0_hw2 : k0_chk2 v42), ∀ a, (k0_off13 v42) a + S1x1x256.size a ≤ S37250x1x256.size a := fun v42 k0_hw2 => k0_hw2.2

def k0_off14 (v40 : BitVec 32) : Fin 3 → Nat :=
  let v99 : Index := Scalar.indexCast v40
  let c0_48 : Index := 0#32
  let c0_49 : Index := 0#32
  ![v99.toNat, 0, 0]
def k0_off15 (v40 : BitVec 32) : Fin 3 → Nat :=
  let c1_i32_50 : BitVec 32 := 1#32
  let v103 : BitVec 32 := Scalar.addi v40 c1_i32_50
  let v104 : Index := Scalar.indexCast v103
  let c0_51 : Index := 0#32
  let c0_52 : Index := 0#32
  ![v104.toNat, 0, 0]

def k0_chk1 (v40 : BitVec 32) : Prop :=
  (∀ a, (k0_off10 v40) a + S1x1x256.size a ≤ S37250x1x256.size a) ∧
  (∀ a, (k0_off11 v40) a + S1x1x256.size a ≤ S37250x1x256.size a) ∧
  (∀ a, (k0_off14 v40) a + S1x1x256.size a ≤ S37250x1x256.size a) ∧
  (∀ a, (k0_off15 v40) a + S1x1x256.size a ≤ S37250x1x256.size a)
theorem k0_off10_inb : ∀ (v40 : BitVec 32) (k0_hw1 : k0_chk1 v40), ∀ a, (k0_off10 v40) a + S1x1x256.size a ≤ S37250x1x256.size a := fun v40 k0_hw1 => k0_hw1.1
theorem k0_off11_inb : ∀ (v40 : BitVec 32) (k0_hw1 : k0_chk1 v40), ∀ a, (k0_off11 v40) a + S1x1x256.size a ≤ S37250x1x256.size a := fun v40 k0_hw1 => k0_hw1.2.1
theorem k0_off14_inb : ∀ (v40 : BitVec 32) (k0_hw1 : k0_chk1 v40), ∀ a, (k0_off14 v40) a + S1x1x256.size a ≤ S37250x1x256.size a := fun v40 k0_hw1 => k0_hw1.2.2.1
theorem k0_off15_inb : ∀ (v40 : BitVec 32) (k0_hw1 : k0_chk1 v40), ∀ a, (k0_off15 v40) a + S1x1x256.size a ≤ S37250x1x256.size a := fun v40 k0_hw1 => k0_hw1.2.2.2

def k0_off16 (k0_t2 : Fin k0_t2_loop.trips) (k0_t3 : Fin k0_t3_loop.trips) : Fin 2 → Nat :=
  let c0_59 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c1_i32_58 : BitVec 32 := 1#32
  let v117 : BitVec 32 := Scalar.addi v37 c1_i32_58
  let v118 : Index := Scalar.indexCast v117
  ![0, v118.toNat]
def k0_off17 (k0_t2 : Fin k0_t2_loop.trips) (k0_t3 : Fin k0_t3_loop.trips) : Fin 2 → Nat :=
  let c1_60 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c1_i32_58 : BitVec 32 := 1#32
  let v117 : BitVec 32 := Scalar.addi v37 c1_i32_58
  let v120 : Index := Scalar.indexCast v117
  ![1, v120.toNat]
def k0_off18 (k0_t2 : Fin k0_t2_loop.trips) (k0_t3 : Fin k0_t3_loop.trips) : Fin 2 → Nat :=
  let c2_61 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c1_i32_58 : BitVec 32 := 1#32
  let v117 : BitVec 32 := Scalar.addi v37 c1_i32_58
  let v122 : Index := Scalar.indexCast v117
  ![2, v122.toNat]
def k0_off19 (k0_t2 : Fin k0_t2_loop.trips) (k0_t3 : Fin k0_t3_loop.trips) : Fin 2 → Nat :=
  let c0_62 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c1_i32_58 : BitVec 32 := 1#32
  let v117 : BitVec 32 := Scalar.addi v37 c1_i32_58
  let v124 : Index := Scalar.indexCast v117
  ![0, v124.toNat]
def k0_off20 (k0_t2 : Fin k0_t2_loop.trips) (k0_t3 : Fin k0_t3_loop.trips) : Fin 2 → Nat :=
  let c1_63 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c1_i32_58 : BitVec 32 := 1#32
  let v117 : BitVec 32 := Scalar.addi v37 c1_i32_58
  let v126 : Index := Scalar.indexCast v117
  ![1, v126.toNat]
def k0_off21 (k0_t2 : Fin k0_t2_loop.trips) (k0_t3 : Fin k0_t3_loop.trips) : Fin 2 → Nat :=
  let c2_64 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c1_i32_58 : BitVec 32 := 1#32
  let v117 : BitVec 32 := Scalar.addi v37 c1_i32_58
  let v128 : Index := Scalar.indexCast v117
  ![2, v128.toNat]
def k0_off22 (k0_t2 : Fin k0_t2_loop.trips) (k0_t3 : Fin k0_t3_loop.trips) : Fin 2 → Nat :=
  let c3_65 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c1_i32_58 : BitVec 32 := 1#32
  let v117 : BitVec 32 := Scalar.addi v37 c1_i32_58
  let v130 : Index := Scalar.indexCast v117
  ![3, v130.toNat]
def k0_off23 (v119 : BitVec 32) : Fin 3 → Nat :=
  let v148 : Index := Scalar.indexCast v119
  let c0_71 : Index := 0#32
  let c0_72 : Index := 0#32
  ![v148.toNat, 0, 0]

def k0_off24 (v119 : BitVec 32) : Fin 3 → Nat :=
  let c1_i32_73 : BitVec 32 := 1#32
  let v155 : BitVec 32 := Scalar.addi v119 c1_i32_73
  let v156 : Index := Scalar.indexCast v155
  let c0_74 : Index := 0#32
  let c0_75 : Index := 0#32
  ![v156.toNat, 0, 0]
def k0_off25 (v121 : BitVec 32) : Fin 3 → Nat :=
  let v163 : Index := Scalar.indexCast v121
  let c0_76 : Index := 0#32
  let c0_77 : Index := 0#32
  ![v163.toNat, 0, 0]

def k0_off26 (v121 : BitVec 32) : Fin 3 → Nat :=
  let c1_i32_78 : BitVec 32 := 1#32
  let v170 : BitVec 32 := Scalar.addi v121 c1_i32_78
  let v171 : Index := Scalar.indexCast v170
  let c0_79 : Index := 0#32
  let c0_80 : Index := 0#32
  ![v171.toNat, 0, 0]

def k0_chk4 (v121 : BitVec 32) : Prop :=
  (∀ a, (k0_off25 v121) a + S1x1x256.size a ≤ S37250x1x256.size a) ∧
  (∀ a, (k0_off26 v121) a + S1x1x256.size a ≤ S37250x1x256.size a)
theorem k0_off25_inb : ∀ (v121 : BitVec 32) (k0_hw4 : k0_chk4 v121), ∀ a, (k0_off25 v121) a + S1x1x256.size a ≤ S37250x1x256.size a := fun v121 k0_hw4 => k0_hw4.1
theorem k0_off26_inb : ∀ (v121 : BitVec 32) (k0_hw4 : k0_chk4 v121), ∀ a, (k0_off26 v121) a + S1x1x256.size a ≤ S37250x1x256.size a := fun v121 k0_hw4 => k0_hw4.2

def k0_off27 (v119 : BitVec 32) : Fin 3 → Nat :=
  let v178 : Index := Scalar.indexCast v119
  let c0_81 : Index := 0#32
  let c0_82 : Index := 0#32
  ![v178.toNat, 0, 0]
def k0_off28 (v119 : BitVec 32) : Fin 3 → Nat :=
  let c1_i32_83 : BitVec 32 := 1#32
  let v182 : BitVec 32 := Scalar.addi v119 c1_i32_83
  let v183 : Index := Scalar.indexCast v182
  let c0_84 : Index := 0#32
  let c0_85 : Index := 0#32
  ![v183.toNat, 0, 0]

def k0_chk3 (v119 : BitVec 32) : Prop :=
  (∀ a, (k0_off23 v119) a + S1x1x256.size a ≤ S37250x1x256.size a) ∧
  (∀ a, (k0_off24 v119) a + S1x1x256.size a ≤ S37250x1x256.size a) ∧
  (∀ a, (k0_off27 v119) a + S1x1x256.size a ≤ S37250x1x256.size a) ∧
  (∀ a, (k0_off28 v119) a + S1x1x256.size a ≤ S37250x1x256.size a)
theorem k0_off23_inb : ∀ (v119 : BitVec 32) (k0_hw3 : k0_chk3 v119), ∀ a, (k0_off23 v119) a + S1x1x256.size a ≤ S37250x1x256.size a := fun v119 k0_hw3 => k0_hw3.1
theorem k0_off24_inb : ∀ (v119 : BitVec 32) (k0_hw3 : k0_chk3 v119), ∀ a, (k0_off24 v119) a + S1x1x256.size a ≤ S37250x1x256.size a := fun v119 k0_hw3 => k0_hw3.2.1
theorem k0_off27_inb : ∀ (v119 : BitVec 32) (k0_hw3 : k0_chk3 v119), ∀ a, (k0_off27 v119) a + S1x1x256.size a ≤ S37250x1x256.size a := fun v119 k0_hw3 => k0_hw3.2.2.1
theorem k0_off28_inb : ∀ (v119 : BitVec 32) (k0_hw3 : k0_chk3 v119), ∀ a, (k0_off28 v119) a + S1x1x256.size a ≤ S37250x1x256.size a := fun v119 k0_hw3 => k0_hw3.2.2.2

def k0_off29 (k0_t2 : Fin k0_t2_loop.trips) (k0_t3 : Fin k0_t3_loop.trips) : Fin 2 → Nat :=
  let c0_92 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c2_i32_91 : BitVec 32 := 2#32
  let v196 : BitVec 32 := Scalar.addi v37 c2_i32_91
  let v197 : Index := Scalar.indexCast v196
  ![0, v197.toNat]
def k0_off30 (k0_t2 : Fin k0_t2_loop.trips) (k0_t3 : Fin k0_t3_loop.trips) : Fin 2 → Nat :=
  let c1_93 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c2_i32_91 : BitVec 32 := 2#32
  let v196 : BitVec 32 := Scalar.addi v37 c2_i32_91
  let v199 : Index := Scalar.indexCast v196
  ![1, v199.toNat]
def k0_off31 (k0_t2 : Fin k0_t2_loop.trips) (k0_t3 : Fin k0_t3_loop.trips) : Fin 2 → Nat :=
  let c2_94 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c2_i32_91 : BitVec 32 := 2#32
  let v196 : BitVec 32 := Scalar.addi v37 c2_i32_91
  let v201 : Index := Scalar.indexCast v196
  ![2, v201.toNat]
def k0_off32 (k0_t2 : Fin k0_t2_loop.trips) (k0_t3 : Fin k0_t3_loop.trips) : Fin 2 → Nat :=
  let c0_95 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c2_i32_91 : BitVec 32 := 2#32
  let v196 : BitVec 32 := Scalar.addi v37 c2_i32_91
  let v203 : Index := Scalar.indexCast v196
  ![0, v203.toNat]
def k0_off33 (k0_t2 : Fin k0_t2_loop.trips) (k0_t3 : Fin k0_t3_loop.trips) : Fin 2 → Nat :=
  let c1_96 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c2_i32_91 : BitVec 32 := 2#32
  let v196 : BitVec 32 := Scalar.addi v37 c2_i32_91
  let v205 : Index := Scalar.indexCast v196
  ![1, v205.toNat]
def k0_off34 (k0_t2 : Fin k0_t2_loop.trips) (k0_t3 : Fin k0_t3_loop.trips) : Fin 2 → Nat :=
  let c2_97 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c2_i32_91 : BitVec 32 := 2#32
  let v196 : BitVec 32 := Scalar.addi v37 c2_i32_91
  let v207 : Index := Scalar.indexCast v196
  ![2, v207.toNat]
def k0_off35 (k0_t2 : Fin k0_t2_loop.trips) (k0_t3 : Fin k0_t3_loop.trips) : Fin 2 → Nat :=
  let c3_98 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c2_i32_91 : BitVec 32 := 2#32
  let v196 : BitVec 32 := Scalar.addi v37 c2_i32_91
  let v209 : Index := Scalar.indexCast v196
  ![3, v209.toNat]
def k0_off36 (v198 : BitVec 32) : Fin 3 → Nat :=
  let v227 : Index := Scalar.indexCast v198
  let c0_104 : Index := 0#32
  let c0_105 : Index := 0#32
  ![v227.toNat, 0, 0]

def k0_off37 (v198 : BitVec 32) : Fin 3 → Nat :=
  let c1_i32_106 : BitVec 32 := 1#32
  let v234 : BitVec 32 := Scalar.addi v198 c1_i32_106
  let v235 : Index := Scalar.indexCast v234
  let c0_107 : Index := 0#32
  let c0_108 : Index := 0#32
  ![v235.toNat, 0, 0]
def k0_off38 (v200 : BitVec 32) : Fin 3 → Nat :=
  let v242 : Index := Scalar.indexCast v200
  let c0_109 : Index := 0#32
  let c0_110 : Index := 0#32
  ![v242.toNat, 0, 0]

def k0_off39 (v200 : BitVec 32) : Fin 3 → Nat :=
  let c1_i32_111 : BitVec 32 := 1#32
  let v249 : BitVec 32 := Scalar.addi v200 c1_i32_111
  let v250 : Index := Scalar.indexCast v249
  let c0_112 : Index := 0#32
  let c0_113 : Index := 0#32
  ![v250.toNat, 0, 0]

def k0_chk6 (v200 : BitVec 32) : Prop :=
  (∀ a, (k0_off38 v200) a + S1x1x256.size a ≤ S37250x1x256.size a) ∧
  (∀ a, (k0_off39 v200) a + S1x1x256.size a ≤ S37250x1x256.size a)
theorem k0_off38_inb : ∀ (v200 : BitVec 32) (k0_hw6 : k0_chk6 v200), ∀ a, (k0_off38 v200) a + S1x1x256.size a ≤ S37250x1x256.size a := fun v200 k0_hw6 => k0_hw6.1
theorem k0_off39_inb : ∀ (v200 : BitVec 32) (k0_hw6 : k0_chk6 v200), ∀ a, (k0_off39 v200) a + S1x1x256.size a ≤ S37250x1x256.size a := fun v200 k0_hw6 => k0_hw6.2

def k0_off40 (v198 : BitVec 32) : Fin 3 → Nat :=
  let v257 : Index := Scalar.indexCast v198
  let c0_114 : Index := 0#32
  let c0_115 : Index := 0#32
  ![v257.toNat, 0, 0]
def k0_off41 (v198 : BitVec 32) : Fin 3 → Nat :=
  let c1_i32_116 : BitVec 32 := 1#32
  let v261 : BitVec 32 := Scalar.addi v198 c1_i32_116
  let v262 : Index := Scalar.indexCast v261
  let c0_117 : Index := 0#32
  let c0_118 : Index := 0#32
  ![v262.toNat, 0, 0]

def k0_chk5 (v198 : BitVec 32) : Prop :=
  (∀ a, (k0_off36 v198) a + S1x1x256.size a ≤ S37250x1x256.size a) ∧
  (∀ a, (k0_off37 v198) a + S1x1x256.size a ≤ S37250x1x256.size a) ∧
  (∀ a, (k0_off40 v198) a + S1x1x256.size a ≤ S37250x1x256.size a) ∧
  (∀ a, (k0_off41 v198) a + S1x1x256.size a ≤ S37250x1x256.size a)
theorem k0_off36_inb : ∀ (v198 : BitVec 32) (k0_hw5 : k0_chk5 v198), ∀ a, (k0_off36 v198) a + S1x1x256.size a ≤ S37250x1x256.size a := fun v198 k0_hw5 => k0_hw5.1
theorem k0_off37_inb : ∀ (v198 : BitVec 32) (k0_hw5 : k0_chk5 v198), ∀ a, (k0_off37 v198) a + S1x1x256.size a ≤ S37250x1x256.size a := fun v198 k0_hw5 => k0_hw5.2.1
theorem k0_off40_inb : ∀ (v198 : BitVec 32) (k0_hw5 : k0_chk5 v198), ∀ a, (k0_off40 v198) a + S1x1x256.size a ≤ S37250x1x256.size a := fun v198 k0_hw5 => k0_hw5.2.2.1
theorem k0_off41_inb : ∀ (v198 : BitVec 32) (k0_hw5 : k0_chk5 v198), ∀ a, (k0_off41 v198) a + S1x1x256.size a ≤ S37250x1x256.size a := fun v198 k0_hw5 => k0_hw5.2.2.2

def k0_off42 (k0_t2 : Fin k0_t2_loop.trips) (k0_t3 : Fin k0_t3_loop.trips) : Fin 2 → Nat :=
  let c0_124 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c3_i32 : BitVec 32 := 3#32
  let v275 : BitVec 32 := Scalar.addi v37 c3_i32
  let v276 : Index := Scalar.indexCast v275
  ![0, v276.toNat]
def k0_off43 (k0_t2 : Fin k0_t2_loop.trips) (k0_t3 : Fin k0_t3_loop.trips) : Fin 2 → Nat :=
  let c1_125 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c3_i32 : BitVec 32 := 3#32
  let v275 : BitVec 32 := Scalar.addi v37 c3_i32
  let v278 : Index := Scalar.indexCast v275
  ![1, v278.toNat]
def k0_off44 (k0_t2 : Fin k0_t2_loop.trips) (k0_t3 : Fin k0_t3_loop.trips) : Fin 2 → Nat :=
  let c2_126 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c3_i32 : BitVec 32 := 3#32
  let v275 : BitVec 32 := Scalar.addi v37 c3_i32
  let v280 : Index := Scalar.indexCast v275
  ![2, v280.toNat]
def k0_off45 (k0_t2 : Fin k0_t2_loop.trips) (k0_t3 : Fin k0_t3_loop.trips) : Fin 2 → Nat :=
  let c0_127 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c3_i32 : BitVec 32 := 3#32
  let v275 : BitVec 32 := Scalar.addi v37 c3_i32
  let v282 : Index := Scalar.indexCast v275
  ![0, v282.toNat]
def k0_off46 (k0_t2 : Fin k0_t2_loop.trips) (k0_t3 : Fin k0_t3_loop.trips) : Fin 2 → Nat :=
  let c1_128 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c3_i32 : BitVec 32 := 3#32
  let v275 : BitVec 32 := Scalar.addi v37 c3_i32
  let v284 : Index := Scalar.indexCast v275
  ![1, v284.toNat]
def k0_off47 (k0_t2 : Fin k0_t2_loop.trips) (k0_t3 : Fin k0_t3_loop.trips) : Fin 2 → Nat :=
  let c2_129 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c3_i32 : BitVec 32 := 3#32
  let v275 : BitVec 32 := Scalar.addi v37 c3_i32
  let v286 : Index := Scalar.indexCast v275
  ![2, v286.toNat]
def k0_off48 (k0_t2 : Fin k0_t2_loop.trips) (k0_t3 : Fin k0_t3_loop.trips) : Fin 2 → Nat :=
  let c3_130 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c3_i32 : BitVec 32 := 3#32
  let v275 : BitVec 32 := Scalar.addi v37 c3_i32
  let v288 : Index := Scalar.indexCast v275
  ![3, v288.toNat]
def k0_off49 (v277 : BitVec 32) : Fin 3 → Nat :=
  let v306 : Index := Scalar.indexCast v277
  let c0_136 : Index := 0#32
  let c0_137 : Index := 0#32
  ![v306.toNat, 0, 0]

def k0_off50 (v277 : BitVec 32) : Fin 3 → Nat :=
  let c1_i32_138 : BitVec 32 := 1#32
  let v313 : BitVec 32 := Scalar.addi v277 c1_i32_138
  let v314 : Index := Scalar.indexCast v313
  let c0_139 : Index := 0#32
  let c0_140 : Index := 0#32
  ![v314.toNat, 0, 0]
def k0_off51 (v279 : BitVec 32) : Fin 3 → Nat :=
  let v321 : Index := Scalar.indexCast v279
  let c0_141 : Index := 0#32
  let c0_142 : Index := 0#32
  ![v321.toNat, 0, 0]

def k0_off52 (v279 : BitVec 32) : Fin 3 → Nat :=
  let c1_i32_143 : BitVec 32 := 1#32
  let v328 : BitVec 32 := Scalar.addi v279 c1_i32_143
  let v329 : Index := Scalar.indexCast v328
  let c0_144 : Index := 0#32
  let c0_145 : Index := 0#32
  ![v329.toNat, 0, 0]

def k0_chk8 (v279 : BitVec 32) : Prop :=
  (∀ a, (k0_off51 v279) a + S1x1x256.size a ≤ S37250x1x256.size a) ∧
  (∀ a, (k0_off52 v279) a + S1x1x256.size a ≤ S37250x1x256.size a)
theorem k0_off51_inb : ∀ (v279 : BitVec 32) (k0_hw8 : k0_chk8 v279), ∀ a, (k0_off51 v279) a + S1x1x256.size a ≤ S37250x1x256.size a := fun v279 k0_hw8 => k0_hw8.1
theorem k0_off52_inb : ∀ (v279 : BitVec 32) (k0_hw8 : k0_chk8 v279), ∀ a, (k0_off52 v279) a + S1x1x256.size a ≤ S37250x1x256.size a := fun v279 k0_hw8 => k0_hw8.2

def k0_off53 (v277 : BitVec 32) : Fin 3 → Nat :=
  let v336 : Index := Scalar.indexCast v277
  let c0_146 : Index := 0#32
  let c0_147 : Index := 0#32
  ![v336.toNat, 0, 0]
def k0_off54 (v277 : BitVec 32) : Fin 3 → Nat :=
  let c1_i32_148 : BitVec 32 := 1#32
  let v340 : BitVec 32 := Scalar.addi v277 c1_i32_148
  let v341 : Index := Scalar.indexCast v340
  let c0_149 : Index := 0#32
  let c0_150 : Index := 0#32
  ![v341.toNat, 0, 0]

def k0_chk7 (v277 : BitVec 32) : Prop :=
  (∀ a, (k0_off49 v277) a + S1x1x256.size a ≤ S37250x1x256.size a) ∧
  (∀ a, (k0_off50 v277) a + S1x1x256.size a ≤ S37250x1x256.size a) ∧
  (∀ a, (k0_off53 v277) a + S1x1x256.size a ≤ S37250x1x256.size a) ∧
  (∀ a, (k0_off54 v277) a + S1x1x256.size a ≤ S37250x1x256.size a)
theorem k0_off49_inb : ∀ (v277 : BitVec 32) (k0_hw7 : k0_chk7 v277), ∀ a, (k0_off49 v277) a + S1x1x256.size a ≤ S37250x1x256.size a := fun v277 k0_hw7 => k0_hw7.1
theorem k0_off50_inb : ∀ (v277 : BitVec 32) (k0_hw7 : k0_chk7 v277), ∀ a, (k0_off50 v277) a + S1x1x256.size a ≤ S37250x1x256.size a := fun v277 k0_hw7 => k0_hw7.2.1
theorem k0_off53_inb : ∀ (v277 : BitVec 32) (k0_hw7 : k0_chk7 v277), ∀ a, (k0_off53 v277) a + S1x1x256.size a ≤ S37250x1x256.size a := fun v277 k0_hw7 => k0_hw7.2.2.1
theorem k0_off54_inb : ∀ (v277 : BitVec 32) (k0_hw7 : k0_chk7 v277), ∀ a, (k0_off54 v277) a + S1x1x256.size a ≤ S37250x1x256.size a := fun v277 k0_hw7 => k0_hw7.2.2.2

def k0_off55 (k0_t2 : Fin k0_t2_loop.trips) (k0_t3 : Fin k0_t3_loop.trips) : Fin 2 → Nat :=
  let c0_156 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c4_i32 : BitVec 32 := 4#32
  let v354 : BitVec 32 := Scalar.addi v37 c4_i32
  let v355 : Index := Scalar.indexCast v354
  ![0, v355.toNat]
def k0_off56 (k0_t2 : Fin k0_t2_loop.trips) (k0_t3 : Fin k0_t3_loop.trips) : Fin 2 → Nat :=
  let c1_157 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c4_i32 : BitVec 32 := 4#32
  let v354 : BitVec 32 := Scalar.addi v37 c4_i32
  let v357 : Index := Scalar.indexCast v354
  ![1, v357.toNat]
def k0_off57 (k0_t2 : Fin k0_t2_loop.trips) (k0_t3 : Fin k0_t3_loop.trips) : Fin 2 → Nat :=
  let c2_158 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c4_i32 : BitVec 32 := 4#32
  let v354 : BitVec 32 := Scalar.addi v37 c4_i32
  let v359 : Index := Scalar.indexCast v354
  ![2, v359.toNat]
def k0_off58 (k0_t2 : Fin k0_t2_loop.trips) (k0_t3 : Fin k0_t3_loop.trips) : Fin 2 → Nat :=
  let c0_159 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c4_i32 : BitVec 32 := 4#32
  let v354 : BitVec 32 := Scalar.addi v37 c4_i32
  let v361 : Index := Scalar.indexCast v354
  ![0, v361.toNat]
def k0_off59 (k0_t2 : Fin k0_t2_loop.trips) (k0_t3 : Fin k0_t3_loop.trips) : Fin 2 → Nat :=
  let c1_160 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c4_i32 : BitVec 32 := 4#32
  let v354 : BitVec 32 := Scalar.addi v37 c4_i32
  let v363 : Index := Scalar.indexCast v354
  ![1, v363.toNat]
def k0_off60 (k0_t2 : Fin k0_t2_loop.trips) (k0_t3 : Fin k0_t3_loop.trips) : Fin 2 → Nat :=
  let c2_161 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c4_i32 : BitVec 32 := 4#32
  let v354 : BitVec 32 := Scalar.addi v37 c4_i32
  let v365 : Index := Scalar.indexCast v354
  ![2, v365.toNat]
def k0_off61 (k0_t2 : Fin k0_t2_loop.trips) (k0_t3 : Fin k0_t3_loop.trips) : Fin 2 → Nat :=
  let c3_162 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c4_i32 : BitVec 32 := 4#32
  let v354 : BitVec 32 := Scalar.addi v37 c4_i32
  let v367 : Index := Scalar.indexCast v354
  ![3, v367.toNat]
def k0_off62 (v356 : BitVec 32) : Fin 3 → Nat :=
  let v385 : Index := Scalar.indexCast v356
  let c0_168 : Index := 0#32
  let c0_169 : Index := 0#32
  ![v385.toNat, 0, 0]

def k0_off63 (v356 : BitVec 32) : Fin 3 → Nat :=
  let c1_i32_170 : BitVec 32 := 1#32
  let v392 : BitVec 32 := Scalar.addi v356 c1_i32_170
  let v393 : Index := Scalar.indexCast v392
  let c0_171 : Index := 0#32
  let c0_172 : Index := 0#32
  ![v393.toNat, 0, 0]
def k0_off64 (v358 : BitVec 32) : Fin 3 → Nat :=
  let v400 : Index := Scalar.indexCast v358
  let c0_173 : Index := 0#32
  let c0_174 : Index := 0#32
  ![v400.toNat, 0, 0]

def k0_off65 (v358 : BitVec 32) : Fin 3 → Nat :=
  let c1_i32_175 : BitVec 32 := 1#32
  let v407 : BitVec 32 := Scalar.addi v358 c1_i32_175
  let v408 : Index := Scalar.indexCast v407
  let c0_176 : Index := 0#32
  let c0_177 : Index := 0#32
  ![v408.toNat, 0, 0]

def k0_chk10 (v358 : BitVec 32) : Prop :=
  (∀ a, (k0_off64 v358) a + S1x1x256.size a ≤ S37250x1x256.size a) ∧
  (∀ a, (k0_off65 v358) a + S1x1x256.size a ≤ S37250x1x256.size a)
theorem k0_off64_inb : ∀ (v358 : BitVec 32) (k0_hw10 : k0_chk10 v358), ∀ a, (k0_off64 v358) a + S1x1x256.size a ≤ S37250x1x256.size a := fun v358 k0_hw10 => k0_hw10.1
theorem k0_off65_inb : ∀ (v358 : BitVec 32) (k0_hw10 : k0_chk10 v358), ∀ a, (k0_off65 v358) a + S1x1x256.size a ≤ S37250x1x256.size a := fun v358 k0_hw10 => k0_hw10.2

def k0_off66 (v356 : BitVec 32) : Fin 3 → Nat :=
  let v415 : Index := Scalar.indexCast v356
  let c0_178 : Index := 0#32
  let c0_179 : Index := 0#32
  ![v415.toNat, 0, 0]
def k0_off67 (v356 : BitVec 32) : Fin 3 → Nat :=
  let c1_i32_180 : BitVec 32 := 1#32
  let v419 : BitVec 32 := Scalar.addi v356 c1_i32_180
  let v420 : Index := Scalar.indexCast v419
  let c0_181 : Index := 0#32
  let c0_182 : Index := 0#32
  ![v420.toNat, 0, 0]

def k0_chk9 (v356 : BitVec 32) : Prop :=
  (∀ a, (k0_off62 v356) a + S1x1x256.size a ≤ S37250x1x256.size a) ∧
  (∀ a, (k0_off63 v356) a + S1x1x256.size a ≤ S37250x1x256.size a) ∧
  (∀ a, (k0_off66 v356) a + S1x1x256.size a ≤ S37250x1x256.size a) ∧
  (∀ a, (k0_off67 v356) a + S1x1x256.size a ≤ S37250x1x256.size a)
theorem k0_off62_inb : ∀ (v356 : BitVec 32) (k0_hw9 : k0_chk9 v356), ∀ a, (k0_off62 v356) a + S1x1x256.size a ≤ S37250x1x256.size a := fun v356 k0_hw9 => k0_hw9.1
theorem k0_off63_inb : ∀ (v356 : BitVec 32) (k0_hw9 : k0_chk9 v356), ∀ a, (k0_off63 v356) a + S1x1x256.size a ≤ S37250x1x256.size a := fun v356 k0_hw9 => k0_hw9.2.1
theorem k0_off66_inb : ∀ (v356 : BitVec 32) (k0_hw9 : k0_chk9 v356), ∀ a, (k0_off66 v356) a + S1x1x256.size a ≤ S37250x1x256.size a := fun v356 k0_hw9 => k0_hw9.2.2.1
theorem k0_off67_inb : ∀ (v356 : BitVec 32) (k0_hw9 : k0_chk9 v356), ∀ a, (k0_off67 v356) a + S1x1x256.size a ≤ S37250x1x256.size a := fun v356 k0_hw9 => k0_hw9.2.2.2

def k0_off68 (k0_t2 : Fin k0_t2_loop.trips) (k0_t3 : Fin k0_t3_loop.trips) : Fin 2 → Nat :=
  let c0_188 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c5_i32 : BitVec 32 := 5#32
  let v433 : BitVec 32 := Scalar.addi v37 c5_i32
  let v434 : Index := Scalar.indexCast v433
  ![0, v434.toNat]
def k0_off69 (k0_t2 : Fin k0_t2_loop.trips) (k0_t3 : Fin k0_t3_loop.trips) : Fin 2 → Nat :=
  let c1_189 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c5_i32 : BitVec 32 := 5#32
  let v433 : BitVec 32 := Scalar.addi v37 c5_i32
  let v436 : Index := Scalar.indexCast v433
  ![1, v436.toNat]
def k0_off70 (k0_t2 : Fin k0_t2_loop.trips) (k0_t3 : Fin k0_t3_loop.trips) : Fin 2 → Nat :=
  let c2_190 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c5_i32 : BitVec 32 := 5#32
  let v433 : BitVec 32 := Scalar.addi v37 c5_i32
  let v438 : Index := Scalar.indexCast v433
  ![2, v438.toNat]
def k0_off71 (k0_t2 : Fin k0_t2_loop.trips) (k0_t3 : Fin k0_t3_loop.trips) : Fin 2 → Nat :=
  let c0_191 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c5_i32 : BitVec 32 := 5#32
  let v433 : BitVec 32 := Scalar.addi v37 c5_i32
  let v440 : Index := Scalar.indexCast v433
  ![0, v440.toNat]
def k0_off72 (k0_t2 : Fin k0_t2_loop.trips) (k0_t3 : Fin k0_t3_loop.trips) : Fin 2 → Nat :=
  let c1_192 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c5_i32 : BitVec 32 := 5#32
  let v433 : BitVec 32 := Scalar.addi v37 c5_i32
  let v442 : Index := Scalar.indexCast v433
  ![1, v442.toNat]
def k0_off73 (k0_t2 : Fin k0_t2_loop.trips) (k0_t3 : Fin k0_t3_loop.trips) : Fin 2 → Nat :=
  let c2_193 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c5_i32 : BitVec 32 := 5#32
  let v433 : BitVec 32 := Scalar.addi v37 c5_i32
  let v444 : Index := Scalar.indexCast v433
  ![2, v444.toNat]
def k0_off74 (k0_t2 : Fin k0_t2_loop.trips) (k0_t3 : Fin k0_t3_loop.trips) : Fin 2 → Nat :=
  let c3_194 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c5_i32 : BitVec 32 := 5#32
  let v433 : BitVec 32 := Scalar.addi v37 c5_i32
  let v446 : Index := Scalar.indexCast v433
  ![3, v446.toNat]
def k0_off75 (v435 : BitVec 32) : Fin 3 → Nat :=
  let v464 : Index := Scalar.indexCast v435
  let c0_200 : Index := 0#32
  let c0_201 : Index := 0#32
  ![v464.toNat, 0, 0]

def k0_off76 (v435 : BitVec 32) : Fin 3 → Nat :=
  let c1_i32_202 : BitVec 32 := 1#32
  let v471 : BitVec 32 := Scalar.addi v435 c1_i32_202
  let v472 : Index := Scalar.indexCast v471
  let c0_203 : Index := 0#32
  let c0_204 : Index := 0#32
  ![v472.toNat, 0, 0]
def k0_off77 (v437 : BitVec 32) : Fin 3 → Nat :=
  let v479 : Index := Scalar.indexCast v437
  let c0_205 : Index := 0#32
  let c0_206 : Index := 0#32
  ![v479.toNat, 0, 0]

def k0_off78 (v437 : BitVec 32) : Fin 3 → Nat :=
  let c1_i32_207 : BitVec 32 := 1#32
  let v486 : BitVec 32 := Scalar.addi v437 c1_i32_207
  let v487 : Index := Scalar.indexCast v486
  let c0_208 : Index := 0#32
  let c0_209 : Index := 0#32
  ![v487.toNat, 0, 0]

def k0_chk12 (v437 : BitVec 32) : Prop :=
  (∀ a, (k0_off77 v437) a + S1x1x256.size a ≤ S37250x1x256.size a) ∧
  (∀ a, (k0_off78 v437) a + S1x1x256.size a ≤ S37250x1x256.size a)
theorem k0_off77_inb : ∀ (v437 : BitVec 32) (k0_hw12 : k0_chk12 v437), ∀ a, (k0_off77 v437) a + S1x1x256.size a ≤ S37250x1x256.size a := fun v437 k0_hw12 => k0_hw12.1
theorem k0_off78_inb : ∀ (v437 : BitVec 32) (k0_hw12 : k0_chk12 v437), ∀ a, (k0_off78 v437) a + S1x1x256.size a ≤ S37250x1x256.size a := fun v437 k0_hw12 => k0_hw12.2

def k0_off79 (v435 : BitVec 32) : Fin 3 → Nat :=
  let v494 : Index := Scalar.indexCast v435
  let c0_210 : Index := 0#32
  let c0_211 : Index := 0#32
  ![v494.toNat, 0, 0]
def k0_off80 (v435 : BitVec 32) : Fin 3 → Nat :=
  let c1_i32_212 : BitVec 32 := 1#32
  let v498 : BitVec 32 := Scalar.addi v435 c1_i32_212
  let v499 : Index := Scalar.indexCast v498
  let c0_213 : Index := 0#32
  let c0_214 : Index := 0#32
  ![v499.toNat, 0, 0]

def k0_chk11 (v435 : BitVec 32) : Prop :=
  (∀ a, (k0_off75 v435) a + S1x1x256.size a ≤ S37250x1x256.size a) ∧
  (∀ a, (k0_off76 v435) a + S1x1x256.size a ≤ S37250x1x256.size a) ∧
  (∀ a, (k0_off79 v435) a + S1x1x256.size a ≤ S37250x1x256.size a) ∧
  (∀ a, (k0_off80 v435) a + S1x1x256.size a ≤ S37250x1x256.size a)
theorem k0_off75_inb : ∀ (v435 : BitVec 32) (k0_hw11 : k0_chk11 v435), ∀ a, (k0_off75 v435) a + S1x1x256.size a ≤ S37250x1x256.size a := fun v435 k0_hw11 => k0_hw11.1
theorem k0_off76_inb : ∀ (v435 : BitVec 32) (k0_hw11 : k0_chk11 v435), ∀ a, (k0_off76 v435) a + S1x1x256.size a ≤ S37250x1x256.size a := fun v435 k0_hw11 => k0_hw11.2.1
theorem k0_off79_inb : ∀ (v435 : BitVec 32) (k0_hw11 : k0_chk11 v435), ∀ a, (k0_off79 v435) a + S1x1x256.size a ≤ S37250x1x256.size a := fun v435 k0_hw11 => k0_hw11.2.2.1
theorem k0_off80_inb : ∀ (v435 : BitVec 32) (k0_hw11 : k0_chk11 v435), ∀ a, (k0_off80 v435) a + S1x1x256.size a ≤ S37250x1x256.size a := fun v435 k0_hw11 => k0_hw11.2.2.2

def k0_off81 (k0_t2 : Fin k0_t2_loop.trips) (k0_t3 : Fin k0_t3_loop.trips) : Fin 2 → Nat :=
  let c0_220 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c6_i32 : BitVec 32 := 6#32
  let v512 : BitVec 32 := Scalar.addi v37 c6_i32
  let v513 : Index := Scalar.indexCast v512
  ![0, v513.toNat]
def k0_off82 (k0_t2 : Fin k0_t2_loop.trips) (k0_t3 : Fin k0_t3_loop.trips) : Fin 2 → Nat :=
  let c1_221 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c6_i32 : BitVec 32 := 6#32
  let v512 : BitVec 32 := Scalar.addi v37 c6_i32
  let v515 : Index := Scalar.indexCast v512
  ![1, v515.toNat]
def k0_off83 (k0_t2 : Fin k0_t2_loop.trips) (k0_t3 : Fin k0_t3_loop.trips) : Fin 2 → Nat :=
  let c2_222 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c6_i32 : BitVec 32 := 6#32
  let v512 : BitVec 32 := Scalar.addi v37 c6_i32
  let v517 : Index := Scalar.indexCast v512
  ![2, v517.toNat]
def k0_off84 (k0_t2 : Fin k0_t2_loop.trips) (k0_t3 : Fin k0_t3_loop.trips) : Fin 2 → Nat :=
  let c0_223 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c6_i32 : BitVec 32 := 6#32
  let v512 : BitVec 32 := Scalar.addi v37 c6_i32
  let v519 : Index := Scalar.indexCast v512
  ![0, v519.toNat]
def k0_off85 (k0_t2 : Fin k0_t2_loop.trips) (k0_t3 : Fin k0_t3_loop.trips) : Fin 2 → Nat :=
  let c1_224 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c6_i32 : BitVec 32 := 6#32
  let v512 : BitVec 32 := Scalar.addi v37 c6_i32
  let v521 : Index := Scalar.indexCast v512
  ![1, v521.toNat]
def k0_off86 (k0_t2 : Fin k0_t2_loop.trips) (k0_t3 : Fin k0_t3_loop.trips) : Fin 2 → Nat :=
  let c2_225 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c6_i32 : BitVec 32 := 6#32
  let v512 : BitVec 32 := Scalar.addi v37 c6_i32
  let v523 : Index := Scalar.indexCast v512
  ![2, v523.toNat]
def k0_off87 (k0_t2 : Fin k0_t2_loop.trips) (k0_t3 : Fin k0_t3_loop.trips) : Fin 2 → Nat :=
  let c3_226 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c6_i32 : BitVec 32 := 6#32
  let v512 : BitVec 32 := Scalar.addi v37 c6_i32
  let v525 : Index := Scalar.indexCast v512
  ![3, v525.toNat]
def k0_off88 (v514 : BitVec 32) : Fin 3 → Nat :=
  let v543 : Index := Scalar.indexCast v514
  let c0_232 : Index := 0#32
  let c0_233 : Index := 0#32
  ![v543.toNat, 0, 0]

def k0_off89 (v514 : BitVec 32) : Fin 3 → Nat :=
  let c1_i32_234 : BitVec 32 := 1#32
  let v550 : BitVec 32 := Scalar.addi v514 c1_i32_234
  let v551 : Index := Scalar.indexCast v550
  let c0_235 : Index := 0#32
  let c0_236 : Index := 0#32
  ![v551.toNat, 0, 0]
def k0_off90 (v516 : BitVec 32) : Fin 3 → Nat :=
  let v558 : Index := Scalar.indexCast v516
  let c0_237 : Index := 0#32
  let c0_238 : Index := 0#32
  ![v558.toNat, 0, 0]

def k0_off91 (v516 : BitVec 32) : Fin 3 → Nat :=
  let c1_i32_239 : BitVec 32 := 1#32
  let v565 : BitVec 32 := Scalar.addi v516 c1_i32_239
  let v566 : Index := Scalar.indexCast v565
  let c0_240 : Index := 0#32
  let c0_241 : Index := 0#32
  ![v566.toNat, 0, 0]

def k0_chk14 (v516 : BitVec 32) : Prop :=
  (∀ a, (k0_off90 v516) a + S1x1x256.size a ≤ S37250x1x256.size a) ∧
  (∀ a, (k0_off91 v516) a + S1x1x256.size a ≤ S37250x1x256.size a)
theorem k0_off90_inb : ∀ (v516 : BitVec 32) (k0_hw14 : k0_chk14 v516), ∀ a, (k0_off90 v516) a + S1x1x256.size a ≤ S37250x1x256.size a := fun v516 k0_hw14 => k0_hw14.1
theorem k0_off91_inb : ∀ (v516 : BitVec 32) (k0_hw14 : k0_chk14 v516), ∀ a, (k0_off91 v516) a + S1x1x256.size a ≤ S37250x1x256.size a := fun v516 k0_hw14 => k0_hw14.2

def k0_off92 (v514 : BitVec 32) : Fin 3 → Nat :=
  let v573 : Index := Scalar.indexCast v514
  let c0_242 : Index := 0#32
  let c0_243 : Index := 0#32
  ![v573.toNat, 0, 0]
def k0_off93 (v514 : BitVec 32) : Fin 3 → Nat :=
  let c1_i32_244 : BitVec 32 := 1#32
  let v577 : BitVec 32 := Scalar.addi v514 c1_i32_244
  let v578 : Index := Scalar.indexCast v577
  let c0_245 : Index := 0#32
  let c0_246 : Index := 0#32
  ![v578.toNat, 0, 0]

def k0_chk13 (v514 : BitVec 32) : Prop :=
  (∀ a, (k0_off88 v514) a + S1x1x256.size a ≤ S37250x1x256.size a) ∧
  (∀ a, (k0_off89 v514) a + S1x1x256.size a ≤ S37250x1x256.size a) ∧
  (∀ a, (k0_off92 v514) a + S1x1x256.size a ≤ S37250x1x256.size a) ∧
  (∀ a, (k0_off93 v514) a + S1x1x256.size a ≤ S37250x1x256.size a)
theorem k0_off88_inb : ∀ (v514 : BitVec 32) (k0_hw13 : k0_chk13 v514), ∀ a, (k0_off88 v514) a + S1x1x256.size a ≤ S37250x1x256.size a := fun v514 k0_hw13 => k0_hw13.1
theorem k0_off89_inb : ∀ (v514 : BitVec 32) (k0_hw13 : k0_chk13 v514), ∀ a, (k0_off89 v514) a + S1x1x256.size a ≤ S37250x1x256.size a := fun v514 k0_hw13 => k0_hw13.2.1
theorem k0_off92_inb : ∀ (v514 : BitVec 32) (k0_hw13 : k0_chk13 v514), ∀ a, (k0_off92 v514) a + S1x1x256.size a ≤ S37250x1x256.size a := fun v514 k0_hw13 => k0_hw13.2.2.1
theorem k0_off93_inb : ∀ (v514 : BitVec 32) (k0_hw13 : k0_chk13 v514), ∀ a, (k0_off93 v514) a + S1x1x256.size a ≤ S37250x1x256.size a := fun v514 k0_hw13 => k0_hw13.2.2.2

def k0_off94 (k0_t2 : Fin k0_t2_loop.trips) (k0_t3 : Fin k0_t3_loop.trips) : Fin 2 → Nat :=
  let c0_252 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c7_i32 : BitVec 32 := 7#32
  let v591 : BitVec 32 := Scalar.addi v37 c7_i32
  let v592 : Index := Scalar.indexCast v591
  ![0, v592.toNat]
def k0_off95 (k0_t2 : Fin k0_t2_loop.trips) (k0_t3 : Fin k0_t3_loop.trips) : Fin 2 → Nat :=
  let c1_253 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c7_i32 : BitVec 32 := 7#32
  let v591 : BitVec 32 := Scalar.addi v37 c7_i32
  let v594 : Index := Scalar.indexCast v591
  ![1, v594.toNat]
def k0_off96 (k0_t2 : Fin k0_t2_loop.trips) (k0_t3 : Fin k0_t3_loop.trips) : Fin 2 → Nat :=
  let c2_254 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c7_i32 : BitVec 32 := 7#32
  let v591 : BitVec 32 := Scalar.addi v37 c7_i32
  let v596 : Index := Scalar.indexCast v591
  ![2, v596.toNat]
def k0_off97 (k0_t2 : Fin k0_t2_loop.trips) (k0_t3 : Fin k0_t3_loop.trips) : Fin 2 → Nat :=
  let c0_255 : Index := 0#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c7_i32 : BitVec 32 := 7#32
  let v591 : BitVec 32 := Scalar.addi v37 c7_i32
  let v598 : Index := Scalar.indexCast v591
  ![0, v598.toNat]
def k0_off98 (k0_t2 : Fin k0_t2_loop.trips) (k0_t3 : Fin k0_t3_loop.trips) : Fin 2 → Nat :=
  let c1_256 : Index := 1#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c7_i32 : BitVec 32 := 7#32
  let v591 : BitVec 32 := Scalar.addi v37 c7_i32
  let v600 : Index := Scalar.indexCast v591
  ![1, v600.toNat]
def k0_off99 (k0_t2 : Fin k0_t2_loop.trips) (k0_t3 : Fin k0_t3_loop.trips) : Fin 2 → Nat :=
  let c2_257 : Index := 2#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c7_i32 : BitVec 32 := 7#32
  let v591 : BitVec 32 := Scalar.addi v37 c7_i32
  let v602 : Index := Scalar.indexCast v591
  ![2, v602.toNat]
def k0_off100 (k0_t2 : Fin k0_t2_loop.trips) (k0_t3 : Fin k0_t3_loop.trips) : Fin 2 → Nat :=
  let c3_258 : Index := 3#32
  let c0_i32_23 : BitVec 32 := 0#32
  let c1_i32_24 : BitVec 32 := 1#32
  let arg11 : BitVec 32 := Scf.iv c0_i32_23 c1_i32_24 k0_t2
  let c96_i32 : BitVec 32 := 96#32
  let v35 : BitVec 32 := Scalar.muli arg11 c96_i32
  let c0_i32_27 : BitVec 32 := 0#32
  let c1_i32_28 : BitVec 32 := 1#32
  let arg12 : BitVec 32 := Scf.iv c0_i32_27 c1_i32_28 k0_t3
  let c8_i32 : BitVec 32 := 8#32
  let v36 : BitVec 32 := Scalar.muli arg12 c8_i32
  let v37 : BitVec 32 := Scalar.addi v35 v36
  let c7_i32 : BitVec 32 := 7#32
  let v591 : BitVec 32 := Scalar.addi v37 c7_i32
  let v604 : Index := Scalar.indexCast v591
  ![3, v604.toNat]
def k0_off101 (v593 : BitVec 32) : Fin 3 → Nat :=
  let v622 : Index := Scalar.indexCast v593
  let c0_264 : Index := 0#32
  let c0_265 : Index := 0#32
  ![v622.toNat, 0, 0]

def k0_off102 (v593 : BitVec 32) : Fin 3 → Nat :=
  let c1_i32_266 : BitVec 32 := 1#32
  let v629 : BitVec 32 := Scalar.addi v593 c1_i32_266
  let v630 : Index := Scalar.indexCast v629
  let c0_267 : Index := 0#32
  let c0_268 : Index := 0#32
  ![v630.toNat, 0, 0]
def k0_off103 (v595 : BitVec 32) : Fin 3 → Nat :=
  let v637 : Index := Scalar.indexCast v595
  let c0_269 : Index := 0#32
  let c0_270 : Index := 0#32
  ![v637.toNat, 0, 0]

def k0_off104 (v595 : BitVec 32) : Fin 3 → Nat :=
  let c1_i32_271 : BitVec 32 := 1#32
  let v644 : BitVec 32 := Scalar.addi v595 c1_i32_271
  let v645 : Index := Scalar.indexCast v644
  let c0_272 : Index := 0#32
  let c0_273 : Index := 0#32
  ![v645.toNat, 0, 0]

def k0_chk16 (v595 : BitVec 32) : Prop :=
  (∀ a, (k0_off103 v595) a + S1x1x256.size a ≤ S37250x1x256.size a) ∧
  (∀ a, (k0_off104 v595) a + S1x1x256.size a ≤ S37250x1x256.size a)
theorem k0_off103_inb : ∀ (v595 : BitVec 32) (k0_hw16 : k0_chk16 v595), ∀ a, (k0_off103 v595) a + S1x1x256.size a ≤ S37250x1x256.size a := fun v595 k0_hw16 => k0_hw16.1
theorem k0_off104_inb : ∀ (v595 : BitVec 32) (k0_hw16 : k0_chk16 v595), ∀ a, (k0_off104 v595) a + S1x1x256.size a ≤ S37250x1x256.size a := fun v595 k0_hw16 => k0_hw16.2

def k0_off105 (v593 : BitVec 32) : Fin 3 → Nat :=
  let v652 : Index := Scalar.indexCast v593
  let c0_274 : Index := 0#32
  let c0_275 : Index := 0#32
  ![v652.toNat, 0, 0]
def k0_off106 (v593 : BitVec 32) : Fin 3 → Nat :=
  let c1_i32_276 : BitVec 32 := 1#32
  let v656 : BitVec 32 := Scalar.addi v593 c1_i32_276
  let v657 : Index := Scalar.indexCast v656
  let c0_277 : Index := 0#32
  let c0_278 : Index := 0#32
  ![v657.toNat, 0, 0]

def k0_chk15 (v593 : BitVec 32) : Prop :=
  (∀ a, (k0_off101 v593) a + S1x1x256.size a ≤ S37250x1x256.size a) ∧
  (∀ a, (k0_off102 v593) a + S1x1x256.size a ≤ S37250x1x256.size a) ∧
  (∀ a, (k0_off105 v593) a + S1x1x256.size a ≤ S37250x1x256.size a) ∧
  (∀ a, (k0_off106 v593) a + S1x1x256.size a ≤ S37250x1x256.size a)
theorem k0_off101_inb : ∀ (v593 : BitVec 32) (k0_hw15 : k0_chk15 v593), ∀ a, (k0_off101 v593) a + S1x1x256.size a ≤ S37250x1x256.size a := fun v593 k0_hw15 => k0_hw15.1
theorem k0_off102_inb : ∀ (v593 : BitVec 32) (k0_hw15 : k0_chk15 v593), ∀ a, (k0_off102 v593) a + S1x1x256.size a ≤ S37250x1x256.size a := fun v593 k0_hw15 => k0_hw15.2.1
theorem k0_off105_inb : ∀ (v593 : BitVec 32) (k0_hw15 : k0_chk15 v593), ∀ a, (k0_off105 v593) a + S1x1x256.size a ≤ S37250x1x256.size a := fun v593 k0_hw15 => k0_hw15.2.2.1
theorem k0_off106_inb : ∀ (v593 : BitVec 32) (k0_hw15 : k0_chk15 v593), ∀ a, (k0_off106 v593) a + S1x1x256.size a ≤ S37250x1x256.size a := fun v593 k0_hw15 => k0_hw15.2.2.2

def k0_cond2 (i : grid0.Coords) : BitVec 1 :=
  let arg1 : BitVec 32 := BitVec.ofNat 32 (i 1).val
  let c499_i32 : BitVec 32 := 499#32
  let v29 : BitVec 1 := Scalar.cmpi .eq arg1 c499_i32
  let v30 : BitVec 32 := Scalar.extui v29
  let c0_i32_26 : BitVec 32 := 0#32
  let v31 : BitVec 1 := Scalar.cmpi .ne v30 c0_i32_26
  v31

def k0_off107 (i : grid0.Coords) : Fin 3 → Nat :=
  let arg0 : BitVec 32 := BitVec.ofNat 32 (i 0).val
  let c37250_i32 : BitVec 32 := 37250#32
  let v32 : BitVec 32 := Scalar.muli arg0 c37250_i32
  let c0_i32_27 : BitVec 32 := 0#32
  let c0_i32_28 : BitVec 32 := 0#32
  ![v32.toNat, 0, 0]
def cc0_transform_0 (i : grid0.Coords) : Fin 3 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c500_i32 : BitVec 32 := 500#32
  let v0 : BitVec 32 := Scalar.muli arg0 c500_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x3x4800 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x4800 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x50 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S3 : Shape := ⟨1, ![3]⟩
abbrev S50000x6 : Shape := ⟨2, ![50000, 6]⟩
abbrev S1000x1x50 : Shape := ⟨3, ![1000, 1, 50]⟩
abbrev S6x50000 : Shape := ⟨2, ![6, 50000]⟩
abbrev S3x50000 : Shape := ⟨2, ![3, 50000]⟩
abbrev S50000x3 : Shape := ⟨2, ![50000, 3]⟩
abbrev S96 : Shape := ⟨1, ![96]⟩
abbrev S_ : Shape := ⟨0, ![]⟩
abbrev S50000x1x3 : Shape := ⟨3, ![50000, 1, 3]⟩
abbrev S1x96x1 : Shape := ⟨3, ![1, 96, 1]⟩
abbrev S50000x96x3 : Shape := ⟨3, ![50000, 96, 3]⟩
abbrev S1x1x3 : Shape := ⟨3, ![1, 1, 3]⟩
abbrev S50000x96x1x3 : Shape := ⟨4, ![50000, 96, 1, 3]⟩
abbrev S8 : Shape := ⟨1, ![8]⟩
abbrev S8x1 : Shape := ⟨2, ![8, 1]⟩
abbrev S8x3 : Shape := ⟨2, ![8, 3]⟩
abbrev S1x1x8x3 : Shape := ⟨4, ![1, 1, 8, 3]⟩
abbrev S50000x96x8x3 : Shape := ⟨4, ![50000, 96, 8, 3]⟩
abbrev S50000x96x8x1 : Shape := ⟨4, ![50000, 96, 8, 1]⟩
abbrev S50000x96x8 : Shape := ⟨3, ![50000, 96, 8]⟩
abbrev S1x1x1x3 : Shape := ⟨4, ![1, 1, 1, 3]⟩
abbrev S50000 : Shape := ⟨1, ![50000]⟩
abbrev S50000x1x1 : Shape := ⟨3, ![50000, 1, 1]⟩
abbrev S2x192x192x192 : Shape := ⟨4, ![2, 192, 192, 192]⟩
abbrev S50000x96x8x4 : Shape := ⟨4, ![50000, 96, 8, 4]⟩
abbrev S384x192x192 : Shape := ⟨3, ![384, 192, 192]⟩

abbrev nBuf : Space → Nat
  | .hbm => 163
  | .vmem => 0
  | .smem => 0
  | _ => 0

abbrev hbmTy0_0 (i : Nat) : BufTy := match i % 128 with
  | 0 => ⟨S3, .f32⟩
  | 1 => ⟨S3, .f32⟩
  | 2 => ⟨S50000x6, .f32⟩
  | 3 => ⟨S1000x1x50, .f32⟩
  | 4 => ⟨S3, .f32⟩
  | 5 => ⟨S3, .i32⟩
  | 6 => ⟨S6x50000, .f32⟩
  | 7 => ⟨S3x50000, .f32⟩
  | 8 => ⟨S50000x3, .f32⟩
  | 9 => ⟨S3x50000, .f32⟩
  | 10 => ⟨S50000x3, .f32⟩
  | 11 => ⟨S96, .f32⟩
  | 12 => ⟨S_, .f32⟩
  | 13 => ⟨S96, .f32⟩
  | 14 => ⟨S96, .f32⟩
  | 15 => ⟨S_, .f32⟩
  | 16 => ⟨S96, .f32⟩
  | 17 => ⟨S96, .f32⟩
  | 18 => ⟨S50000x1x3, .f32⟩
  | 19 => ⟨S1x96x1, .f32⟩
  | 20 => ⟨S50000x3, .f32⟩
  | 21 => ⟨S50000x1x3, .f32⟩
  | 22 => ⟨S50000x96x3, .f32⟩
  | 23 => ⟨S50000x96x3, .f32⟩
  | 24 => ⟨S50000x96x3, .f32⟩
  | 25 => ⟨S50000x96x3, .f32⟩
  | 26 => ⟨S50000x96x3, .f32⟩
  | 27 => ⟨S3, .f32⟩
  | 28 => ⟨S_, .f32⟩
  | 29 => ⟨S3, .f32⟩
  | 30 => ⟨S3, .f32⟩
  | 31 => ⟨S3, .f32⟩
  | 32 => ⟨S1x1x3, .f32⟩
  | 33 => ⟨S50000x96x3, .f32⟩
  | 34 => ⟨S50000x96x3, .f32⟩
  | 35 => ⟨S1x1x3, .f32⟩
  | 36 => ⟨S50000x96x3, .f32⟩
  | 37 => ⟨S50000x96x3, .f32⟩
  | 38 => ⟨S_, .f32⟩
  | 39 => ⟨S50000x96x3, .f32⟩
  | 40 => ⟨S50000x96x3, .f32⟩
  | 41 => ⟨S50000x96x3, .f32⟩
  | 42 => ⟨S50000x96x3, .f32⟩
  | 43 => ⟨S50000x96x1x3, .f32⟩
  | 44 => ⟨S8, .i32⟩
  | 45 => ⟨S_, .i32⟩
  | 46 => ⟨S8, .i32⟩
  | 47 => ⟨S8, .i32⟩
  | 48 => ⟨S_, .i32⟩
  | 49 => ⟨S8, .i32⟩
  | 50 => ⟨S8, .i32⟩
  | 51 => ⟨S_, .i32⟩
  | 52 => ⟨S8, .i32⟩
  | 53 => ⟨S8, .i32⟩
  | 54 => ⟨S_, .i32⟩
  | 55 => ⟨S8, .i32⟩
  | 56 => ⟨S8, .i32⟩
  | 57 => ⟨S_, .i32⟩
  | 58 => ⟨S8, .i32⟩
  | 59 => ⟨S8, .i32⟩
  | 60 => ⟨S8x1, .i32⟩
  | 61 => ⟨S8x1, .i32⟩
  | 62 => ⟨S8x1, .i32⟩
  | 63 => ⟨S8x3, .i32⟩
  | 64 => ⟨S50000x96x3, .i32⟩
  | 65 => ⟨S50000x96x1x3, .i32⟩
  | 66 => ⟨S1x1x8x3, .i32⟩
  | 67 => ⟨S50000x96x8x3, .i32⟩
  | 68 => ⟨S50000x96x8x3, .i32⟩
  | 69 => ⟨S50000x96x8x3, .i32⟩
  | 70 => ⟨S_, .i32⟩
  | 71 => ⟨S8x3, .i32⟩
  | 72 => ⟨S8x3, .i1⟩
  | 73 => ⟨S_, .f32⟩
  | 74 => ⟨S50000x96x1x3, .f32⟩
  | 75 => ⟨S50000x96x1x3, .f32⟩
  | 76 => ⟨S50000x96x8x3, .i1⟩
  | 77 => ⟨S50000x96x8x3, .f32⟩
  | 78 => ⟨S50000x96x8x3, .f32⟩
  | 79 => ⟨S50000x96x8x3, .f32⟩
  | 80 => ⟨S50000x96x8x1, .f32⟩
  | 81 => ⟨S50000x96x8, .f32⟩
  | 82 => ⟨S50000x96x8x1, .f32⟩
  | 83 => ⟨S50000x96x8, .f32⟩
  | 84 => ⟨S50000x96x8, .f32⟩
  | 85 => ⟨S50000x96x8x1, .f32⟩
  | 86 => ⟨S50000x96x8, .f32⟩
  | 87 => ⟨S50000x96x8, .f32⟩
  | 88 => ⟨S_, .i32⟩
  | 89 => ⟨S50000x96x8x3, .i32⟩
  | 90 => ⟨S50000x96x8x3, .i1⟩
  | 91 => ⟨S1x1x1x3, .i32⟩
  | 92 => ⟨S50000x96x8x3, .i32⟩
  | 93 => ⟨S50000x96x8x3, .i1⟩
  | 94 => ⟨S50000x96x8x3, .i1⟩
  | 95 => ⟨S50000x96x8x1, .i1⟩
  | 96 => ⟨S50000x96x8, .i1⟩
  | 97 => ⟨S50000x96x8x1, .i1⟩
  | 98 => ⟨S50000x96x8, .i1⟩
  | 99 => ⟨S50000x96x8, .i1⟩
  | 100 => ⟨S50000x96x8x1, .i1⟩
  | 101 => ⟨S50000x96x8, .i1⟩
  | 102 => ⟨S50000x96x8, .i1⟩
  | 103 => ⟨S_, .f32⟩
  | 104 => ⟨S50000x96x8, .f32⟩
  | 105 => ⟨S50000x96x8, .f32⟩
  | 106 => ⟨S_, .i32⟩
  | 107 => ⟨S3, .i32⟩
  | 108 => ⟨S3, .i32⟩
  | 109 => ⟨S_, .i32⟩
  | 110 => ⟨S_, .i32⟩
  | 111 => ⟨S50000x96x8x3, .i32⟩
  | 112 => ⟨S50000x96x8x3, .i32⟩
  | 113 => ⟨S1x1x1x3, .i32⟩
  | 114 => ⟨S50000x96x8x3, .i32⟩
  | 115 => ⟨S50000x96x8x3, .i32⟩
  | 116 => ⟨S50000x96x8x1, .i32⟩
  | 117 => ⟨S50000x96x8, .i32⟩
  | 118 => ⟨S50000x96x8x1, .i32⟩
  | 119 => ⟨S50000x96x8, .i32⟩
  | 120 => ⟨S50000x96x8x1, .i32⟩
  | 121 => ⟨S50000x96x8, .i32⟩
  | 122 => ⟨S50000, .i32⟩
  | 123 => ⟨S_, .i32⟩
  | 124 => ⟨S50000, .i32⟩
  | 125 => ⟨S50000, .i1⟩
  | 126 => ⟨S50000, .i32⟩
  | 127 => ⟨S50000x1x1, .i32⟩
  | _ => ⟨S3, .f32⟩

abbrev hbmTy0_1 (i : Nat) : BufTy := match i % 128 with
  | 0 => ⟨S6x50000, .f32⟩
  | 1 => ⟨S3x50000, .f32⟩
  | 2 => ⟨S50000x3, .f32⟩
  | 3 => ⟨S3x50000, .f32⟩
  | 4 => ⟨S50000x3, .f32⟩
  | 5 => ⟨S50000x3, .f32⟩
  | 6 => ⟨S50000x3, .f32⟩
  | 7 => ⟨S_, .f32⟩
  | 8 => ⟨S50000, .f32⟩
  | 9 => ⟨S50000, .f32⟩
  | 10 => ⟨S_, .f32⟩
  | 11 => ⟨S50000, .f32⟩
  | 12 => ⟨S50000, .f32⟩
  | 13 => ⟨S50000, .f32⟩
  | 14 => ⟨S50000, .f32⟩
  | 15 => ⟨S_, .f32⟩
  | 16 => ⟨S50000, .f32⟩
  | 17 => ⟨S50000, .f32⟩
  | 18 => ⟨S50000, .f32⟩
  | 19 => ⟨S_, .f32⟩
  | 20 => ⟨S50000, .f32⟩
  | 21 => ⟨S50000, .f32⟩
  | 22 => ⟨S50000x1x1, .f32⟩
  | 23 => ⟨S_, .f32⟩
  | 24 => ⟨S2x192x192x192, .f32⟩
  | 25 => ⟨S50000x96x8, .f32⟩
  | 26 => ⟨S50000x96x8, .f32⟩
  | 27 => ⟨S50000x96x8, .i32⟩
  | 28 => ⟨S50000x96x8x1, .i32⟩
  | 29 => ⟨S50000x96x8x1, .i32⟩
  | 30 => ⟨S50000x96x8x1, .i32⟩
  | 31 => ⟨S50000x96x8x1, .i32⟩
  | 32 => ⟨S50000x96x8x4, .i32⟩
  | 33 => ⟨S2x192x192x192, .f32⟩
  | 34 => ⟨S384x192x192, .f32⟩
  | _ => ⟨S3, .f32⟩

abbrev hbmTy (i : Nat) : BufTy := match i / 128 with
  | 0 => hbmTy0_0 i
  | 1 => hbmTy0_1 i
  | _ => ⟨S3, .f32⟩

abbrev bufTy : (tb : Table) → Fin (tcTables nBuf tb) → BufTy
  | .hbm, ⟨i, _⟩ => hbmTy i
  | _, _ => ⟨S3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_c_4 : Ref sig .tc := ⟨.hbm, 45, rfl⟩
abbrev main_v35 : Ref sig .tc := ⟨.hbm, 46, rfl⟩
abbrev main_v36 : Ref sig .tc := ⟨.hbm, 47, rfl⟩
abbrev main_c_5 : Ref sig .tc := ⟨.hbm, 48, rfl⟩
abbrev main_v37 : Ref sig .tc := ⟨.hbm, 49, rfl⟩
abbrev main_v38 : Ref sig .tc := ⟨.hbm, 50, rfl⟩
abbrev main_c_6 : Ref sig .tc := ⟨.hbm, 51, rfl⟩
abbrev main_v39 : Ref sig .tc := ⟨.hbm, 52, rfl⟩
abbrev main_v40 : Ref sig .tc := ⟨.hbm, 53, rfl⟩
abbrev main_c_7 : Ref sig .tc := ⟨.hbm, 54, rfl⟩
abbrev main_v41 : Ref sig .tc := ⟨.hbm, 55, rfl⟩
abbrev main_v42 : Ref sig .tc := ⟨.hbm, 56, rfl⟩
abbrev main_c_8 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_v54 : Ref sig .tc := ⟨.hbm, 69, rfl⟩
abbrev main_c_9 : Ref sig .tc := ⟨.hbm, 70, rfl⟩
abbrev main_v55 : Ref sig .tc := ⟨.hbm, 71, rfl⟩
abbrev main_v56 : Ref sig .tc := ⟨.hbm, 72, rfl⟩
abbrev main_cst_10 : Ref sig .tc := ⟨.hbm, 73, rfl⟩
abbrev main_v57 : Ref sig .tc := ⟨.hbm, 74, rfl⟩
abbrev main_v58 : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_c_11 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_cst_12 : Ref sig .tc := ⟨.hbm, 103, rfl⟩
abbrev main_v82 : Ref sig .tc := ⟨.hbm, 104, rfl⟩
abbrev main_v83 : Ref sig .tc := ⟨.hbm, 105, rfl⟩
abbrev main_c_13 : Ref sig .tc := ⟨.hbm, 106, rfl⟩
abbrev main_v84 : Ref sig .tc := ⟨.hbm, 107, rfl⟩
abbrev main_v85 : Ref sig .tc := ⟨.hbm, 108, rfl⟩
abbrev main_c_14 : Ref sig .tc := ⟨.hbm, 109, rfl⟩
abbrev main_call2_v0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_v86 : Ref sig .tc := ⟨.hbm, 115, rfl⟩
abbrev main_v87 : Ref sig .tc := ⟨.hbm, 116, rfl⟩
abbrev main_v88 : Ref sig .tc := ⟨.hbm, 117, rfl⟩
abbrev main_v89 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_c_15 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_call3_v0 : Ref sig .tc := ⟨.hbm, 134, rfl⟩
abbrev main_call3_cst : Ref sig .tc := ⟨.hbm, 135, rfl⟩
abbrev main_call3_v1 : Ref sig .tc := ⟨.hbm, 136, rfl⟩
abbrev main_v104 : Ref sig .tc := ⟨.hbm, 137, rfl⟩
abbrev main_cst_16 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_cst_17 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_cst_18 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_cst_19 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩

abbrev nD : Nat := 1
abbrev τ : Topo := Topo.v7x

variable {F : FTy → Type} [FloatOps F]
-- ==== Kernel3.lean ====
abbrev S192x192x192 : Shape := ⟨3, ![192, 192, 192]⟩
abbrev S384x192x192 : Shape := ⟨3, ![384, 192, 192]⟩
abbrev S8x192x192 : Shape := ⟨3, ![8, 192, 192]⟩

abbrev nBuf : Space → Nat
  | .hbm => 6
  | .vmem => 18
  | .smem => 0
  | _ => 0

abbrev bufTy : (tb : Table) → Fin (tcTables nBuf tb) → BufTy
  | .hbm, ⟨0, _⟩ => ⟨S192x192x192, .f32⟩
  | .hbm, ⟨1, _⟩ => ⟨S192x192x192, .f32⟩
  | .hbm, ⟨2, _⟩ => ⟨S384x192x192, .f32⟩
  | .hbm, ⟨3, _⟩ => ⟨S384x192x192, .f32⟩
  | .hbm, ⟨4, _⟩ => ⟨S384x192x192, .f32⟩
  | .hbm, ⟨5, _⟩ => ⟨S192x192x192, .f32⟩
  | .local _ .vmem, ⟨0, _⟩ => ⟨S8x192x192, .f32⟩
  | .local _ .vmem, ⟨1, _⟩ => ⟨S8x192x192, .f32⟩
  | .local _ .vmem, ⟨2, _⟩ => ⟨S8x192x192, .f32⟩
  | .local _ .vmem, ⟨3, _⟩ => ⟨S8x192x192, .f32⟩
  | .local _ .vmem, ⟨4, _⟩ => ⟨S8x192x192, .f32⟩
  | .local _ .vmem, ⟨5, _⟩ => ⟨S8x192x192, .f32⟩
  | .local _ .vmem, ⟨6, _⟩ => ⟨S8x192x192, .f32⟩
  | .local _ .vmem, ⟨7, _⟩ => ⟨S8x192x192, .f32⟩
  | .local _ .vmem, ⟨8, _⟩ => ⟨S8x192x192, .f32⟩
  | .local _ .vmem, ⟨9, _⟩ => ⟨S8x192x192, .f32⟩
  | .local _ .vmem, ⟨10, _⟩ => ⟨S8x192x192, .f32⟩
  | .local _ .vmem, ⟨11, _⟩ => ⟨S8x192x192, .f32⟩
  | .local _ .vmem, ⟨12, _⟩ => ⟨S8x192x192, .f32⟩
  | .local _ .vmem, ⟨13, _⟩ => ⟨S8x192x192, .f32⟩
  | .local _ .vmem, ⟨14, _⟩ => ⟨S8x192x192, .f32⟩
  | .local _ .vmem, ⟨15, _⟩ => ⟨S8x192x192, .f32⟩
  | .local _ .vmem, ⟨16, _⟩ => ⟨S8x192x192, .f32⟩
  | .local _ .vmem, ⟨17, _⟩ => ⟨S8x192x192, .f32⟩
  | _, _ => ⟨S192x192x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 12], ![false, false]⟩

def cc0_transform_0 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c24_i32 : BitVec 32 := 24#32
  let v1 : BitVec 32 := Scalar.addi c24_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c24_i32 : BitVec 32 := 24#32
  let v1 : BitVec 32 := Scalar.addi c24_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let c24_i32 : BitVec 32 := 24#32
  let v1 : BitVec 32 := Scalar.addi c24_i32 v0
  let v2 : BitVec 32 := Scalar.addi v1 arg1
  let c0_i32 : BitVec 32 := 0#32
  let c0_i32_0 : BitVec 32 := 0#32
  let c0_i32_1 : BitVec 32 := 0#32
  ![v2.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c12_i32 : BitVec 32 := 12#32
  let v0 : BitVec 32 := Scalar.muli arg0 c12_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S8x192x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x192x192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x192x192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x192x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S8x192x192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x192x192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x192x192 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S8x192x192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S8x192x192 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference3Ideal.lean ====
abbrev S192x192x192 : Shape := ⟨3, ![192, 192, 192]⟩
abbrev S384x192x192 : Shape := ⟨3, ![384, 192, 192]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S192x192x192, .f32⟩
  | .hbm, ⟨1, _⟩ => ⟨S192x192x192, .f32⟩
  | .hbm, ⟨2, _⟩ => ⟨S384x192x192, .f32⟩
  | .hbm, ⟨3, _⟩ => ⟨S384x192x192, .f32⟩
  | .hbm, ⟨4, _⟩ => ⟨S384x192x192, .f32⟩
  | .hbm, ⟨5, _⟩ => ⟨S192x192x192, .f32⟩
  | .hbm, ⟨6, _⟩ => ⟨S192x192x192, .f32⟩
  | .hbm, ⟨7, _⟩ => ⟨S192x192x192, .f32⟩
  | .hbm, ⟨8, _⟩ => ⟨S192x192x192, .f32⟩
  | .hbm, ⟨9, _⟩ => ⟨S192x192x192, .f32⟩
  | .hbm, ⟨10, _⟩ => ⟨S192x192x192, .f32⟩
  | .hbm, ⟨11, _⟩ => ⟨S192x192x192, .f32⟩
  | .hbm, ⟨12, _⟩ => ⟨S192x192x192, .f32⟩
  | .hbm, ⟨13, _⟩ => ⟨S192x192x192, .f32⟩
  | .hbm, ⟨14, _⟩ => ⟨S_, .f32⟩
  | .hbm, ⟨15, _⟩ => ⟨S192x192x192, .f32⟩
  | .hbm, ⟨16, _⟩ => ⟨S192x192x192, .f32⟩
  | .hbm, ⟨17, _⟩ => ⟨S192x192x192, .f32⟩
  | .hbm, ⟨18, _⟩ => ⟨S192x192x192, .f32⟩
  | .hbm, ⟨19, _⟩ => ⟨S192x192x192, .f32⟩
  | .hbm, ⟨20, _⟩ => ⟨S192x192x192, .f32⟩
  | _, _ => ⟨S192x192x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.Spec.lean ====
/-
  THE SCALARS of the projection, for any float values: the voxel coordinate of a sample, its cell, the row numbers and
  the weights the host lines compute, each a function of the argument arrays and of one line and one sample.
-/
module

public import Idealize.ShloMosaic.Lib.Pointwise.Index
public import Idealize.ShloMosaic.PureOps

@[expose] public section

noncomputable section

namespace Cert.Spec

open Idealize.ShloMosaic

variable {F : FTy → Type} [FloatOps F]

/-- The lines' end points, `[line, x0 y0 z0 x1 y1 z1]`. -/
abbrev Lors (F : FTy → Type) : Type := (⟨2, ![50000, 6]⟩ : Shape).Idx → F .f32
/-- A point of space. -/
abbrev Pt (F : FTy → Type) : Type := (⟨1, ![3]⟩ : Shape).Idx → F .f32

/-- The parameter of sample `s` along a line: `(s + 1/2) / 96`. -/
def par (s : ℕ) : F .f32 :=
  FloatOps.hostDivf (FloatOps.addf (FloatOps.sitofp .f32 (BitVec.ofNat 32 s)) (FloatOps.ofBits .f32 0x3F000000#32))
    (FloatOps.ofBits .f32 0x42C00000#32)

/-- Voxel coordinate `d` of sample `s` of line `i`. -/
def vox (cen size : Pt F) (lors : Lors F) (d : Fin 3) (i : Fin 50000) (s : ℕ) : F .f32 :=
  FloatOps.subf
    (FloatOps.hostDivf
      (FloatOps.subf
        (FloatOps.addf (lors (ix2 i ⟨d.val, by omega⟩))
          (FloatOps.mulf (par s) (FloatOps.subf (lors (ix2 i ⟨d.val + 3, by omega⟩)) (lors (ix2 i ⟨d.val, by omega⟩)))))
        (FloatOps.subf (cen (ix1 d)) (FloatOps.mulf (FloatOps.ofBits .f32 0x3F000000#32) (size (ix1 d)))))
      (FloatOps.hostDivf (size (ix1 d)) (FloatOps.ofBits .f32 0x43400000#32)))
    (FloatOps.ofBits .f32 0x3F000000#32)

/-- The coordinate's floor, as a float and as a word. -/
def flo (v : F .f32) : F .f32 := FloatOps.hostUnary .floor v
def cell (v : F .f32) : BitVec 32 := FloatOps.fptosi 32 (flo v)
def frac (v : F .f32) : F .f32 := FloatOps.subf v (flo v)
/-- A word held between -1 and `hi`. -/
def clipW (hi w : BitVec 32) : BitVec 32 := IntOp.minsi hi (IntOp.maxsi 4294967295#32 w)

/-- The lower cell, and the upper cell, lies in the image (of cells along x). -/
def ok0 (w : BitVec 32) : BitVec 1 := IntOp.andi (IntOp.cmpi .sge w 0#32) (IntOp.cmpi .sle w 191#32)
def ok1 (w : BitVec 32) : BitVec 1 := IntOp.cmpi .sle (IntOp.addi w 1#32) 191#32

def one : F .f32 := FloatOps.ofBits .f32 0x3F800000#32
def nil : F .f32 := FloatOps.ofBits .f32 0x00000000#32

/-- The number of the padded image's row that holds cells `(x, y)`; a row of zeros when `x` lies outside. -/
def row0 (x y : BitVec 32) : BitVec 32 :=
  Scalar.select (ok0 x) (IntOp.addi (IntOp.muli x 194#32) (IntOp.addi y 1#32)) 37248#32
def row1 (x y : BitVec 32) : BitVec 32 :=
  Scalar.select (ok1 x) (IntOp.addi (IntOp.muli (IntOp.addi x 1#32) 194#32) (IntOp.addi y 1#32)) 37248#32
/-- The weights of the lower and of the upper cell along x. -/
def wx0 (x : BitVec 32) (f : F .f32) : F .f32 := Scalar.select (ok0 x) (FloatOps.subf one f) nil
def wx1 (x : BitVec 32) (f : F .f32) : F .f32 := Scalar.select (ok1 x) f nil

/-- The padded image: row `194 x + y + 1`, lane `z`, and zeros elsewhere. -/
def padded (img : (⟨3, ![192, 192, 192]⟩ : Shape).Idx → F .f32) (r : Fin 37250) (l : Fin 256) : F .f32 :=
  if h : r.val < 37248 then
    if h' : r.val / 194 < 192 ∧ (1 ≤ r.val % 194 ∧ r.val % 194 - 1 < 192) ∧ l.val < 192 then
      img (ix3 ⟨r.val / 194, h'.1⟩ ⟨r.val % 194 - 1, h'.2.1.2⟩ ⟨l.val, h'.2.2⟩)
    else FloatOps.sitofp .f32 0#32
  else FloatOps.sitofp .f32 0#32

/-! ## The reference's eight corners -/

/-- Corner `k`'s step along each axis: the bits of `k`, the first axis's the highest. -/
def step (k : Fin 8) (d : Fin 3) : BitVec 32 :=
  IntOp.andi (![IntOp.shrsi .host (BitVec.ofNat 32 k.val) 2#32, IntOp.shrsi .host (BitVec.ofNat 32 k.val) 1#32, BitVec.ofNat 32 k.val] d) 1#32
/-- The corner's cell along an axis; that cell held in 0 … 191; whether it lies there. -/
def corner (k : Fin 8) (d : Fin 3) (v : F .f32) : BitVec 32 := IntOp.addi (cell v) (step k d)
def held (w : BitVec 32) : BitVec 32 := IntOp.minsi (IntOp.subi 192#32 1#32) (IntOp.maxsi 0#32 w)
def within (w : BitVec 32) : BitVec 1 := IntOp.andi (IntOp.cmpi .sge w 0#32) (IntOp.cmpi .slt w 192#32)
/-- A negative index counted from the end, as indexing takes it. -/
def wrap (w : BitVec 32) : BitVec 32 := Scalar.select (IntOp.cmpi .slt w 0#32) (IntOp.addi w 192#32) w
/-- The corner's weight along an axis, and its weight in all. -/
def part (k : Fin 8) (d : Fin 3) (v : F .f32) : F .f32 := Scalar.select (IntOp.cmpi .eq (step k d) 1#32) (frac v) (FloatOps.subf one (frac v))
def weight (k : Fin 8) (v0 v1 v2 : F .f32) : F .f32 :=
  Scalar.select (IntOp.andi (IntOp.andi (within (corner k 0 v0)) (within (corner k 1 v1))) (within (corner k 2 v2)))
    (FloatOps.mulf (FloatOps.mulf (part k 0 v0) (part k 1 v1)) (part k 2 v2)) nil
/-- The place along an axis that a start word of the gather names. -/
def place (w : BitVec 32) : Fin 192 := ⟨min w.toInt.toNat 191, by omega⟩

/-! ## The words' ranges -/

theorem cmp_sle {x y : BitVec 32} : IntOp.cmpi .sle x y = 1 ↔ x.toInt ≤ y.toInt := by
  unfold IntOp.cmpi
  rw [show (x.sle y) = decide (x.toInt ≤ y.toInt) from rfl]
  by_cases h : x.toInt ≤ y.toInt
  · simp [h]
  · simp [h]

theorem cmp_sge {x y : BitVec 32} : IntOp.cmpi .sge x y = 1 ↔ y.toInt ≤ x.toInt := cmp_sle (x := y) (y := x)

theorem andi_one {a b : BitVec 1} : IntOp.andi a b = 1 ↔ a = 1 ∧ b = 1 := by
  revert a b; decide

theorem ok0_iff {x : BitVec 32} : ok0 x = 1 ↔ 0 ≤ x.toInt ∧ x.toInt ≤ 191 := by
  unfold ok0
  rw [andi_one, cmp_sle, cmp_sge]; rfl

theorem toInt_succ {x : BitVec 32} (h : -1 ≤ x.toInt) (h' : x.toInt ≤ 1000) : (IntOp.addi x 1#32).toInt = x.toInt + 1 := by
  unfold IntOp.addi
  rw [BitVec.toInt_add, show (1#32).toInt = 1 from rfl]
  exact Int.bmod_eq_of_le (by omega) (by omega)

theorem ok1_iff {x : BitVec 32} (h : -1 ≤ x.toInt) (h' : x.toInt ≤ 1000) : ok1 x = 1 ↔ x.toInt + 1 ≤ 191 := by
  unfold ok1
  rw [cmp_sle, toInt_succ h h']; rfl

theorem nat_of_toInt {x : BitVec 32} (h : 0 ≤ x.toInt) : (x.toNat : ℤ) = x.toInt := by
  have := BitVec.toInt_eq_toNat_cond x
  have := x.isLt
  split at * <;> omega

theorem clipW_range (hi w : BitVec 32) (h : -1 ≤ hi.toInt) : -1 ≤ (clipW hi w).toInt ∧ (clipW hi w).toInt ≤ hi.toInt := by
  unfold clipW IntOp.minsi IntOp.maxsi
  simp only [BitVec.slt_iff_toInt_lt]
  have e : (4294967295#32 : BitVec 32).toInt = -1 := rfl
  split <;> split <;> omega

/-- The clip of a word that lies in the range already. -/
theorem clipW_of (hi w : BitVec 32) (h : -1 ≤ w.toInt) (h' : w.toInt ≤ hi.toInt) : clipW hi w = w := by
  unfold clipW IntOp.minsi IntOp.maxsi
  simp only [BitVec.slt_iff_toInt_lt]
  have e : (4294967295#32 : BitVec 32).toInt = -1 := rfl
  split <;> split <;> first | rfl | (apply BitVec.eq_of_toInt_eq; omega)

theorem row0_toNat {x y : BitVec 32} (hx : 0 ≤ x.toInt) (hx' : x.toInt ≤ 191) (hy : -1 ≤ y.toInt) (hy' : y.toInt ≤ 191) :
    ((row0 x y).toNat : ℤ) = x.toInt * 194 + (y.toInt + 1) := by
  unfold row0
  rw [show Scalar.select (ok0 x) _ _ = _ from if_pos (ok0_iff.2 ⟨hx, hx'⟩)]
  have ey := nat_of_toInt (x := IntOp.addi y 1#32) (by rw [toInt_succ hy (by omega)]; omega)
  rw [toInt_succ hy (by omega)] at ey
  have ex := nat_of_toInt hx
  unfold IntOp.addi IntOp.muli at *
  rw [BitVec.toNat_add, BitVec.toNat_mul, show (194#32).toNat = 194 from rfl]
  omega

theorem row1_toNat {x y : BitVec 32} (hx : -1 ≤ x.toInt) (hx' : x.toInt ≤ 190) (hy : -1 ≤ y.toInt) (hy' : y.toInt ≤ 191) :
    ((row1 x y).toNat : ℤ) = (x.toInt + 1) * 194 + (y.toInt + 1) := by
  unfold row1
  rw [show Scalar.select (ok1 x) _ _ = _ from if_pos ((ok1_iff hx (by omega)).2 (by omega))]
  have ey := nat_of_toInt (x := IntOp.addi y 1#32) (by rw [toInt_succ hy (by omega)]; omega)
  rw [toInt_succ hy (by omega)] at ey
  have ex := nat_of_toInt (x := IntOp.addi x 1#32) (by rw [toInt_succ hx (by omega)]; omega)
  rw [toInt_succ hx (by omega)] at ex
  unfold IntOp.addi IntOp.muli at *
  rw [BitVec.toNat_add, BitVec.toNat_mul, show (194#32).toNat = 194 from rfl]
  omega

theorem row0_out {x y : BitVec 32} (h : ¬ (0 ≤ x.toInt ∧ x.toInt ≤ 191)) : row0 x y = 37248#32 :=
  if_neg fun e => h (ok0_iff.1 e)

theorem row1_out {x y : BitVec 32} (hx : -1 ≤ x.toInt) (hx' : x.toInt ≤ 1000) (h : ¬ x.toInt ≤ 190) : row1 x y = 37248#32 :=
  if_neg fun e => h (by have := (ok1_iff hx hx').1 e; omega)

/-- No row number passes the last row but one, whatever the words clipped. -/
theorem row0_le (w w' : BitVec 32) : (row0 (clipW 192#32 w) (clipW 191#32 w')).toNat ≤ 37248 := by
  obtain ⟨hx, hx'⟩ := clipW_range 192#32 w (by decide)
  obtain ⟨hy, hy'⟩ := clipW_range 191#32 w' (by decide)
  have e : (192#32 : BitVec 32).toInt = 192 := rfl
  have e' : (191#32 : BitVec 32).toInt = 191 := rfl
  by_cases h : 0 ≤ (clipW 192#32 w).toInt ∧ (clipW 192#32 w).toInt ≤ 191
  · have := row0_toNat h.1 h.2 hy (by omega); omega
  · rw [row0_out h]; decide

theorem row1_le (w w' : BitVec 32) : (row1 (clipW 192#32 w) (clipW 191#32 w')).toNat ≤ 37248 := by
  obtain ⟨hx, hx'⟩ := clipW_range 192#32 w (by decide)
  obtain ⟨hy, hy'⟩ := clipW_range 191#32 w' (by decide)
  have e : (192#32 : BitVec 32).toInt = 192 := rfl
  have e' : (191#32 : BitVec 32).toInt = 191 := rfl
  by_cases h : (clipW 192#32 w).toInt ≤ 190
  · have := row1_toNat hx h hy (by omega); omega
  · rw [row1_out hx (by omega) h]; decide

end Cert.Spec
end
-- ==== Proof.Ideal.Offs.lean ====
/-
  The offsets of the table reads of one trip of the inner loop, as plain numbers.
-/
module

public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The offsets of the eight samples of a trip -/

theorem offs0 : ∀ (a : Fin k0_t1_loop.trips) (b : Fin k0_t2_loop.trips), k0_off1 a b = ![0, 96 * a.val + 8 * b.val + 0] ∧ k0_off2 a b = ![1, 96 * a.val + 8 * b.val + 0] ∧ k0_off3 a b = ![2, 96 * a.val + 8 * b.val + 0] ∧ k0_off4 a b = ![0, 96 * a.val + 8 * b.val + 0] ∧ k0_off5 a b = ![1, 96 * a.val + 8 * b.val + 0] ∧ k0_off6 a b = ![2, 96 * a.val + 8 * b.val + 0] ∧ k0_off7 a b = ![3, 96 * a.val + 8 * b.val + 0] := by decide +kernel
theorem offs1 : ∀ (a : Fin k0_t1_loop.trips) (b : Fin k0_t2_loop.trips), k0_off12 a b = ![0, 96 * a.val + 8 * b.val + 1] ∧ k0_off13 a b = ![1, 96 * a.val + 8 * b.val + 1] ∧ k0_off14 a b = ![2, 96 * a.val + 8 * b.val + 1] ∧ k0_off15 a b = ![0, 96 * a.val + 8 * b.val + 1] ∧ k0_off16 a b = ![1, 96 * a.val + 8 * b.val + 1] ∧ k0_off17 a b = ![2, 96 * a.val + 8 * b.val + 1] ∧ k0_off18 a b = ![3, 96 * a.val + 8 * b.val + 1] := by decide +kernel
theorem offs2 : ∀ (a : Fin k0_t1_loop.trips) (b : Fin k0_t2_loop.trips), k0_off23 a b = ![0, 96 * a.val + 8 * b.val + 2] ∧ k0_off24 a b = ![1, 96 * a.val + 8 * b.val + 2] ∧ k0_off25 a b = ![2, 96 * a.val + 8 * b.val + 2] ∧ k0_off26 a b = ![0, 96 * a.val + 8 * b.val + 2] ∧ k0_off27 a b = ![1, 96 * a.val + 8 * b.val + 2] ∧ k0_off28 a b = ![2, 96 * a.val + 8 * b.val + 2] ∧ k0_off29 a b = ![3, 96 * a.val + 8 * b.val + 2] := by decide +kernel
theorem offs3 : ∀ (a : Fin k0_t1_loop.trips) (b : Fin k0_t2_loop.trips), k0_off34 a b = ![0, 96 * a.val + 8 * b.val + 3] ∧ k0_off35 a b = ![1, 96 * a.val + 8 * b.val + 3] ∧ k0_off36 a b = ![2, 96 * a.val + 8 * b.val + 3] ∧ k0_off37 a b = ![0, 96 * a.val + 8 * b.val + 3] ∧ k0_off38 a b = ![1, 96 * a.val + 8 * b.val + 3] ∧ k0_off39 a b = ![2, 96 * a.val + 8 * b.val + 3] ∧ k0_off40 a b = ![3, 96 * a.val + 8 * b.val + 3] := by decide +kernel
theorem offs4 : ∀ (a : Fin k0_t1_loop.trips) (b : Fin k0_t2_loop.trips), k0_off45 a b = ![0, 96 * a.val + 8 * b.val + 4] ∧ k0_off46 a b = ![1, 96 * a.val + 8 * b.val + 4] ∧ k0_off47 a b = ![2, 96 * a.val + 8 * b.val + 4] ∧ k0_off48 a b = ![0, 96 * a.val + 8 * b.val + 4] ∧ k0_off49 a b = ![1, 96 * a.val + 8 * b.val + 4] ∧ k0_off50 a b = ![2, 96 * a.val + 8 * b.val + 4] ∧ k0_off51 a b = ![3, 96 * a.val + 8 * b.val + 4] := by decide +kernel
theorem offs5 : ∀ (a : Fin k0_t1_loop.trips) (b : Fin k0_t2_loop.trips), k0_off56 a b = ![0, 96 * a.val + 8 * b.val + 5] ∧ k0_off57 a b = ![1, 96 * a.val + 8 * b.val + 5] ∧ k0_off58 a b = ![2, 96 * a.val + 8 * b.val + 5] ∧ k0_off59 a b = ![0, 96 * a.val + 8 * b.val + 5] ∧ k0_off60 a b = ![1, 96 * a.val + 8 * b.val + 5] ∧ k0_off61 a b = ![2, 96 * a.val + 8 * b.val + 5] ∧ k0_off62 a b = ![3, 96 * a.val + 8 * b.val + 5] := by decide +kernel
theorem offs6 : ∀ (a : Fin k0_t1_loop.trips) (b : Fin k0_t2_loop.trips), k0_off67 a b = ![0, 96 * a.val + 8 * b.val + 6] ∧ k0_off68 a b = ![1, 96 * a.val + 8 * b.val + 6] ∧ k0_off69 a b = ![2, 96 * a.val + 8 * b.val + 6] ∧ k0_off70 a b = ![0, 96 * a.val + 8 * b.val + 6] ∧ k0_off71 a b = ![1, 96 * a.val + 8 * b.val + 6] ∧ k0_off72 a b = ![2, 96 * a.val + 8 * b.val + 6] ∧ k0_off73 a b = ![3, 96 * a.val + 8 * b.val + 6] := by decide +kernel
theorem offs7 : ∀ (a : Fin k0_t1_loop.trips) (b : Fin k0_t2_loop.trips), k0_off78 a b = ![0, 96 * a.val + 8 * b.val + 7] ∧ k0_off79 a b = ![1, 96 * a.val + 8 * b.val + 7] ∧ k0_off80 a b = ![2, 96 * a.val + 8 * b.val + 7] ∧ k0_off81 a b = ![0, 96 * a.val + 8 * b.val + 7] ∧ k0_off82 a b = ![1, 96 * a.val + 8 * b.val + 7] ∧ k0_off83 a b = ![2, 96 * a.val + 8 * b.val + 7] ∧ k0_off84 a b = ![3, 96 * a.val + 8 * b.val + 7] := by decide +kernel

end Cert.KernelIdeal.Hand

end
-- ==== Proof.Ideal.Trip.lean ====
/-
  ONE TRIP OF THE INNER LOOP: eight samples. Each sample reads its two row numbers, its lane and its four weights from
  the two tables in scalar memory, passes the bound check of each row number, loads four rows of the image and adds the
  weighted, lane-selected combination to the carried vector (`sampVal`). The trip's result is named in closed form
  (`tripVal`), a function of what the three buffers hold.
-/
module

public import proofs.«01_k».proof.Proof.Gen.KernelIdeal
public import proofs.«01_k».proof.Proof.Ideal.Offs
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The closed form -/

/-- Row `r` of the image (the last row when `r` is beyond it). -/
def rowAt (X : S37250x1x256.Idx → Elt F .f32) (r : ℕ) : FVec F S1x256 .f32 :=
  fun j => X (ix3 (⟨min r 37249, by omega⟩ : Fin 37250) (0 : Fin 1) (j 1))

/-- One sample's contribution added to the carried vector. -/
def sampVal (v19 : IVec S1x256 32) (g00 g01 g10 g11 : FVec F S1x256 .f32) (iz : BitVec 32) (fz mx0 mx1 fy : F .f32)
    (acc : FVec F S1x256 .f32) : FVec F S1x256 .f32 :=
  let fy' : F .f32 := Scalar.subf (Scalar.ofBits .f32 0x3F800000#32) fy
  let P : FVec F S1x256 .f32 :=
    addf (addf (addf (mulf g00 (broadcast S1x256 (Scalar.mulf mx0 fy'))) (mulf g01 (broadcast S1x256 (Scalar.mulf mx0 fy))))
      (mulf g10 (broadcast S1x256 (Scalar.mulf mx1 fy')))) (mulf g11 (broadcast S1x256 (Scalar.mulf mx1 fy)))
  let zv : FVec F S1x256 .f32 :=
    addf (select (cmpi .eq v19 (broadcast S1x256 iz)) (broadcast S1x256 (Scalar.subf (Scalar.ofBits .f32 0x3F800000#32) fz))
        (broadcast S1x256 (Scalar.ofBits .f32 0x00000000#32)))
      (select (cmpi .eq v19 (broadcast S1x256 (Scalar.addi iz 1#32))) (broadcast S1x256 fz)
        (broadcast S1x256 (Scalar.ofBits .f32 0x00000000#32)))
  addf acc (mulf P zv)

/-- Column `s` of a table (the last when `s` is beyond it). -/
def colIdx {n : ℕ} (a : Fin n) (s : ℕ) : (⟨2, ![n, 4800]⟩ : Shape).Idx := ix2 a (⟨min s 4799, by omega⟩ : Fin 4800)

/-- Sample `s` of the point's 4800. -/
def samp (v19 : IVec S1x256 32) (X : S37250x1x256.Idx → Elt F .f32) (I : S3x4800.Idx → BitVec 32) (Wt : S4x4800.Idx → Elt F .f32)
    (s : ℕ) (acc : FVec F S1x256 .f32) : FVec F S1x256 .f32 :=
  sampVal v19 (rowAt X (I (colIdx (0 : Fin 3) s)).toNat) (rowAt X ((I (colIdx (0 : Fin 3) s)).toNat + 1))
    (rowAt X (I (colIdx (1 : Fin 3) s)).toNat) (rowAt X ((I (colIdx (1 : Fin 3) s)).toNat + 1))
    (I (colIdx (2 : Fin 3) s)) (Wt (colIdx (0 : Fin 4) s)) (Wt (colIdx (1 : Fin 4) s)) (Wt (colIdx (2 : Fin 4) s)) (Wt (colIdx (3 : Fin 4) s)) acc

/-- `n` samples from sample `s0` on. -/
def samps (v19 : IVec S1x256 32) (X : S37250x1x256.Idx → Elt F .f32) (I : S3x4800.Idx → BitVec 32) (Wt : S4x4800.Idx → Elt F .f32)
    (s0 : ℕ) (acc : FVec F S1x256 .f32) : ℕ → FVec F S1x256 .f32
  | 0 => acc
  | n + 1 => samp v19 X I Wt (s0 + n) (samps v19 X I Wt s0 acc n)

/-- The row numbers of a table are in range. -/
def TblOK (I : S3x4800.Idx → BitVec 32) : Prop := ∀ (a : Fin 3) (j : Fin 4800), a.val < 2 → (I (ix2 a j)).toNat ≤ 37248

/-! ## The checks and the reads -/

theorem chk_of_le (v : BitVec 32) (h : v.toNat ≤ 37248) : k0_chk1 v := by
  have e : (Scalar.addi v 1#32).toNat = v.toNat + 1 := by
    show (v + 1#32).toNat = _
    rw [BitVec.toNat_add]; show (v.toNat + 1) % 4294967296 = _; omega
  refine ⟨fun a => ?_, fun a => ?_⟩
  · fin_cases a
    · show v.toNat + 1 ≤ 37250; omega
    · show 0 + 1 ≤ 1; omega
    · show 0 + 256 ≤ 256; omega
  · fin_cases a
    · show (Scalar.addi v 1#32).toNat + 1 ≤ 37250; omega
    · show 0 + 1 ≤ 1; omega
    · show 0 + 256 ≤ 256; omega

/-- A word read from row 0 or 1 of a table whose row numbers are in range. -/
theorem read_tbl {κ : Kind} {sp : Space} (v : View sig κ sp S3x4800 .i32) (f : v.ty.Contents (Elt F)) (hI : TblOK (v.read (Elt F) f))
    (off : Fin 2 → ℕ) (h : ∀ a, off a + S1x1.size a ≤ S3x4800.size a) (x : S1x1.Idx) (h0 : off 0 = 0 ∨ off 0 = 1) :
    ((v.slice (Rect.unit (s := S3x4800) off S1x1.size h)).read (Elt F) f x : BitVec 32).toNat ≤ 37248 := by
  show (v.read (Elt F) f ((Rect.unit (s := S3x4800) off S1x1.size h).emb x) : BitVec 32).toNat ≤ 37248
  rw [ValueIdx.eq_ix2 ((Rect.unit (s := S3x4800) off S1x1.size h).emb x)]
  refine hI _ _ ?_
  show off 0 + 1 * (x 0).val < 2
  have := (x 0).isLt
  have : (x 0).val < 1 := this
  omega

/-! ## The words, the row reads, and one sample from them -/

/-- The word of the index table at an offset. -/
def wI {sp : Space} {κ : Kind} (v : View sig κ sp S3x4800 .i32) (f : v.ty.Contents (Elt F)) (o : Fin 2 → ℕ)
    (h : ∀ a, o a + S1x1.size a ≤ S3x4800.size a) : BitVec 32 :=
  View.readAt (Elt F) v (Rect.unit (s := S3x4800) o S1x1.size h).toLoadRect f (Shape.Idx.first (show 0 < S1x1.numel by decide))

/-- The word of the weight table at an offset. -/
def wW {sp : Space} {κ : Kind} (v : View sig κ sp S4x4800 .f32) (f : v.ty.Contents (Elt F)) (o : Fin 2 → ℕ)
    (h : ∀ a, o a + S1x1.size a ≤ S4x4800.size a) : Elt F .f32 :=
  View.readAt (Elt F) v (Rect.unit (s := S4x4800) o S1x1.size h).toLoadRect f (Shape.Idx.first (show 0 < S1x1.numel by decide))

/-- The image row a checked word names, as a vector of lanes. -/
def rowLo {sp : Space} {κ : Kind} (v : View sig κ sp S37250x1x256 .f32) (f : v.ty.Contents (Elt F)) (w : BitVec 32) (h : k0_chk1 w) : FVec F S1x256 .f32 :=
  shapeCast S1x256 (View.readAt (Elt F) v (Rect.unit (s := S37250x1x256) (k0_off8 w) S1x1x256.size (k0_off8_inb w h)).toLoadRect f) shapeCasts_S1x1x256_S1x256

/-- The row after it. -/
def rowHi {sp : Space} {κ : Kind} (v : View sig κ sp S37250x1x256 .f32) (f : v.ty.Contents (Elt F)) (w : BitVec 32) (h : k0_chk1 w) : FVec F S1x256 .f32 :=
  shapeCast S1x256 (View.readAt (Elt F) v (Rect.unit (s := S37250x1x256) (k0_off9 w) S1x1x256.size (k0_off9_inb w h)).toLoadRect f) shapeCasts_S1x1x256_S1x256

theorem wI_eq {sp : Space} {κ : Kind} (v : View sig κ sp S3x4800 .i32) (f : v.ty.Contents (Elt F)) (o : Fin 2 → ℕ) (h) (a : Fin 3) (s : ℕ)
    (ho : o = ![a.val, s]) : wI v f o h = v.read (Elt F) f (colIdx a s) := by
  subst ho
  have h1 := h 1
  have h1' : s + 1 ≤ 4800 := h1
  unfold wI
  show v.read (Elt F) f ((Rect.unit (s := S3x4800) _ S1x1.size h).emb _) = _
  refine congrArg _ (funext fun x => Fin.ext ?_)
  fin_cases x
  · show a.val + 1 * 0 = a.val; omega
  · show s + 1 * 0 = min s 4799; omega

theorem wW_eq {sp : Space} {κ : Kind} (v : View sig κ sp S4x4800 .f32) (f : v.ty.Contents (Elt F)) (o : Fin 2 → ℕ) (h) (a : Fin 4) (s : ℕ)
    (ho : o = ![a.val, s]) : wW v f o h = v.read (Elt F) f (colIdx a s) := by
  subst ho
  have h1 := h 1
  have h1' : s + 1 ≤ 4800 := h1
  unfold wW
  show v.read (Elt F) f ((Rect.unit (s := S4x4800) _ S1x1.size h).emb _) = _
  refine congrArg _ (funext fun x => Fin.ext ?_)
  fin_cases x
  · show a.val + 1 * 0 = a.val; omega
  · show s + 1 * 0 = min s 4799; omega

theorem rowRead {sp : Space} {κ : Kind} (v : View sig κ sp S37250x1x256 .f32) (f : v.ty.Contents (Elt F)) (o : Fin 3 → ℕ) (h) (r : ℕ) (ho : o = ![r, 0, 0]) :
    (shapeCast S1x256 (View.readAt (Elt F) v (Rect.unit (s := S37250x1x256) o S1x1x256.size h).toLoadRect f) shapeCasts_S1x1x256_S1x256 : FVec F S1x256 .f32)
      = rowAt (v.read (Elt F) f) r := by
  subst ho
  have h0 : r + 1 ≤ 37250 := h 0
  funext j
  refine (shapeCast_dropUnit_apply (n := 2) ![1, 256] (View.readAt (Elt F) v (Rect.unit (s := S37250x1x256) _ S1x1x256.size h).toLoadRect f) shapeCasts_S1x1x256_S1x256 j).trans ?_
  show v.read (Elt F) f ((Rect.unit (s := S37250x1x256) _ S1x1x256.size h).emb _) = _
  unfold rowAt
  have hj0 : (j 0).val < 1 := (j 0).isLt
  refine congrArg _ (funext fun x => Fin.ext ?_)
  fin_cases x
  · show r + 1 * 0 = min r 37249; omega
  · show 0 + 1 * (j 0).val = 0; omega
  · show 0 + 1 * (j 1).val = (j 1).val; omega

/-- One sample from its seven words. -/
def rawSamp {s6 s7 s8 : Space} {κ : Kind} (v19 : IVec S1x256 32)
    (v6 : View sig κ s6 S37250x1x256 .f32) (f6 : v6.ty.Contents (Elt F)) (v7 : View sig κ s7 S3x4800 .i32) (f7 : v7.ty.Contents (Elt F))
    (v8 : View sig κ s8 S4x4800 .f32) (f8 : v8.ty.Contents (Elt F)) (o1 o2 o3 o4 o5 o6 o7 : Fin 2 → ℕ) (h1 : ∀ a, o1 a + S1x1.size a ≤ S3x4800.size a) (h2 : ∀ a, o2 a + S1x1.size a ≤ S3x4800.size a) (h3 : ∀ a, o3 a + S1x1.size a ≤ S3x4800.size a) (h4 : ∀ a, o4 a + S1x1.size a ≤ S4x4800.size a) (h5 : ∀ a, o5 a + S1x1.size a ≤ S4x4800.size a) (h6 : ∀ a, o6 a + S1x1.size a ≤ S4x4800.size a) (h7 : ∀ a, o7 a + S1x1.size a ≤ S4x4800.size a)
    (c1 : k0_chk1 (wI v7 f7 o1 h1)) (c2 : k0_chk1 (wI v7 f7 o2 h2)) (acc : FVec F S1x256 .f32) : FVec F S1x256 .f32 :=
  sampVal v19 (rowLo v6 f6 _ c1) (rowHi v6 f6 _ c1) (rowLo v6 f6 _ c2) (rowHi v6 f6 _ c2) (wI v7 f7 o3 h3)
    (wW v8 f8 o4 h4) (wW v8 f8 o5 h5) (wW v8 f8 o6 h6) (wW v8 f8 o7 h7) acc

theorem rawSamp_eq {s6 s7 s8 : Space} {κ : Kind} (v19 : IVec S1x256 32)
    (v6 : View sig κ s6 S37250x1x256 .f32) (f6 : v6.ty.Contents (Elt F)) (v7 : View sig κ s7 S3x4800 .i32) (f7 : v7.ty.Contents (Elt F))
    (v8 : View sig κ s8 S4x4800 .f32) (f8 : v8.ty.Contents (Elt F)) (hI : TblOK (v7.read (Elt F) f7)) (o1 o2 o3 o4 o5 o6 o7 : Fin 2 → ℕ) (h1 : ∀ a, o1 a + S1x1.size a ≤ S3x4800.size a) (h2 : ∀ a, o2 a + S1x1.size a ≤ S3x4800.size a) (h3 : ∀ a, o3 a + S1x1.size a ≤ S3x4800.size a) (h4 : ∀ a, o4 a + S1x1.size a ≤ S4x4800.size a) (h5 : ∀ a, o5 a + S1x1.size a ≤ S4x4800.size a) (h6 : ∀ a, o6 a + S1x1.size a ≤ S4x4800.size a) (h7 : ∀ a, o7 a + S1x1.size a ≤ S4x4800.size a)
    (c1 : k0_chk1 (wI v7 f7 o1 h1)) (c2 : k0_chk1 (wI v7 f7 o2 h2)) (acc : FVec F S1x256 .f32) (s : ℕ)
    (ho : o1 = ![0, s] ∧ o2 = ![1, s] ∧ o3 = ![2, s] ∧ o4 = ![0, s] ∧ o5 = ![1, s] ∧ o6 = ![2, s] ∧ o7 = ![3, s]) :
    rawSamp v19 v6 f6 v7 f7 v8 f8 o1 o2 o3 o4 o5 o6 o7 h1 h2 h3 h4 h5 h6 h7 c1 c2 acc
      = samp v19 (v6.read (Elt F) f6) (v7.read (Elt F) f7) (v8.read (Elt F) f8) s acc := by
  obtain ⟨e1, e2, e3, e4, e5, e6, e7⟩ := ho
  have lo : ∀ (w : BitVec 32) (c : k0_chk1 w), rowLo v6 f6 w c = rowAt (v6.read (Elt F) f6) w.toNat := fun w c => rowRead v6 f6 _ _ _ rfl
  have hi : ∀ (w : BitVec 32) (c : k0_chk1 w), w.toNat ≤ 37248 → rowHi v6 f6 w c = rowAt (v6.read (Elt F) f6) (w.toNat + 1) := by
    intro w c hw
    refine rowRead v6 f6 _ _ _ ?_
    have e : (Scalar.addi w 1#32).toNat = w.toNat + 1 := by
      show (w + 1#32).toNat = _
      rw [BitVec.toNat_add]; show (w.toNat + 1) % 4294967296 = _; omega
    funext x; fin_cases x
    · exact e
    · rfl
    · rfl
  have w1 := wI_eq v7 f7 o1 h1 0 s e1
  have w2 := wI_eq v7 f7 o2 h2 1 s e2
  unfold rawSamp samp
  rw [lo, lo, hi _ c1 (by rw [w1]; exact hI 0 _ (by decide)), hi _ c2 (by rw [w2]; exact hI 1 _ (by decide)), w1, w2, wI_eq v7 f7 o3 h3 2 s e3,
    wW_eq v8 f8 o4 h4 0 s e4, wW_eq v8 f8 o5 h5 1 s e5, wW_eq v8 f8 o6 h6 2 s e6, wW_eq v8 f8 o7 h7 3 s e7]

abbrev tripProg (i : grid0.Coords) (arg2 : Memref sig .tc .hbm S37250x1x256 .f32) (harg2 : arg2.IsWhole) (arg3 : Memref sig .tc .vmem S1x3x4800 .i32) (harg3 : arg3.IsWhole) (arg4 : Memref sig .tc .vmem S1x4x4800 .f32) (harg4 : arg4.IsWhole) (arg5 : Memref sig .tc .vmem S1x1x50 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : DmaSems sig S3) (k0_t1 : Fin k0_t1_loop.trips) (arg10 : BitVec 32)
    (k : Fin k0_t2_loop.trips) (acc : FVec F S1x256 .f32) : Prog (TpuEff nD τ sig (Elt F) Λ₀ .tc) (FVec F S1x256 .f32) :=
  k0_t2_body i arg2 harg2 arg3 harg3 arg4 harg4 arg5 harg5 arg6 harg6 arg7 harg7 arg8 harg8 arg9 (iota .tc S1x256 32 [1] iota_S1x256_d1_w32) k0_t1 arg10 k acc

theorem trip (c : Dev nD) (i : grid0.Coords) (arg2 : Memref sig .tc .hbm S37250x1x256 .f32) (harg2 : arg2.IsWhole) (arg3 : Memref sig .tc .vmem S1x3x4800 .i32) (harg3 : arg3.IsWhole) (arg4 : Memref sig .tc .vmem S1x4x4800 .f32) (harg4 : arg4.IsWhole) (arg5 : Memref sig .tc .vmem S1x1x50 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : DmaSems sig S3) (k0_t1 : Fin k0_t1_loop.trips) (arg10 : BitVec 32)
    (f6 : Buf (Elt F) (arg6.view.loc (c : Thread nD τ))) (f7 : Buf (Elt F) (arg7.view.loc (c : Thread nD τ))) (f8 : Buf (Elt F) (arg8.view.loc (c : Thread nD τ)))
    (hI : TblOK (arg7.view.read (Elt F) f7))
    (k : Fin k0_t2_loop.trips) (acc : FVec F S1x256 .f32) (Q : FVec F S1x256 .f32 → sProp 𝕄) :
    iprop((arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8)
        ∗ (iprop((arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8)) -∗ Q (samps (iota .tc S1x256 32 [1] iota_S1x256_d1_w32) (arg6.view.read (Elt F) f6) (arg7.view.read (Elt F) f7) (arg8.view.read (Elt F) f8) (96 * k0_t1.val + 8 * k.val) acc 8)))
      ⊢ wp frame (wpE (defs₀ (F := F)) Variants.none (c : Thread nD τ) none) Set.univ
        (tripProg i arg2 harg2 arg3 harg3 arg4 harg4 arg5 harg5 arg6 harg6 arg7 harg7 arg8 harg8 arg9 k0_t1 arg10 k acc) Q := by
  have hck : ∀ (off : Fin 2 → ℕ) (h : ∀ a, off a + S1x1.size a ≤ S3x4800.size a) (x : S1x1.Idx), (off 0 = 0 ∨ off 0 = 1) →
      k0_chk1 (View.readAt (Elt F) arg7.view (Rect.unit (s := S3x4800) off S1x1.size h).toLoadRect f7 x) :=
    fun off h x h0 => chk_of_le _ (read_tbl arg7.view f7 hI off h x h0)
  unfold tripProg k0_t2_body
  iintro ⟨H6, H7, H8, Hk⟩
  sl_exec (disch := (refine hck _ _ _ ?_; first | exact Or.inl rfl | exact Or.inr rfl))
  sl_step
  ihave H := Hk $$ [H6 H7 H8]
  · isplitl [H6]; · iexact H6
    isplitl [H7]; · iexact H7
    iexact H8
  have hQ : ∀ r, samps (iota .tc S1x256 32 [1] iota_S1x256_d1_w32) (arg6.view.read (Elt F) f6) (arg7.view.read (Elt F) f7) (arg8.view.read (Elt F) f8) (96 * k0_t1.val + 8 * k.val) acc 8 = r →
      (Q (samps (iota .tc S1x256 32 [1] iota_S1x256_d1_w32) (arg6.view.read (Elt F) f6) (arg7.view.read (Elt F) f7) (arg8.view.read (Elt F) f8) (96 * k0_t1.val + 8 * k.val) acc 8) ⊢ Q r) := by
    rintro _ rfl; exact .rfl
  istop
  refine hQ _ ?_
  simp only [samps]
  rw [← rawSamp_eq (iota .tc S1x256 32 [1] iota_S1x256_d1_w32) arg6.view f6 arg7.view f7 arg8.view f8 hI (k0_off78 k0_t1 k) (k0_off79 k0_t1 k) (k0_off80 k0_t1 k) (k0_off81 k0_t1 k) (k0_off82 k0_t1 k) (k0_off83 k0_t1 k) (k0_off84 k0_t1 k) (k0_off78_inb k0_t1 k) (k0_off79_inb k0_t1 k) (k0_off80_inb k0_t1 k) (k0_off81_inb k0_t1 k) (k0_off82_inb k0_t1 k) (k0_off83_inb k0_t1 k) (k0_off84_inb k0_t1 k) (hck _ _ _ (Or.inl rfl)) (hck _ _ _ (Or.inr rfl)) _ _ (offs7 k0_t1 k)]
  rw [← rawSamp_eq (iota .tc S1x256 32 [1] iota_S1x256_d1_w32) arg6.view f6 arg7.view f7 arg8.view f8 hI (k0_off67 k0_t1 k) (k0_off68 k0_t1 k) (k0_off69 k0_t1 k) (k0_off70 k0_t1 k) (k0_off71 k0_t1 k) (k0_off72 k0_t1 k) (k0_off73 k0_t1 k) (k0_off67_inb k0_t1 k) (k0_off68_inb k0_t1 k) (k0_off69_inb k0_t1 k) (k0_off70_inb k0_t1 k) (k0_off71_inb k0_t1 k) (k0_off72_inb k0_t1 k) (k0_off73_inb k0_t1 k) (hck _ _ _ (Or.inl rfl)) (hck _ _ _ (Or.inr rfl)) _ _ (offs6 k0_t1 k)]
  rw [← rawSamp_eq (iota .tc S1x256 32 [1] iota_S1x256_d1_w32) arg6.view f6 arg7.view f7 arg8.view f8 hI (k0_off56 k0_t1 k) (k0_off57 k0_t1 k) (k0_off58 k0_t1 k) (k0_off59 k0_t1 k) (k0_off60 k0_t1 k) (k0_off61 k0_t1 k) (k0_off62 k0_t1 k) (k0_off56_inb k0_t1 k) (k0_off57_inb k0_t1 k) (k0_off58_inb k0_t1 k) (k0_off59_inb k0_t1 k) (k0_off60_inb k0_t1 k) (k0_off61_inb k0_t1 k) (k0_off62_inb k0_t1 k) (hck _ _ _ (Or.inl rfl)) (hck _ _ _ (Or.inr rfl)) _ _ (offs5 k0_t1 k)]
  rw [← rawSamp_eq (iota .tc S1x256 32 [1] iota_S1x256_d1_w32) arg6.view f6 arg7.view f7 arg8.view f8 hI (k0_off45 k0_t1 k) (k0_off46 k0_t1 k) (k0_off47 k0_t1 k) (k0_off48 k0_t1 k) (k0_off49 k0_t1 k) (k0_off50 k0_t1 k) (k0_off51 k0_t1 k) (k0_off45_inb k0_t1 k) (k0_off46_inb k0_t1 k) (k0_off47_inb k0_t1 k) (k0_off48_inb k0_t1 k) (k0_off49_inb k0_t1 k) (k0_off50_inb k0_t1 k) (k0_off51_inb k0_t1 k) (hck _ _ _ (Or.inl rfl)) (hck _ _ _ (Or.inr rfl)) _ _ (offs4 k0_t1 k)]
  rw [← rawSamp_eq (iota .tc S1x256 32 [1] iota_S1x256_d1_w32) arg6.view f6 arg7.view f7 arg8.view f8 hI (k0_off34 k0_t1 k) (k0_off35 k0_t1 k) (k0_off36 k0_t1 k) (k0_off37 k0_t1 k) (k0_off38 k0_t1 k) (k0_off39 k0_t1 k) (k0_off40 k0_t1 k) (k0_off34_inb k0_t1 k) (k0_off35_inb k0_t1 k) (k0_off36_inb k0_t1 k) (k0_off37_inb k0_t1 k) (k0_off38_inb k0_t1 k) (k0_off39_inb k0_t1 k) (k0_off40_inb k0_t1 k) (hck _ _ _ (Or.inl rfl)) (hck _ _ _ (Or.inr rfl)) _ _ (offs3 k0_t1 k)]
  rw [← rawSamp_eq (iota .tc S1x256 32 [1] iota_S1x256_d1_w32) arg6.view f6 arg7.view f7 arg8.view f8 hI (k0_off23 k0_t1 k) (k0_off24 k0_t1 k) (k0_off25 k0_t1 k) (k0_off26 k0_t1 k) (k0_off27 k0_t1 k) (k0_off28 k0_t1 k) (k0_off29 k0_t1 k) (k0_off23_inb k0_t1 k) (k0_off24_inb k0_t1 k) (k0_off25_inb k0_t1 k) (k0_off26_inb k0_t1 k) (k0_off27_inb k0_t1 k) (k0_off28_inb k0_t1 k) (k0_off29_inb k0_t1 k) (hck _ _ _ (Or.inl rfl)) (hck _ _ _ (Or.inr rfl)) _ _ (offs2 k0_t1 k)]
  rw [← rawSamp_eq (iota .tc S1x256 32 [1] iota_S1x256_d1_w32) arg6.view f6 arg7.view f7 arg8.view f8 hI (k0_off12 k0_t1 k) (k0_off13 k0_t1 k) (k0_off14 k0_t1 k) (k0_off15 k0_t1 k) (k0_off16 k0_t1 k) (k0_off17 k0_t1 k) (k0_off18 k0_t1 k) (k0_off12_inb k0_t1 k) (k0_off13_inb k0_t1 k) (k0_off14_inb k0_t1 k) (k0_off15_inb k0_t1 k) (k0_off16_inb k0_t1 k) (k0_off17_inb k0_t1 k) (k0_off18_inb k0_t1 k) (hck _ _ _ (Or.inl rfl)) (hck _ _ _ (Or.inr rfl)) _ _ (offs1 k0_t1 k)]
  rw [← rawSamp_eq (iota .tc S1x256 32 [1] iota_S1x256_d1_w32) arg6.view f6 arg7.view f7 arg8.view f8 hI (k0_off1 k0_t1 k) (k0_off2 k0_t1 k) (k0_off3 k0_t1 k) (k0_off4 k0_t1 k) (k0_off5 k0_t1 k) (k0_off6 k0_t1 k) (k0_off7 k0_t1 k) (k0_off1_inb k0_t1 k) (k0_off2_inb k0_t1 k) (k0_off3_inb k0_t1 k) (k0_off4_inb k0_t1 k) (k0_off5_inb k0_t1 k) (k0_off6_inb k0_t1 k) (k0_off7_inb k0_t1 k) (hck _ _ _ (Or.inl rfl)) (hck _ _ _ (Or.inr rfl)) _ _ (offs0 k0_t1 k)]
  rfl

end Cert.KernelIdeal.Hand

end
-- ==== Proof.Ideal.LoopsHand.lean ====
/-
  THE TWO LOOPS of the kernel function: twelve trips of eight samples give one line's lanes, fifty lines give the point's result.
-/
module

public import proofs.«01_k».proof.Proof.Gen.KernelIdeal
public import proofs.«01_k».proof.Proof.Ideal.Trip
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The two loops in closed form -/

/-- The lane numbers. -/
abbrev lanes : IVec S1x256 32 := iota .tc S1x256 32 [1] iota_S1x256_d1_w32

theorem samps_add (X : S37250x1x256.Idx → Elt F .f32) (I : S3x4800.Idx → BitVec 32) (Wt : S4x4800.Idx → Elt F .f32) (s0 : ℕ) (acc : FVec F S1x256 .f32) (m n : ℕ) :
    samps lanes X I Wt s0 acc (m + n) = samps lanes X I Wt (s0 + m) (samps lanes X I Wt s0 acc m) n := by
  induction n with
  | zero => rfl
  | succ n ih =>
    show samp _ _ _ _ (s0 + (m + n)) (samps lanes X I Wt s0 acc (m + n)) = samp _ _ _ _ (s0 + m + n) (samps lanes X I Wt (s0 + m) (samps lanes X I Wt s0 acc m) n)
    rw [ih, Nat.add_assoc]

/-- The vector of the first `n` lines' values. -/
def linesVal (X : S37250x1x256.Idx → Elt F .f32) (I : S3x4800.Idx → BitVec 32) (Wt : S4x4800.Idx → Elt F .f32) : ℕ → FVec F S1x50 .f32
  | 0 => k0_pay32 (F := F)
  | n + 1 => if h : n < k0_t1_loop.trips then
      k0_pay34 ⟨n, h⟩ (linesVal X I Wt n) (samps lanes X I Wt (96 * n) (k0_pay31 (F := F)) 96)
    else linesVal X I Wt n

theorem trips2 : k0_t2_loop.trips = 12 := by decide +kernel
theorem trips1 : k0_t1_loop.trips = 50 := by decide +kernel

abbrev held (c : Dev nD) (arg6 : Memref sig .tc .vmem S37250x1x256 .f32) (arg7 : Memref sig .tc .smem S3x4800 .i32) (arg8 : Memref sig .tc .smem S4x4800 .f32)
    (f6 : Buf (Elt F) (arg6.view.loc (c : Thread nD τ))) (f7 : Buf (Elt F) (arg7.view.loc (c : Thread nD τ))) (f8 : Buf (Elt F) (arg8.view.loc (c : Thread nD τ))) : sProp 𝕄 :=
  iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

theorem inner (c : Dev nD) (i : grid0.Coords) (arg2 : Memref sig .tc .hbm S37250x1x256 .f32) (harg2 : arg2.IsWhole) (arg3 : Memref sig .tc .vmem S1x3x4800 .i32) (harg3 : arg3.IsWhole) (arg4 : Memref sig .tc .vmem S1x4x4800 .f32) (harg4 : arg4.IsWhole) (arg5 : Memref sig .tc .vmem S1x1x50 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : DmaSems sig S3) (k0_t1 : Fin k0_t1_loop.trips) (arg10 : BitVec 32)
    (f6 : Buf (Elt F) (arg6.view.loc (c : Thread nD τ))) (f7 : Buf (Elt F) (arg7.view.loc (c : Thread nD τ))) (f8 : Buf (Elt F) (arg8.view.loc (c : Thread nD τ)))
    (hI : TblOK (arg7.view.read (Elt F) f7)) (k : Fin k0_t2_loop.trips) (acc : FVec F S1x256 .f32) :
    iprop(held c arg6 arg7 arg8 f6 f7 f8 ∗ ⌜acc = samps lanes (arg6.view.read (Elt F) f6) (arg7.view.read (Elt F) f7) (arg8.view.read (Elt F) f8) (96 * k0_t1.val) (k0_pay31 (F := F)) (8 * k.val)⌝)
      ⊢ wp frame (wpE (defs₀ (F := F)) Variants.none (c : Thread nD τ) none) Set.univ
        (k0_t2_body i arg2 harg2 arg3 harg3 arg4 harg4 arg5 harg5 arg6 harg6 arg7 harg7 arg8 harg8 arg9 lanes k0_t1 arg10 k acc)
        (fun acc' => iprop(held c arg6 arg7 arg8 f6 f7 f8 ∗ ⌜acc' = samps lanes (arg6.view.read (Elt F) f6) (arg7.view.read (Elt F) f7) (arg8.view.read (Elt F) f8) (96 * k0_t1.val) (k0_pay31 (F := F)) (8 * (k.val + 1))⌝)) := by
  iintro ⟨⟨H6, H7, H8⟩, %hacc⟩
  iapply (trip c i arg2 harg2 arg3 harg3 arg4 harg4 arg5 harg5 arg6 harg6 arg7 harg7 arg8 harg8 arg9 k0_t1 arg10 f6 f7 f8 hI k acc _)
  isplitl [H6]; · iexact H6
  isplitl [H7]; · iexact H7
  isplitl [H8]; · iexact H8
  iintro ⟨H6, H7, H8⟩
  isplitl [H6 H7 H8]
  · isplitl [H6]; · iexact H6
    isplitl [H7]; · iexact H7
    iexact H8
  · ipureintro
    rw [hacc, ← samps_add, Nat.mul_succ]

theorem outer (c : Dev nD) (i : grid0.Coords) (arg2 : Memref sig .tc .hbm S37250x1x256 .f32) (harg2 : arg2.IsWhole) (arg3 : Memref sig .tc .vmem S1x3x4800 .i32) (harg3 : arg3.IsWhole) (arg4 : Memref sig .tc .vmem S1x4x4800 .f32) (harg4 : arg4.IsWhole) (arg5 : Memref sig .tc .vmem S1x1x50 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : DmaSems sig S3)
    (f6 : Buf (Elt F) (arg6.view.loc (c : Thread nD τ))) (f7 : Buf (Elt F) (arg7.view.loc (c : Thread nD τ))) (f8 : Buf (Elt F) (arg8.view.loc (c : Thread nD τ)))
    (hI : TblOK (arg7.view.read (Elt F) f7)) (k : Fin k0_t1_loop.trips) (acc : FVec F S1x50 .f32) :
    iprop(held c arg6 arg7 arg8 f6 f7 f8 ∗ ⌜acc = linesVal (arg6.view.read (Elt F) f6) (arg7.view.read (Elt F) f7) (arg8.view.read (Elt F) f8) k.val⌝)
      ⊢ wp frame (wpE (defs₀ (F := F)) Variants.none (c : Thread nD τ) none) Set.univ
        (k0_t1_body i arg2 harg2 arg3 harg3 arg4 harg4 arg5 harg5 arg6 harg6 arg7 harg7 arg8 harg8 arg9 lanes k acc)
        (fun acc' => iprop(held c arg6 arg7 arg8 f6 f7 f8 ∗ ⌜acc' = linesVal (arg6.view.read (Elt F) f6) (arg7.view.read (Elt F) f7) (arg8.view.read (Elt F) f8) (k.val + 1)⌝)) := by
  iintro ⟨H, %hacc⟩
  unfold k0_t1_body
  iapply (Scf.wp_for_bind frame (wpE (defs₀ (F := F)) Variants.none (c : Thread nD τ) none) Set.univ k0_t2_loop.lb k0_t2_loop.ub k0_t2_loop.st k0_t2_ok _ _
    (fun n a => iprop(held c arg6 arg7 arg8 f6 f7 f8 ∗ ⌜a = samps lanes (arg6.view.read (Elt F) f6) (arg7.view.read (Elt F) f7) (arg8.view.read (Elt F) f8) (96 * k.val) (k0_pay31 (F := F)) (8 * n)⌝))
    (fun n a => inner c i arg2 harg2 arg3 harg3 arg4 harg4 arg5 harg5 arg6 harg6 arg7 harg7 arg8 harg8 arg9 k _ f6 f7 f8 hI n a)) $$ [H]
  · isplitl [H]; · iexact H
    ipureintro; rfl
  · iintro %v ⟨H, %hv⟩
    sl_step
    isplitl [H]; · iexact H
    ipureintro
    rw [hacc, hv]
    show _ = dite _ _ _
    rw [dif_pos k.isLt]
    show k0_pay34 k _ (samps _ _ _ _ _ _ (8 * k0_t2_loop.trips)) = _
    rw [trips2]

/-- The counted loop over the lines: from the three buffers' contents to the vector of the fifty lines' values. -/
theorem lines_bind (c : Dev nD) (i : grid0.Coords) (arg2 : Memref sig .tc .hbm S37250x1x256 .f32) (harg2 : arg2.IsWhole) (arg3 : Memref sig .tc .vmem S1x3x4800 .i32) (harg3 : arg3.IsWhole) (arg4 : Memref sig .tc .vmem S1x4x4800 .f32) (harg4 : arg4.IsWhole) (arg5 : Memref sig .tc .vmem S1x1x50 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : DmaSems sig S3)
    (f6 : Buf (Elt F) (arg6.view.loc (c : Thread nD τ))) (f7 : Buf (Elt F) (arg7.view.loc (c : Thread nD τ))) (f8 : Buf (Elt F) (arg8.view.loc (c : Thread nD τ)))
    (hI : TblOK (arg7.view.read (Elt F) f7)) {β : Type} {kk : FVec F S1x50 .f32 → Prog (TpuEff nD τ sig (Elt F) Λ₀ .tc) β} {Q : β → sProp 𝕄} :
    iprop(held c arg6 arg7 arg8 f6 f7 f8 ∗ (held c arg6 arg7 arg8 f6 f7 f8 -∗
        wp frame (wpE (defs₀ (F := F)) Variants.none (c : Thread nD τ) none) Set.univ (kk (linesVal (arg6.view.read (Elt F) f6) (arg7.view.read (Elt F) f7) (arg8.view.read (Elt F) f8) 50)) Q))
      ⊢ wp frame (wpE (defs₀ (F := F)) Variants.none (c : Thread nD τ) none) Set.univ
        (Scf.Loop.for k0_t1_loop k0_t1_ok (k0_pay32 (F := F)) (k0_t1_body i arg2 harg2 arg3 harg3 arg4 harg4 arg5 harg5 arg6 harg6 arg7 harg7 arg8 harg8 arg9 lanes) >>= kk) Q := by
  iintro ⟨H, HK⟩
  iapply (Scf.wp_for_bind frame (wpE (defs₀ (F := F)) Variants.none (c : Thread nD τ) none) Set.univ k0_t1_loop.lb k0_t1_loop.ub k0_t1_loop.st k0_t1_ok _ _
    (fun n a => iprop(held c arg6 arg7 arg8 f6 f7 f8 ∗ ⌜a = linesVal (arg6.view.read (Elt F) f6) (arg7.view.read (Elt F) f7) (arg8.view.read (Elt F) f8) n⌝))
    (fun n a => outer c i arg2 harg2 arg3 harg3 arg4 harg4 arg5 harg5 arg6 harg6 arg7 harg7 arg8 harg8 arg9 f6 f7 f8 hI n a)) $$ [H]
  · isplitl [H]; · iexact H
    ipureintro; rfl
  · iintro %v ⟨H, %hv⟩
    have hv' : v = linesVal (arg6.view.read (Elt F) f6) (arg7.view.read (Elt F) f7) (arg8.view.read (Elt F) f8) 50 := hv.trans (congrArg (linesVal (arg6.view.read (Elt F) f6) (arg7.view.read (Elt F) f7) (arg8.view.read (Elt F) f8)) trips1)
    subst hv'
    iapply HK $$ H

end Cert.KernelIdeal.Hand

end
-- ==== Proof.Ideal.Body.lean ====
/-
  THE BODY: the copies into scratch, the loops, the store of the point's block.
-/
module

public import proofs.«01_k».proof.Proof.Gen.KernelIdeal
public import proofs.«01_k».proof.Proof.Ideal.LoopsHand
public import proofs.«01_k».proof.Proof.Gen.KernelIdeal.Launch
public import Idealize.ShloMosaic.Lib.WordCmp
public import Idealize.ShloMosaic.Lib.VecWindow
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

/-- The scratch buffers: the image, the two tables. -/
abbrev scM6 : Memref sig .tc .vmem S37250x1x256 .f32 := Memref.whole cc0_scratch0
abbrev scM7 : Memref sig .tc .smem S3x4800 .i32 := Memref.whole cc0_scratch1
abbrev scM8 : Memref sig .tc .smem S4x4800 .f32 := Memref.whole cc0_scratch2
/-- The image operand, left in HBM. -/
abbrev hbM : Memref sig .tc .hbm S37250x1x256 .f32 := Memref.whole main_v94
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- A block of a table without its leading axis. -/
def sqz3 (d : S1x3x4800.Idx → BitVec 32) : S3x4800.Idx → BitVec 32 := fun j => d (ix3 (0 : Fin 1) (j 0) (j 1))
def sqz4 (d : S1x4x4800.Idx → Elt F .f32) : S4x4800.Idx → Elt F .f32 := fun j => d (ix3 (0 : Fin 1) (j 0) (j 1))

/-- What a point's block of the result holds. -/
def pointVal (X : S37250x1x256.Idx → Elt F .f32) (d3 : S1x3x4800.Idx → BitVec 32) (d4 : S1x4x4800.Idx → Elt F .f32) : FVec F S1x1x50 .f32 :=
  k0_pay1 (linesVal X (sqz3 d3) (sqz4 d4) 50)

/-- The condition under which a point loads the image: it is the first of its half. -/
abbrev first (i : grid0.Coords) : Prop :=
  (Scalar.cmpi .ne (Scalar.extui (Scalar.cmpi .eq (BitVec.ofNat 32 (i 1).val) 0#32 : BitVec 1) : BitVec 32) 0#32 : BitVec 1) = 1#1

theorem sqz3_eq (arg : Memref sig .tc .vmem S1x3x4800 .i32) (f : arg.view.ty.Contents (Elt F)) :
    ((arg.slice (Rect.unit (s := S1x3x4800) ![0, 0, 0] S1x3x4800.size inb_S1x3x4800_S1x3x4800_0_0_0) (fun _ => rfl)).squeeze S3x4800 squeezes_S1x3x4800_S3x4800).view.read (Elt F) f
      = sqz3 (arg.view.read (Elt F) f) := by
  refine (Memref.read_squeeze_full arg inb_S1x3x4800_S1x3x4800_0_0_0 squeezes_S1x3x4800_S3x4800 f).trans (funext fun y => ?_)
  refine (shapeCast_dropUnit_apply (n := 2) ![3, 4800] (arg.view.read (Elt F) f) (squeezes_S1x3x4800_S3x4800).numel_eq y).trans ?_
  refine congrArg _ (funext fun x => ?_)
  fin_cases x <;> rfl

theorem sqz4_eq (arg : Memref sig .tc .vmem S1x4x4800 .f32) (f : arg.view.ty.Contents (Elt F)) :
    ((arg.slice (Rect.unit (s := S1x4x4800) ![0, 0, 0] S1x4x4800.size inb_S1x4x4800_S1x4x4800_0_0_0) (fun _ => rfl)).squeeze S4x4800 squeezes_S1x4x4800_S4x4800).view.read (Elt F) f
      = sqz4 (arg.view.read (Elt F) f) := by
  refine (Memref.read_squeeze_full arg inb_S1x4x4800_S1x4x4800_0_0_0 squeezes_S1x4x4800_S4x4800 f).trans (funext fun y => ?_)
  refine (shapeCast_dropUnit_apply (n := 2) ![4, 4800] (arg.view.read (Elt F) f) (squeezes_S1x4x4800_S4x4800).numel_eq y).trans ?_
  refine congrArg _ (funext fun x => ?_)
  fin_cases x <;> rfl

theorem bodyRun (c : Dev nD) (i : grid0.Coords) (arg3 : Memref sig .tc .vmem S1x3x4800 .i32) (harg3 : arg3.IsWhole) (arg4 : Memref sig .tc .vmem S1x4x4800 .f32) (harg4 : arg4.IsWhole) (arg5 : Memref sig .tc .vmem S1x1x50 .f32) (harg5 : arg5.IsWhole)
    (fh : HbBuf (F := F) c hbM) (d3 : S1x3x4800.Idx → BitVec 32) (d4 : S1x4x4800.Idx → Elt F .f32) (f6 : HbBuf (F := F) c scM6)
    (hf6 : ¬ first i → scM6.view.read (Elt F) f6 = hbM.view.read (Elt F) fh) (hI : TblOK (sqz3 d3)) (W : Waits sig Unit) (K : PUnit → sProp 𝕄) :
    iprop(owns (c : Thread nD τ) arg3 fullShare d3 ∗ owns (c : Thread nD τ) arg4 fullShare d4 ∗ (∃ d, owns (c : Thread nD τ) arg5 fullShare d)
        ∗ hbPt c scM6 f6 ∗ (∃ f, hbPt c scM7 f) ∗ (∃ f, hbPt c scM8 f)
        ∗ semVal ((c : Thread nD τ), SemLoc.dma 6) 0 ∗ semVal ((c : Thread nD τ), SemLoc.dma 7) 0 ∗ semVal ((c : Thread nD τ), SemLoc.dma 8) 0
        ∗ hbPt c hbM fh ∗ owes (c : Thread nD τ) 0 W
        ∗ (iprop(owns (c : Thread nD τ) arg3 fullShare d3 ∗ owns (c : Thread nD τ) arg4 fullShare d4
            ∗ owns (c : Thread nD τ) arg5 fullShare (pointVal (hbM.view.read (Elt F) fh) d3 d4)
            ∗ (∃ f, iprop(⌜scM6.view.read (Elt F) f = hbM.view.read (Elt F) fh⌝ ∗ hbPt c scM6 f)) ∗ (∃ f, hbPt c scM7 f) ∗ (∃ f, hbPt c scM8 f)
            ∗ semVal ((c : Thread nD τ), SemLoc.dma 6) 0 ∗ semVal ((c : Thread nD τ), SemLoc.dma 7) 0 ∗ semVal ((c : Thread nD τ), SemLoc.dma 8) 0
            ∗ hbPt c hbM fh ∗ (∃ W', owes (c : Thread nD τ) 0 W')) -∗ K ⟨⟩))
      ⊢ wp frame (wpE (defs₀ (F := F)) Variants.none c none) Set.univ
        (cc0_recon_proj i hbM (Memref.isWhole_whole _) arg3 harg3 arg4 harg4 arg5 harg5 scM6 (Memref.isWhole_whole _) scM7 (Memref.isWhole_whole _) scM8 (Memref.isWhole_whole _) cc0_scratch3) K := by
  unfold owns
  iintro ⟨⟨%f3, %h3, H3⟩, ⟨%f4, %h4, H4⟩, ⟨%d5, %f5, -, H5⟩, H6, ⟨%f7, H7⟩, ⟨%f8, H8⟩, Hq0, Hq1, Hq2, Hh, HW, Hk⟩
  simp only [cc0_recon_proj_eq_skeleton]; unfold cc0_recon_proj_skel
  sl_exec
  have e6 : scM6.view.read (Elt F) (if hc : bodyRun.sl.v2 i = 1#1 then View.write (Elt F) scM6.view f6 (bodyRun.sl.dma0 c fh) Finset.univ else f6)
      = hbM.view.read (Elt F) fh := by
    split
    · exact View.read_write_univ _ _
    · exact hf6 ‹_›
  have e7 : scM7.view.read (Elt F) (View.write (Elt F) scM7.view f7 (bodyRun.sl.dma0_1 c arg3 f3) Finset.univ) = sqz3 d3 :=
    (View.read_write_univ _ _).trans ((sqz3_eq arg3 f3).trans (by rw [h3]))
  have e8 : scM8.view.read (Elt F) (View.write (Elt F) scM8.view f8 (bodyRun.sl.dma0_2 c arg4 f4) Finset.univ) = sqz4 d4 :=
    (View.read_write_univ _ _).trans ((sqz4_eq arg4 f4).trans (by rw [h4]))
  generalize (if hc : bodyRun.sl.v2 i = 1#1 then View.write (Elt F) scM6.view f6 (bodyRun.sl.dma0 c fh) Finset.univ else f6) = g6 at e6 ⊢
  generalize View.write (Elt F) scM7.view f7 (bodyRun.sl.dma0_1 c arg3 f3) Finset.univ = g7 at e7 ⊢
  generalize View.write (Elt F) scM8.view f8 (bodyRun.sl.dma0_2 c arg4 f4) Finset.univ = g8 at e8 ⊢
  iapply (lines_bind c i hbM (Memref.isWhole_whole _) arg3 harg3 arg4 harg4 arg5 harg5 scM6 (Memref.isWhole_whole _) scM7 (Memref.isWhole_whole _) scM8 (Memref.isWhole_whole _) cc0_scratch3 g6 g7 g8 (by rw [e7]; exact hI))
  rw [held]
  rw [show scM6.view.set = Finset.univ from View.set_whole _, show scM7.view.set = Finset.univ from View.set_whole _, show scM8.view.set = Finset.univ from View.set_whole _]
  isplitl [H6 H7 H8]
  · isplitl [H6]; · iexact H6
    isplitl [H7]; · iexact H7
    iexact H8
  iintro ⟨H6, H7, H8⟩
  sl_exec
  sl_step
  iapply Hk
  isplitl [H3]; · iexists f3; isplitr; · ipureintro; exact h3
                  iexact H3
  isplitl [H4]; · iexists f4; isplitr; · ipureintro; exact h4
                  iexact H4
  isplitl [H5]
  · iexists _; isplitr; swap; · iexact H5
    ipureintro
    refine (View.read_writes_full arg5.view f5 _ _ []).trans ?_
    unfold pointVal
    rw [← e6, ← e7, ← e8]; rfl
  isplitl [H6]; · iexists g6; isplitr; · ipureintro; exact e6
                  iexact H6
  isplitl [H7]; · iexists g7; iexact H7
  isplitl [H8]; · iexists g8; iexact H8
  isplitl [Hq0]; · iexact Hq0
  isplitl [Hq1]; · iexact Hq1
  isplitl [Hq2]; · iexact Hq2
  isplitl [Hh]; · iexact Hh
  iexists _; iexact HW

end Cert.KernelIdeal.Hand

end
-- ==== Proof.Ideal.FrameHand.lean ====
/-
  THE RUN of the kernel program: the region's invariant (after the first point the scratch image holds the padded image),
  the body at every point, the launch, and the frame from a bound on the row numbers of the index table.
-/
module

public import proofs.«01_k».proof.Proof.Gen.KernelIdeal
public import proofs.«01_k».proof.Proof.Ideal.Body
public import proofs.«01_k».proof.Proof.Gen.KernelIdeal.Frame
public import proofs.«01_k».proof.Proof.Gen.KernelIdeal.Launch
public import Idealize.ShloMosaic.Lib.WordCmp
public import Idealize.ShloMosaic.Lib.VecWindow
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main up to the region, at this algebra -/

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub, hostOps0_17_sub, hostOps0_18_sub, hostOps0_19_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh, hostOps0_17_fresh, hostOps0_18_fresh, hostOps0_19_fresh⟩) main_chain

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The launch's own semaphores and the operand left in HBM -/

abbrev osem0 : Fin 3 → SemLoc sig := fun j => (![SemLoc.dma 6, SemLoc.dma 7, SemLoc.dma 8] : Fin 3 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0
          ∗ semVal ((c : Thread nD τ), SemLoc.dma 8) 0) := by
  rw [Pipeline.ownSems0_eq_of_list c osem0 [0, 1, 2] (by decide) (by decide)]; rfl
def H0 : Finset (Ref sig .tc) := {main_v94}
theorem H0_sub : H0 ⊆ Pipeline.restRefs sig spec0 := by decide
theorem hbmPts0_eq (c : Dev nD) :
    (bigSep H0 (fun b => ((c : Thread nD τ).loc b) ↦{fullShare} V m c b) : sProp 𝕄) = iprop(hbPt c hbM (V m c main_v94)) := by
  rw [BI.bigSep_eq_bigSepL_of_eq [main_v94] (by decide) (by decide)]; rfl

theorem PhiD0_eq (c : Dev nD) :
    (Pipeline.ΦD osem0 spec0 H0 (V m) c : sProp 𝕄)
      = iprop(iprop((∃ f, hbPt c scM6 f) ∗ (∃ f, hbPt c scM7 f) ∗ (∃ f, hbPt c scM8 f))
          ∗ (∃ r, prngReg c r)
          ∗ iprop(semVal ((c : Thread nD τ), SemLoc.dma 6) 0 ∗ semVal ((c : Thread nD τ), SemLoc.dma 7) 0 ∗ semVal ((c : Thread nD τ), SemLoc.dma 8) 0)
          ∗ hbPt c hbM (V m c main_v94)) := by
  rw [Pipeline.ΦD_eq, scopedRest0_eq, ownSems00_eq, hbmPts0_eq]; try rfl

/-! ## The region's invariant and proof data -/

/-- The image as the region finds it in HBM. -/
def imgX (c : Dev nD) : S37250x1x256.Idx → Elt F .f32 := hbM.view.read (Elt F) (V m c main_v94)

/-- Before point `n`: the scratch image holds the image, unless nothing has run yet. -/
def PhiS (c : Dev nD) (n : ℕ) : sProp 𝕄 :=
  iprop((∃ f, iprop(⌜n ≠ 0 → scM6.view.read (Elt F) f = imgX m c⌝ ∗ hbPt c scM6 f)) ∗ (∃ f, hbPt c scM7 f) ∗ (∃ f, hbPt c scM8 f)
    ∗ (∃ r, prngReg c r)
    ∗ semVal ((c : Thread nD τ), SemLoc.dma 6) 0 ∗ semVal ((c : Thread nD τ), SemLoc.dma 7) 0 ∗ semVal ((c : Thread nD τ), SemLoc.dma 8) 0
    ∗ hbPt c hbM (V m c main_v94))

/-- What point `t` leaves in the result's block. -/
def outAt (c : Dev nD) (t : Fin cfg0.N) : Vec F S1x1x50 .f32 := pointVal (imgX m c) (iblk m c 0 t) (iblk m c 1 t)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = outAt m c t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

theorem first_zero (t : Fin cfg0.N) (h : ¬ first (grid0.coords t)) : t.val ≠ 0 := fun e =>
  h (by rw [show t = (⟨0, t.pos⟩ : Fin cfg0.N) from Fin.ext e]; exact (by decide +kernel : first (grid0.coords (⟨0, by decide⟩ : Fin grid0.N))))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (hT : ∀ c t, TblOK (sqz3 (iblk m c 0 t))) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, after0_0, after0_1, after0_2]
  rw [Phi_castSucc, Phi_succ]
  unfold Dat.owesAt Pipeline.owesWithin
  rw [show (dats m 0 c).owed t.castSucc = 0 from rfl, show (dats m 0 c).owed t.succ = 0 from rfl]
  unfold PhiS
  iintro ⟨⟨⟨%f6, %hf6, H6⟩, H7, H8, Hg, Hq0, Hq1, Hq2, Hh⟩, ⟨%W, -, HW⟩, ⟨%d0, H0⟩, ⟨%d1, H1⟩, ⟨%d2, H2⟩⟩
  iapply (bodyRun c (grid0.coords t) _ _ _ _ _ _ (V m c main_v94) (iblk m c 0 t) (iblk m c 1 t) f6 (fun h => hf6 (first_zero t h)) (hT c t) W _)
  isplitl [H0]; · iexact H0
  isplitl [H1]; · iexact H1
  isplitl [H2]; · iexists _; iexact H2
  isplitl [H6]; · iexact H6
  isplitl [H7]; · iexact H7
  isplitl [H8]; · iexact H8
  isplitl [Hq0]; · iexact Hq0
  isplitl [Hq1]; · iexact Hq1
  isplitl [Hq2]; · iexact Hq2
  isplitl [Hh]; · iexact Hh
  isplitl [HW]; · iexact HW
  iintro ⟨H0, H1, H2, ⟨%g6, %hg6, H6⟩, H7, H8, Hq0, Hq1, Hq2, Hh, ⟨%W', HW'⟩⟩
  isplitl [H6 H7 H8 Hg Hq0 Hq1 Hq2 Hh]
  · isplitl [H6]
    · iexists g6; isplitr; · ipureintro; exact fun _ => hg6
      iexact H6
    isplitl [H7]; · iexact H7
    isplitl [H8]; · iexact H8
    isplitl [Hg]; · iexact Hg
    isplitl [Hq0]; · iexact Hq0
    isplitl [Hq1]; · iexact Hq1
    isplitl [Hq2]; · iexact Hq2
    iexact Hh
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (hT : ∀ c t, TblOK (sqz3 (iblk m c 0 t))) (c : Dev nD) :
    BodyObligation (dats (F := F) m 0 c) (defs₀ (F := F)) Variants.none () Set.univ := fun t => by
  rw [bigSep_W0, bigSep_W0, defs₀_row]
  exact triple_restated (sound_body m hT c t) rfl .rfl fun _ => .rfl

theorem Phi_in (c : Dev nD) : (Pipeline.ΦD osem0 spec0 H0 (V m) c : sProp 𝕄) ⊢ PhiS m c 0 := by
  rw [PhiD0_eq]; unfold PhiS
  iintro ⟨⟨⟨%f6, H6⟩, H7, H8⟩, Hg, ⟨Hq0, Hq1, Hq2⟩, Hh⟩
  isplitl [H6]
  · iexists f6; isplitr; · ipureintro; exact fun h => absurd rfl h
    iexact H6
  isplitl [H7]; · iexact H7
  isplitl [H8]; · iexact H8
  isplitl [Hg]; · iexact Hg
  isplitl [Hq0]; · iexact Hq0
  isplitl [Hq1]; · iexact Hq1
  isplitl [Hq2]; · iexact Hq2
  iexact Hh

theorem Phi_out (c : Dev nD) (n : ℕ) : PhiS m c n ⊢ (Pipeline.ΦD osem0 spec0 H0 (V m) c : sProp 𝕄) := by
  rw [PhiD0_eq]; unfold PhiS
  iintro ⟨⟨%f6, %hf6, H6⟩, H7, H8, Hg, Hq0, Hq1, Hq2, Hh⟩
  isplitl [H6 H7 H8]
  · isplitl [H6]; · iexists f6; iexact H6
    isplitl [H7]; · iexact H7
    iexact H8
  isplitl [Hg]; · iexact Hg
  isplitl [Hq0 Hq1 Hq2]
  · isplitl [Hq0]; · iexact Hq0
    isplitl [Hq1]; · iexact Hq1
    iexact Hq2
  iexact Hh

/-! ## The run and the frame -/

set_option backward.isDefEq.respectTransparency.types false in
theorem run_main (hT : ∀ c t, TblOK (sqz3 (iblk m c 0 t))) :
    θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m hT c).loose) (hshare := fun c => (dats m 0 c).share_full fun _ => rfl)
    (howed := fun _ _ => rfl) (V := V m) (hmain := hmain m Variants.none) (hA := A_eq m)
    (hin := fun c => Phi_in m c) (hout := fun c => Phi_out m c _)

theorem frame_of (hT : ∀ c t, TblOK (sqz3 (iblk m c 0 t))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩, h.2⟩) (run_main m ρ hT)

end Cert.KernelIdeal.Hand

end
-- ==== Proof.Ideal.Host.lean ====
/-
  THE HOST LINES' RESULTS, index by index: the table of row numbers, the table of weights and the padded image that the
  region finds, over the argument arrays; and the bound on the row numbers.
-/
module

public import proofs.«01_k».proof.Proof.Ideal.FrameHand
public import proofs.«01_k».proof.Proof.Spec
public import Idealize.ShloMosaic.Lib.StableHlo.ReadAt

@[expose] public section

noncomputable section

namespace Cert.KernelIdeal.Hand

open Cert.KernelIdeal Cert.KernelIdeal.Gen Cert.Spec
open Idealize.ShloMosaic Idealize.ShloMosaic.TcCoe
open Idealize.SL.Sem

variable {F : FTy → Type} [FloatOps F]
variable (m : (ℓ : Loc nD τ sig) → Buf (Elt F) ℓ) (c : Dev nD) (b : Fin 1000) (j : Fin 4800) (r : Fin 37250) (l : Fin 256)

/-- The voxel coordinate, of the arguments in memory. -/
def voxM (d : Fin 3) (i : Fin 50000) (s : ℕ) : F .f32 := vox (m (c, Proc.tc.devRef main_arg1)) (m (c, Proc.tc.devRef main_arg2)) (m (c, Proc.tc.devRef main_arg3)) d i s
/-- The line of entry `j` of block `b`. -/
abbrev lineOf (b : Fin 1000) (j : Fin 4800) : Fin 50000 := ⟨b.val * 50 + j.val / 96, by omega⟩

set_option maxHeartbeats 1000000 in
theorem idx_0 :
    (V m c main_v82 : S1000x3x4800.Idx → BitVec 32) (ix3 b 0 j) = row0 (clipW 192#32 (cell (voxM m c 0 (lineOf b j) (j.val % 96)))) (clipW 191#32 (cell (voxM m c 1 (lineOf b j) (j.val % 96)))) := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  after_reads_at
  rfl

set_option maxHeartbeats 1000000 in
theorem idx_1 :
    (V m c main_v82 : S1000x3x4800.Idx → BitVec 32) (ix3 b 1 j) = row1 (clipW 192#32 (cell (voxM m c 0 (lineOf b j) (j.val % 96)))) (clipW 191#32 (cell (voxM m c 1 (lineOf b j) (j.val % 96)))) := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  after_reads_at
  rfl

set_option maxHeartbeats 1000000 in
theorem idx_2 :
    (V m c main_v82 : S1000x3x4800.Idx → BitVec 32) (ix3 b 2 j) = clipW 192#32 (cell (voxM m c 2 (lineOf b j) (j.val % 96))) := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  after_reads_at
  rfl

set_option maxHeartbeats 1000000 in
theorem wts_0 :
    (V m c main_v91 : S1000x4x4800.Idx → F .f32) (ix3 b 0 j) = frac (voxM m c 2 (lineOf b j) (j.val % 96)) := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  after_reads_at
  rfl

set_option maxHeartbeats 1000000 in
theorem wts_1 :
    (V m c main_v91 : S1000x4x4800.Idx → F .f32) (ix3 b 1 j) = wx0 (clipW 192#32 (cell (voxM m c 0 (lineOf b j) (j.val % 96)))) (frac (voxM m c 0 (lineOf b j) (j.val % 96))) := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  after_reads_at
  rfl

set_option maxHeartbeats 1000000 in
theorem wts_2 :
    (V m c main_v91 : S1000x4x4800.Idx → F .f32) (ix3 b 2 j) = wx1 (clipW 192#32 (cell (voxM m c 0 (lineOf b j) (j.val % 96)))) (frac (voxM m c 0 (lineOf b j) (j.val % 96))) := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  after_reads_at
  rfl

set_option maxHeartbeats 1000000 in
theorem wts_3 :
    (V m c main_v91 : S1000x4x4800.Idx → F .f32) (ix3 b 3 j) = frac (voxM m c 1 (lineOf b j) (j.val % 96)) := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  after_reads_at
  rfl

set_option maxHeartbeats 1000000 in
theorem img_at :
    (V m c main_v94 : S37250x1x256.Idx → F .f32) (ix3 r 0 l) = padded (m (c, Proc.tc.devRef main_arg0)) r l := by
  unfold V
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18, hostOps0_19, List.cons_append, List.nil_append]
  after_reads_at
  rfl

end Cert.KernelIdeal.Hand

end
-- ==== Proof.Ideal.Blocks.lean ====
/-
  THE BLOCKS: the windows' blocks read off their arrays, the row numbers in range at every point, the frame, and the
  result array after the last point, block by block.
-/
module

public import proofs.«01_k».proof.Proof.Ideal.Host
public import Idealize.ShloMosaic.Lib.Pipeline.Value

@[expose] public section

noncomputable section

namespace Cert.KernelIdeal.Hand

open Cert.KernelIdeal Cert.KernelIdeal.Gen Cert.Spec
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (c : Dev nD)

theorem index_in : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) := by decide +kernel

theorem N_eq : cfg0.N = 1000 := by decide

/-- A point as the number of its block. -/
abbrev blkNo (t : Fin cfg0.N) : Fin 1000 := ⟨t.val, lt_of_lt_of_eq t.isLt N_eq⟩

theorem iblk0_at (t : Fin cfg0.N) (a : Fin 3) (j : Fin 4800) :
    (iblk m c 0 t : S1x3x4800.Idx → BitVec 32) (ix3 0 a j) = (V m c main_v82 : S1000x3x4800.Idx → BitVec 32) (ix3 (blkNo t) a j) := by
  unfold iblk
  rw [View.read_apply]
  show V m c main_v82 _ = V m c main_v82 _
  congr 1
  funext x
  apply Fin.ext
  match x with
  | ⟨0, _⟩ => show win0_0.index t 0 * 1 + 1 * 0 = t.val; rw [(index_in t).1.1]; omega
  | ⟨1, _⟩ => show win0_0.index t 1 * 3 + 1 * a.val = a.val; rw [(index_in t).1.2.1]; omega
  | ⟨2, _⟩ => show win0_0.index t 2 * 4800 + 1 * j.val = j.val; rw [(index_in t).1.2.2]; omega

theorem iblk1_at (t : Fin cfg0.N) (a : Fin 4) (j : Fin 4800) :
    (iblk m c 1 t : S1x4x4800.Idx → F .f32) (ix3 0 a j) = (V m c main_v91 : S1000x4x4800.Idx → F .f32) (ix3 (blkNo t) a j) := by
  unfold iblk
  rw [View.read_apply]
  show V m c main_v91 _ = V m c main_v91 _
  congr 1
  funext x
  apply Fin.ext
  match x with
  | ⟨0, _⟩ => show win0_1.index t 0 * 1 + 1 * 0 = t.val; rw [(index_in t).2.1.1]; omega
  | ⟨1, _⟩ => show win0_1.index t 1 * 4 + 1 * a.val = a.val; rw [(index_in t).2.1.2.1]; omega
  | ⟨2, _⟩ => show win0_1.index t 2 * 4800 + 1 * j.val = j.val; rw [(index_in t).2.1.2.2]; omega

theorem sqz0_at (t : Fin cfg0.N) (a : Fin 3) (j : Fin 4800) :
    sqz3 (iblk m c 0 t) (ValueIdx.ix2 a j) = (V m c main_v82 : S1000x3x4800.Idx → BitVec 32) (ix3 (blkNo t) a j) := by
  rw [← iblk0_at]
  show (iblk m c 0 t : S1x3x4800.Idx → BitVec 32) _ = _
  congr 1

theorem sqz1_at (t : Fin cfg0.N) (a : Fin 4) (j : Fin 4800) :
    sqz4 (iblk m c 1 t) (ValueIdx.ix2 a j) = (V m c main_v91 : S1000x4x4800.Idx → F .f32) (ix3 (blkNo t) a j) := by
  rw [← iblk1_at]
  show (iblk m c 1 t : S1x4x4800.Idx → F .f32) _ = _
  congr 1

/-- Every block of the table holds row numbers of the padded image. -/
theorem tbl_ok (c : Dev nD) (t : Fin cfg0.N) : TblOK (sqz3 (iblk m c 0 t)) := by
  intro a j ha
  rw [sqz0_at]
  match a, ha with
  | ⟨0, _⟩, _ => rw [show (ix3 (blkNo t) ⟨0, _⟩ j : S1000x3x4800.Idx) = ix3 (blkNo t) 0 j from rfl, idx_0]; exact row0_le _ _
  | ⟨1, _⟩, _ => rw [show (ix3 (blkNo t) ⟨1, _⟩ j : S1000x3x4800.Idx) = ix3 (blkNo t) 1 j from rfl, idx_1]; exact row1_le _ _

/-- The frame: the arguments end as launched, every counter at zero. -/
theorem frame_all :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := frame_of m ρ (tbl_ok m)

/-! ## The result array -/

/-- The result array: row `t` is what point `t` leaves. -/
def resArr (i : S1000x1x50.Idx) : F .f32 :=
  (outAt m c ⟨(i 0).val, by rw [N_eq]; exact (i 0).isLt⟩ : S1x1x50.Idx → F .f32) (ix3 0 0 (i 2))

theorem flushed_eq (t : Fin cfg0.N) :
    (dats m 0 c).flushed 2 t = (win0_2.blk t).view.read (Elt F) (resArr m c) := by
  show (cfg0.win 2).cut (grid0.coords t) ((dats m 0 c).after 2 t) = _
  rw [after0_2]
  funext i
  rw [View.read_apply]
  show (outAt m c t : S1x1x50.Idx → F .f32) i = resArr m c _
  unfold resArr
  have e0 : win0_2.index t 0 * 1 + 1 * (i 0).val = t.val := by
    rw [(index_in t).2.2.1]; have := (i 0).isLt; have : (i 0).val < 1 := this; omega
  have e2 : win0_2.index t 2 * 50 + 1 * (i 2).val = (i 2).val := by rw [(index_in t).2.2.2.2]; omega
  congr 1
  · congr 1; exact Fin.ext e0.symm
  · funext x
    apply Fin.ext
    match x with
    | ⟨0, _⟩ => have := (i 0).isLt; have : (i 0).val < 1 := this; show (i 0).val = 0; omega
    | ⟨1, _⟩ => have := (i 1).isLt; have : (i 1).val < 1 := this; show (i 1).val = 0; omega
    | ⟨2, _⟩ => exact e2.symm

theorem cover (i : S1000x1x50.Idx) :
    ∃ t : Fin cfg0.N, (cfg0.win 2).flush t = true ∧ i ∈ ((cfg0.win 2).blk t).view.set := by
  refine ⟨⟨(i 0).val, by rw [N_eq]; exact (i 0).isLt⟩, flush0_2 _, ?_⟩
  generalize ht : (⟨(i 0).val, by rw [N_eq]; exact (i 0).isLt⟩ : Fin cfg0.N) = t
  have hv : t.val = (i 0).val := by rw [← ht]
  show i ∈ ((View.whole main_v95).slice (win0_2.rect t)).set
  rw [View.set_slice_whole, Rect.mem_set_unit]
  intro a
  match a with
  | ⟨0, _⟩ => show win0_2.index t 0 * 1 ≤ (i 0).val ∧ (i 0).val < win0_2.index t 0 * 1 + 1; rw [(index_in t).2.2.1]; omega
  | ⟨1, _⟩ => show win0_2.index t 1 * 1 ≤ (i 1).val ∧ (i 1).val < win0_2.index t 1 * 1 + 1; rw [(index_in t).2.2.2.1]; have : (i 1).val < 1 := (i 1).isLt; omega
  | ⟨2, _⟩ => show win0_2.index t 2 * 50 ≤ (i 2).val ∧ (i 2).val < win0_2.index t 2 * 50 + 50; rw [(index_in t).2.2.2.2]; have : (i 2).val < 50 := (i 2).isLt; omega

theorem final_o : (dats m 0 c).arrAt 2 cfg0.N = resArr m c :=
  (dats m 0 c).arrAt_eq_of_cover 2 (resArr m c) (fun t _ => flushed_eq m c t) cover

/-- The run: the result array at its blocks' values, and the arguments unchanged. -/
theorem run_all :
    θ_run defs (onTc (τ := τ) (main (F := F))) ⟨m, fun _ => 0, ρ⟩ (fun r => ∀ c : Dev nD,
      r.2.mem ((c.tc : Thread nD τ).loc main_v95) = resArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨((h.1 c).1 2).trans (final_o m c),
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c),
      ((h.1 c).2 main_arg3 (Pipeline.mem_restRefs_of main_arg3 (by decide) (by decide))).trans (V_main_arg3 m c)⟩) (run_main m ρ (tbl_ok m))

end Cert.KernelIdeal.Hand

end
-- ==== Proof.Corner.lean ====
/-
  ONE SAMPLE OVER THE EXTENDED REALS. A voxel coordinate in -1 ≤ v < 192 has a cell `n` in -1 … 191 and a fraction
  (`Ax`); the sample's value is `T`: over the eight corners, the image there (`E`, zero outside) times the product of
  the three axes' weights. Both the reference's corners and the kernel's lanes sum to it.
-/
module

public import proofs.«01_k».proof.Proof.Spec
public import Idealize.ShloMosaic.PureOps.Ideal.Laws

@[expose] public section

noncomputable section

namespace Cert.Corner

open Cert.Spec
open Idealize.ShloMosaic

abbrev Img : Type := (⟨3, ![192, 192, 192]⟩ : Shape).Idx → EReal

/-- The image at a cell, zero outside. -/
def E (img : Img) (x y z : ℤ) : EReal :=
  if h : ((0 ≤ x ∧ x < 192) ∧ (0 ≤ y ∧ y < 192)) ∧ (0 ≤ z ∧ z < 192) then
    img (ix3 ⟨x.toNat, by omega⟩ ⟨y.toNat, by omega⟩ ⟨z.toNat, by omega⟩) else 0

/-- A coordinate's cell and fraction. -/
structure Ax (v : EReal) (n : ℤ) (f : ℝ) : Prop where
  lo : -1 ≤ n
  hi : n ≤ 191
  nonneg : 0 ≤ f
  le_one : f ≤ 1
  cell : (Spec.cell (F := Ideal) v).toInt = n
  frac : Spec.frac (F := Ideal) v = (f : EReal)

theorem ax_of {v : EReal} (h : ((-1 : ℝ) : EReal) ≤ v) (h' : v < ((192 : ℝ) : EReal)) : ∃ n f, Ax v n f := by
  induction v with
  | bot => exact absurd h (not_le.2 (EReal.bot_lt_coe _))
  | top => exact absurd h' (not_lt.2 le_top)
  | coe r =>
    have h1 : (-1 : ℝ) ≤ r := by exact_mod_cast h
    have h2 : r < 192 := by exact_mod_cast h'
    have n1 : -1 ≤ ⌊r⌋ := Int.le_floor.2 (by exact_mod_cast h1)
    have n2 : ⌊r⌋ ≤ 191 := by
      have : ⌊r⌋ < 192 := Int.floor_lt.2 (by exact_mod_cast h2)
      omega
    have ef : flo (F := Ideal) (r : EReal) = ((⌊r⌋ : ℝ) : EReal) := rfl
    refine ⟨⌊r⌋, r - ⌊r⌋, n1, n2, by linarith [Int.floor_le r], by linarith [Int.lt_floor_add_one r], ?_, ?_⟩
    · unfold Spec.cell
      rw [ef]
      show (BitVec.ofInt 32 (Ideal.toIntClamped _ _ (((⌊r⌋ : ℤ) : ℝ) : EReal))).toInt = _
      rw [Ideal.toIntClamped_coe]
      simp only [Int.floor_intCast, Int.ceil_intCast, ite_self]
      rw [BitVec.toInt_ofInt]
      norm_num
      rw [min_eq_right (by omega), max_eq_right (by omega)]
      exact Int.bmod_eq_of_le (by omega) (by omega)
    · unfold Spec.frac
      rw [ef]
      show ((r : EReal) - ((⌊r⌋ : ℝ) : EReal)) = _
      exact (EReal.coe_sub _ _).symm

/-- Corner `k`'s step along an axis, as a number. -/
def st (k : Fin 8) (d : Fin 3) : ℤ := (step k d).toInt
/-- The weight of a cell (`0`) or the next (`1`) along an axis. -/
def lin (n : ℤ) (f : ℝ) : ℝ := if n = 1 then f else 1 - f

theorem step_cases : ∀ (k : Fin 8) (d : Fin 3), step k d = 0#32 ∨ step k d = 1#32 := by decide

/-- The sample's value. -/
def T (img : Img) (x y z : ℤ) (fx fy fz : ℝ) : EReal :=
  ∑ k : Fin 8, E img (x + st k 0) (y + st k 1) (z + st k 2) * ((lin (st k 0) fx * lin (st k 1) fy * lin (st k 2) fz : ℝ) : EReal)

/-! ## The reference's corners -/

theorem one_eq : (one (F := Ideal) : EReal) = ((1 : ℝ) : EReal) := by
  show Ideal.ofBits .f32 0x3F800000#32 = _
  simp [Ideal.ofBits, Ideal.ieee, -EReal.coe_mul]; norm_num
theorem nil_eq : (nil (F := Ideal) : EReal) = 0 := Ideal.ofBits_zero_f32

theorem part_eq {v : EReal} {n : ℤ} {f : ℝ} (h : Ax v n f) (k : Fin 8) (d : Fin 3) : (part (F := Ideal) k d v : EReal) = ((lin (st k d) f : ℝ) : EReal) := by
  unfold part lin st
  rw [h.frac]
  rcases step_cases k d with e | e <;> rw [e]
  · show (one (F := Ideal) : EReal) - (f : EReal) = _
    rw [one_eq, ← EReal.coe_sub]; rfl
  · rfl

theorem corner_eq {v : EReal} {n : ℤ} {f : ℝ} (h : Ax v n f) (k : Fin 8) (d : Fin 3) : (corner (F := Ideal) k d v).toInt = n + st k d := by
  unfold corner st
  rcases step_cases k d with e | e <;> rw [e]
  · rw [show IntOp.addi (Spec.cell (F := Ideal) v) 0#32 = Spec.cell (F := Ideal) v from BitVec.add_zero _, h.cell]; exact (add_zero n).symm
  · rw [toInt_succ (by rw [h.cell]; exact h.lo) (by rw [h.cell]; have := h.hi; omega), h.cell]; rfl

theorem within_iff (w : BitVec 32) : within w = 1 ↔ 0 ≤ w.toInt ∧ w.toInt < 192 := by
  unfold within
  rw [andi_one, cmp_sge]
  refine and_congr Iff.rfl ?_
  unfold IntOp.cmpi
  rw [show (w.slt 192#32) = decide (w.toInt < 192) from rfl]
  by_cases h : w.toInt < 192 <;> simp [h]

theorem place_eq {w : BitVec 32} (h : 0 ≤ w.toInt ∧ w.toInt < 192) : place (wrap (Spec.held w)) = ⟨w.toInt.toNat, by omega⟩ := by
  have e : Spec.held w = w := by
    unfold Spec.held IntOp.minsi IntOp.maxsi IntOp.subi
    simp only [BitVec.slt_iff_toInt_lt]
    have e0 : (0#32 : BitVec 32).toInt = 0 := rfl
    have e1 : (192#32 - 1#32 : BitVec 32).toInt = 191 := rfl
    split <;> split <;> first | rfl | (apply BitVec.eq_of_toInt_eq; omega)
  have e' : wrap w = w := by
    unfold wrap
    refine if_neg ?_
    unfold IntOp.cmpi
    rw [show (w.slt 0#32) = decide (w.toInt < 0) from rfl, decide_eq_false (not_lt.2 h.1)]
    show ¬ (BitVec.ofBool false = 1#1)
    decide
  rw [e, e']
  unfold place
  refine Fin.ext ?_
  show min w.toInt.toNat 191 = w.toInt.toNat
  omega

theorem term_eq (img : Img) {v0 v1 v2 : EReal} {n0 n1 n2 : ℤ} {f0 f1 f2 : ℝ} (h0 : Ax v0 n0 f0) (h1 : Ax v1 n1 f1) (h2 : Ax v2 n2 f2) (k : Fin 8) :
    img (ix3 (place (wrap (Spec.held (corner (F := Ideal) k 0 v0)))) (place (wrap (Spec.held (corner (F := Ideal) k 1 v1)))) (place (wrap (Spec.held (corner (F := Ideal) k 2 v2)))))
      * (weight (F := Ideal) k v0 v1 v2 : EReal)
    = E img (n0 + st k 0) (n1 + st k 1) (n2 + st k 2) * ((lin (st k 0) f0 * lin (st k 1) f1 * lin (st k 2) f2 : ℝ) : EReal) := by
  have c0 := corner_eq h0 k 0
  have c1 := corner_eq h1 k 1
  have c2 := corner_eq h2 k 2
  unfold weight
  rw [part_eq h0, part_eq h1, part_eq h2]
  rw [← c0, ← c1, ← c2]
  unfold E Scalar.select
  simp only [andi_one, within_iff]
  by_cases h : ((0 ≤ (corner (F := Ideal) k 0 v0).toInt ∧ (corner (F := Ideal) k 0 v0).toInt < 192) ∧ (0 ≤ (corner (F := Ideal) k 1 v1).toInt ∧ (corner (F := Ideal) k 1 v1).toInt < 192))
      ∧ (0 ≤ (corner (F := Ideal) k 2 v2).toInt ∧ (corner (F := Ideal) k 2 v2).toInt < 192)
  · rw [if_pos h, dif_pos h, place_eq h.1.1, place_eq h.1.2, place_eq h.2, EReal.coe_mul, EReal.coe_mul]
    rfl
  · rw [if_neg h, dif_neg h, nil_eq, mul_zero, zero_mul]

/-! ## The kernel's lanes -/

theorem E_low (img : Img) (x y : ℤ) {z : ℤ} (h : z < 0 ∨ 192 ≤ z) : E img x y z = 0 := dif_neg (by omega)
theorem E_out (img : Img) {x : ℤ} (y z : ℤ) (h : x < 0 ∨ 192 ≤ x) : E img x y z = 0 := dif_neg (by omega)

/-- The weight the kernel gives lane `l`, against the coordinate along the lanes. -/
def lane (n : ℤ) (f : ℝ) (l : ℤ) : EReal := (if l = n then ((1 - f : ℝ) : EReal) else 0) + (if l = n + 1 then (f : EReal) else 0)

theorem pick (c : EReal) (n : ℤ) (hc : n < 0 ∨ 256 ≤ n → c = 0) : ∑ l : Fin 256, (if (l.val : ℤ) = n then c else 0) = c := by
  by_cases h : n < 0 ∨ 256 ≤ n
  · rw [hc h]; simp
  · rw [Finset.sum_eq_single (⟨n.toNat, by omega⟩ : Fin 256)]
    · exact if_pos (by show ((n.toNat : ℕ) : ℤ) = n; omega)
    · intro l _ hl
      exact if_neg fun e => hl (Fin.ext (by show l.val = n.toNat; omega))
    · exact fun a => absurd (Finset.mem_univ _) a

theorem lane_sum (P : ℤ → EReal) (hP : ∀ l, l < 0 ∨ 192 ≤ l → P l = 0) {n : ℤ} (h1 : -1 ≤ n) (h2 : n ≤ 191) (f : ℝ) :
    ∑ l : Fin 256, P l.val * lane n f l.val = P n * ((1 - f : ℝ) : EReal) + P (n + 1) * (f : EReal) := by
  have e : ∀ l : Fin 256, P l.val * lane n f l.val = (if (l.val : ℤ) = n then P n * ((1 - f : ℝ) : EReal) else 0) + (if (l.val : ℤ) = n + 1 then P (n + 1) * (f : EReal) else 0) := by
    intro l
    unfold lane
    by_cases a : (l.val : ℤ) = n
    · rw [if_pos a, if_pos a, if_neg (by omega), if_neg (by omega), add_zero, add_zero, a]
    · by_cases b : (l.val : ℤ) = n + 1
      · rw [if_neg a, if_neg a, if_pos b, if_pos b, zero_add, zero_add, b]
      · rw [if_neg a, if_neg a, if_neg b, if_neg b, add_zero, mul_zero]
  rw [Finset.sum_congr rfl fun l _ => e l, Finset.sum_add_distrib,
    pick _ n (fun h => by rw [hP n (by omega), zero_mul]), pick _ (n + 1) (fun h => by rw [hP (n + 1) (by omega), zero_mul])]

/-- A nonnegative number distributes over a sum of four. -/
theorem four_mul (a b c d : EReal) {r : ℝ} (hr : 0 ≤ r) : (a + b + c + d) * (r : EReal) = a * r + b * r + c * r + d * r := by
  have h0 : (0 : EReal) ≤ (r : EReal) := by exact_mod_cast hr
  have ht : (r : EReal) ≠ ⊤ := EReal.coe_ne_top r
  rw [EReal.right_distrib_of_nonneg_of_ne_top h0 ht, EReal.right_distrib_of_nonneg_of_ne_top h0 ht, EReal.right_distrib_of_nonneg_of_ne_top h0 ht]

/-- The four rows the kernel reads, at one lane. -/
def rows (img : Img) (x y : ℤ) (fx fy : ℝ) (l : ℤ) : EReal :=
  E img x y l * (((1 - fx) * (1 - fy) : ℝ) : EReal) + E img x (y + 1) l * (((1 - fx) * fy : ℝ) : EReal)
    + E img (x + 1) y l * ((fx * (1 - fy) : ℝ) : EReal) + E img (x + 1) (y + 1) l * ((fx * fy : ℝ) : EReal)

theorem rows_sum (img : Img) {x y z : ℤ} {fx fy fz : ℝ} (h1 : -1 ≤ z) (h2 : z ≤ 191) (f0 : 0 ≤ fz) (f1 : fz ≤ 1) :
    ∑ l : Fin 256, rows img x y fx fy l.val * lane z fz l.val = T img x y z fx fy fz := by
  rw [lane_sum (rows img x y fx fy) (fun l h => by unfold rows; simp only [E_low img _ _ h, zero_mul, add_zero]) h1 h2]
  unfold rows
  rw [four_mul _ _ _ _ (by linarith : (0 : ℝ) ≤ 1 - fz), four_mul _ _ _ _ f0]
  unfold T
  rw [Fin.sum_univ_eight]
  have t : ∀ k d, st k d = if step k d = 1#32 then 1 else 0 := by
    intro k d; unfold st
    rcases step_cases k d with e | e <;> rw [e] <;> rfl
  simp only [t, show step 0 0 = 0#32 from rfl, show step 0 1 = 0#32 from rfl, show step 0 2 = 0#32 from rfl,
    show step 1 0 = 0#32 from rfl, show step 1 1 = 0#32 from rfl, show step 1 2 = 1#32 from rfl,
    show step 2 0 = 0#32 from rfl, show step 2 1 = 1#32 from rfl, show step 2 2 = 0#32 from rfl,
    show step 3 0 = 0#32 from rfl, show step 3 1 = 1#32 from rfl, show step 3 2 = 1#32 from rfl,
    show step 4 0 = 1#32 from rfl, show step 4 1 = 0#32 from rfl, show step 4 2 = 0#32 from rfl,
    show step 5 0 = 1#32 from rfl, show step 5 1 = 0#32 from rfl, show step 5 2 = 1#32 from rfl,
    show step 6 0 = 1#32 from rfl, show step 6 1 = 1#32 from rfl, show step 6 2 = 0#32 from rfl,
    show step 7 0 = 1#32 from rfl, show step 7 1 = 1#32 from rfl, show step 7 2 = 1#32 from rfl]
  simp only [show ¬ ((0#32 : BitVec 32) = 1#32) by decide, if_true, if_false, add_zero, lin, show ¬ ((0 : ℤ) = 1) by decide, mul_assoc, ← EReal.coe_mul]
  abel

end Cert.Corner
end
-- ==== Proof.Rows.lean ====
/-
  THE FOUR ROWS of a sample over the extended reals: what the row numbers and the weights of the kernel's tables pick out
  of the padded image is the image at the cells, zero outside.
-/
module

public import proofs.«01_k».proof.Proof.Corner

@[expose] public section

noncomputable section

namespace Cert.Corner

open Cert.Spec
open Idealize.ShloMosaic

theorem sito_zero : (FloatOps.sitofp (F := Ideal) .f32 (0#32) : EReal) = 0 := by
  show (((0#32 : BitVec 32).toInt : ℝ) : EReal) = 0
  simp

theorem padded_eq (img : Img) {x y : ℤ} (hx : 0 ≤ x) (hx' : x ≤ 191) (hy : -1 ≤ y) (hy' : y ≤ 192) (r : Fin 37250) (hr : (r.val : ℤ) = x * 194 + (y + 1)) (l : Fin 256) :
    (padded (F := Ideal) img r l : EReal) = E img x y l.val := by
  have hd : r.val / 194 = x.toNat := by omega
  have hm : r.val % 194 = (y + 1).toNat := by omega
  unfold padded E
  rw [dif_pos (by omega)]
  by_cases h : ((0 ≤ x ∧ x < 192) ∧ (0 ≤ y ∧ y < 192)) ∧ (0 ≤ (l.val : ℤ) ∧ (l.val : ℤ) < 192)
  · rw [dif_pos h, dif_pos (by omega)]
    congr 1
    refine congrArg₂ (fun a b => ix3 a b _) (Fin.ext ?_) (Fin.ext ?_)
    · exact hd
    · show r.val % 194 - 1 = y.toNat; omega
  · rw [dif_neg h, dif_neg (by omega), sito_zero]

variable (img : Img) {v0 v1 : EReal} {n0 n1 : ℤ} {f0 f1 : ℝ} (h0 : Ax v0 n0 f0) (h1 : Ax v1 n1 f1)

/-- The words the tables are made of. -/
abbrev wx (v : EReal) : BitVec 32 := clipW 192#32 (Spec.cell (F := Ideal) v)
abbrev wy (v : EReal) : BitVec 32 := clipW 191#32 (Spec.cell (F := Ideal) v)

include h0 in
theorem wx_toInt : (wx v0).toInt = n0 := by
  have e : (192#32 : BitVec 32).toInt = 192 := rfl
  have := h0.lo; have := h0.hi; have := h0.cell
  unfold wx
  rw [clipW_of _ _ (by omega) (by omega), h0.cell]

include h0 in
theorem wy_toInt : (wy v0).toInt = n0 := by
  have e : (191#32 : BitVec 32).toInt = 191 := rfl
  have := h0.lo; have := h0.hi; have := h0.cell
  unfold wy
  rw [clipW_of _ _ (by omega) (by omega), h0.cell]

include h0 h1 in
theorem term0 (b : ℕ) (hb : b ≤ 1) (w : ℝ) (l : Fin 256) :
    (padded (F := Ideal) img ⟨min ((row0 (wx v0) (wy v1)).toNat + b) 37249, by omega⟩ l : EReal) * ((wx0 (F := Ideal) (wx v0) (Spec.frac (F := Ideal) v0) : EReal) * (w : EReal))
      = E img n0 (n1 + b) l.val * (((1 - f0) * w : ℝ) : EReal) := by
  have ex := wx_toInt h0
  have ey := wy_toInt h1
  have := h0.lo; have := h0.hi; have := h1.lo; have := h1.hi
  by_cases h : 0 ≤ n0
  · have er := row0_toNat (x := wx v0) (y := wy v1) (by omega) (by omega) (by omega) (by omega)
    rw [ex, ey] at er
    rw [padded_eq img (x := n0) (y := n1 + b) h (by omega) (by omega) (by omega) _ (by show ((min ((row0 (wx v0) (wy v1)).toNat + b) 37249 : ℕ) : ℤ) = _; omega)]
    unfold wx0
    rw [show Scalar.select (ok0 (wx v0)) _ _ = _ from if_pos (ok0_iff.2 (by omega)), h0.frac]
    show _ * (((one (F := Ideal) : EReal) - (f0 : EReal)) * (w : EReal)) = _
    rw [one_eq, ← EReal.coe_sub, ← EReal.coe_mul]
  · unfold wx0
    rw [show Scalar.select (ok0 (wx v0)) _ _ = _ from if_neg (fun e => h (by have := (ok0_iff.1 e).1; omega)), nil_eq, zero_mul, mul_zero, E_out img _ _ (by omega), zero_mul]

include h0 h1 in
theorem term1 (b : ℕ) (hb : b ≤ 1) (w : ℝ) (l : Fin 256) :
    (padded (F := Ideal) img ⟨min ((row1 (wx v0) (wy v1)).toNat + b) 37249, by omega⟩ l : EReal) * ((wx1 (F := Ideal) (wx v0) (Spec.frac (F := Ideal) v0) : EReal) * (w : EReal))
      = E img (n0 + 1) (n1 + b) l.val * ((f0 * w : ℝ) : EReal) := by
  have ex := wx_toInt h0
  have ey := wy_toInt h1
  have := h0.lo; have := h0.hi; have := h1.lo; have := h1.hi
  by_cases h : n0 ≤ 190
  · have er := row1_toNat (x := wx v0) (y := wy v1) (by omega) (by omega) (by omega) (by omega)
    rw [ex, ey] at er
    rw [padded_eq img (x := n0 + 1) (y := n1 + b) (by omega) (by omega) (by omega) (by omega) _ (by show ((min ((row1 (wx v0) (wy v1)).toNat + b) 37249 : ℕ) : ℤ) = _; omega)]
    unfold wx1
    rw [show Scalar.select (ok1 (wx v0)) _ _ = _ from if_pos ((ok1_iff (by omega) (by omega)).2 (by omega)), h0.frac]
    rw [EReal.coe_mul]
  · unfold wx1
    rw [show Scalar.select (ok1 (wx v0)) _ _ = _ from if_neg (fun e => h (by have := (ok1_iff (by omega) (by omega)).1 e; omega)), nil_eq, zero_mul, mul_zero, E_out img _ _ (by omega), zero_mul]

include h0 h1 in
/-- The four rows' weighted sum at a lane. -/
theorem rows_eq (l : Fin 256) :
    ((((padded (F := Ideal) img ⟨min (row0 (wx v0) (wy v1)).toNat 37249, by omega⟩ l : EReal) * ((wx0 (F := Ideal) (wx v0) (Spec.frac (F := Ideal) v0) : EReal) * ((one (F := Ideal) : EReal) - (Spec.frac (F := Ideal) v1 : EReal)))
      + (padded (F := Ideal) img ⟨min ((row0 (wx v0) (wy v1)).toNat + 1) 37249, by omega⟩ l : EReal) * ((wx0 (F := Ideal) (wx v0) (Spec.frac (F := Ideal) v0) : EReal) * (Spec.frac (F := Ideal) v1 : EReal)))
      + (padded (F := Ideal) img ⟨min (row1 (wx v0) (wy v1)).toNat 37249, by omega⟩ l : EReal) * ((wx1 (F := Ideal) (wx v0) (Spec.frac (F := Ideal) v0) : EReal) * ((one (F := Ideal) : EReal) - (Spec.frac (F := Ideal) v1 : EReal))))
      + (padded (F := Ideal) img ⟨min ((row1 (wx v0) (wy v1)).toNat + 1) 37249, by omega⟩ l : EReal) * ((wx1 (F := Ideal) (wx v0) (Spec.frac (F := Ideal) v0) : EReal) * (Spec.frac (F := Ideal) v1 : EReal)))
    = rows img n0 n1 f0 f1 l.val := by
  rw [h1.frac, one_eq, ← EReal.coe_sub]
  have a0 := term0 img h0 h1 0 (by decide) (1 - f1) l
  have a1 := term0 img h0 h1 1 (by decide) f1 l
  have b0 := term1 img h0 h1 0 (by decide) (1 - f1) l
  have b1 := term1 img h0 h1 1 (by decide) f1 l
  simp only [Nat.add_zero, Nat.cast_zero, add_zero, Nat.cast_one] at a0 a1 b0 b1
  rw [a0, a1, b0, b1]
  rfl

theorem cmp_eq {a b : BitVec 32} : IntOp.cmpi .eq a b = 1#1 ↔ a = b := by
  unfold IntOp.cmpi
  constructor
  · intro e
    by_contra c
    have : (a == b) = false := beq_eq_false_iff_ne.2 c
    rw [this] at e
    exact absurd (show BitVec.ofBool false = 1#1 from e) (by decide)
  · intro e
    rw [e]; simp

theorem cmp_ofNat {a b : ℕ} (ha : a < 4294967296) (hb : b < 4294967296) : IntOp.cmpi .eq (BitVec.ofNat 32 a) (BitVec.ofNat 32 b) = 1#1 ↔ a = b := by
  rw [cmp_eq]
  refine ⟨fun e => ?_, fun e => congrArg _ e⟩
  have := congrArg BitVec.toNat e
  rw [BitVec.toNat_ofNat, BitVec.toNat_ofNat] at this
  omega

/-- The lane's weight, as the kernel selects it. -/
theorem lane_eq {v : EReal} {n : ℤ} {f : ℝ} (h : Ax v n f) (l : Fin 256) :
    ((Scalar.select (IntOp.cmpi .eq (BitVec.ofNat 32 l.val) (wx v)) ((one (F := Ideal) : EReal) - (Spec.frac (F := Ideal) v : EReal)) (nil (F := Ideal) : EReal) : EReal)
      + (Scalar.select (IntOp.cmpi .eq (BitVec.ofNat 32 l.val) (IntOp.addi (wx v) 1#32)) (Spec.frac (F := Ideal) v : EReal) (nil (F := Ideal) : EReal) : EReal) : EReal)
    = lane n f l.val := by
  have ex := wx_toInt h
  have es := toInt_succ (x := wx v) (by rw [ex]; exact h.lo) (by rw [ex]; have := h.hi; omega)
  have el : (BitVec.ofNat 32 l.val).toInt = l.val := by
    have := BitVec.toInt_eq_toNat_cond (BitVec.ofNat 32 l.val)
    rw [BitVec.toNat_ofNat] at this
    omega
  have cmp : ∀ w : BitVec 32, IntOp.cmpi .eq (BitVec.ofNat 32 l.val) w = 1#1 ↔ (l.val : ℤ) = w.toInt := by
    intro w
    rw [cmp_eq, ← el]
    exact ⟨congrArg _, BitVec.eq_of_toInt_eq⟩
  unfold lane Scalar.select
  have c1 := cmp (wx v)
  have c2 := cmp (IntOp.addi (wx v) 1#32)
  rw [ex] at c1
  rw [es, ex] at c2
  rw [nil_eq, one_eq, h.frac, ← EReal.coe_sub]
  refine congrArg₂ (· + ·) ?_ ?_
  · by_cases a : (l.val : ℤ) = n
    · rw [if_pos a]; exact if_pos (c1.2 a)
    · rw [if_neg a]; exact if_neg fun e => a (c1.1 e)
  · by_cases a : (l.val : ℤ) = n + 1
    · rw [if_pos a]; exact if_pos (c2.2 a)
    · rw [if_neg a]; exact if_neg fun e => a (c2.1 e)

end Cert.Corner
end
-- ==== Proof.Ideal.Lines.lean ====
/-
  THE KERNEL'S VALUE over the extended reals: a sample adds the four rows' weighted sum times the lane's weight, a line
  sums 96 samples and then its lanes, and the sum over the lanes is the sample's value `Cert.Corner.T`.
-/
module

public import proofs.«01_k».proof.Proof.Ideal.Blocks
public import proofs.«01_k».proof.Proof.Rows
public import Idealize.ShloMosaic.Lib.Pointwise.Reduce

@[expose] public section

noncomputable section

namespace Cert.KernelIdeal.Hand

open Cert.KernelIdeal Cert.KernelIdeal.Gen Cert.Spec Cert.Corner
open Idealize.ShloMosaic Idealize.ShloMosaic.TcCoe

/-- The coordinates, cells and fractions of every sample of a point. -/
structure Smp where
  v : Fin 3 → ℕ → EReal
  n : Fin 3 → ℕ → ℤ
  f : Fin 3 → ℕ → ℝ
  ax : ∀ d s, s < 4800 → Ax (v d s) (n d s) (f d s)

/-- A sample's value. -/
def Smp.val (S : Smp) (img : Img) (s : ℕ) : EReal := T img (S.n 0 s) (S.n 1 s) (S.n 2 s) (S.f 0 s) (S.f 1 s) (S.f 2 s)

/-- What a sample adds at a lane. -/
def Smp.lam (S : Smp) (img : Img) (s : ℕ) (l : ℤ) : EReal := rows img (S.n 0 s) (S.n 1 s) (S.f 0 s) (S.f 1 s) l * lane (S.n 2 s) (S.f 2 s) l

/-- The image and the two tables are those of the samples. -/
structure Tbl (S : Smp) (img : Img) (X : S37250x1x256.Idx → EReal) (I : S3x4800.Idx → BitVec 32) (Wt : S4x4800.Idx → EReal) : Prop where
  x : ∀ r l, X (ix3 r 0 l) = padded (F := Ideal) img r l
  i0 : ∀ s, s < 4800 → I (colIdx 0 s) = row0 (wx (S.v 0 s)) (wy (S.v 1 s))
  i1 : ∀ s, s < 4800 → I (colIdx 1 s) = row1 (wx (S.v 0 s)) (wy (S.v 1 s))
  i2 : ∀ s, s < 4800 → I (colIdx 2 s) = wx (S.v 2 s)
  w0 : ∀ s, s < 4800 → Wt (colIdx 0 s) = Spec.frac (F := Ideal) (S.v 2 s)
  w1 : ∀ s, s < 4800 → Wt (colIdx 1 s) = wx0 (F := Ideal) (wx (S.v 0 s)) (Spec.frac (F := Ideal) (S.v 0 s))
  w2 : ∀ s, s < 4800 → Wt (colIdx 2 s) = wx1 (F := Ideal) (wx (S.v 0 s)) (Spec.frac (F := Ideal) (S.v 0 s))
  w3 : ∀ s, s < 4800 → Wt (colIdx 3 s) = Spec.frac (F := Ideal) (S.v 1 s)

variable {S : Smp} {img : Img} {X : S37250x1x256.Idx → EReal} {I : S3x4800.Idx → BitVec 32} {Wt : S4x4800.Idx → EReal}

theorem lanes_at (l : Fin 256) : lanes (ix2 0 l) = BitVec.ofNat 32 l.val := by
  show BitVec.ofNat 32 (0 * 256 + l.val) = _
  rw [Nat.zero_mul, Nat.zero_add]

theorem samp_at (h : Tbl S img X I Wt) {s : ℕ} (hs : s < 4800) (acc : FVec Ideal S1x256 .f32) (l : Fin 256) :
    (samp (F := Ideal) lanes X I Wt s acc (ix2 0 l) : EReal) = (acc (ix2 0 l) : EReal) + S.lam img s l.val := by
  have a0 := S.ax 0 s hs
  have a1 := S.ax 1 s hs
  have a2 := S.ax 2 s hs
  unfold samp Smp.lam
  rw [h.i0 s hs, h.i1 s hs, h.i2 s hs, h.w0 s hs, h.w1 s hs, h.w2 s hs, h.w3 s hs, ← rows_eq img a0 a1 l, ← lane_eq a2 l, ← lanes_at l]
  simp only [← h.x]
  rfl

theorem samps_at (h : Tbl S img X I Wt) (s0 : ℕ) (acc : FVec Ideal S1x256 .f32) (l : Fin 256) :
    ∀ n, s0 + n ≤ 4800 → (samps (F := Ideal) lanes X I Wt s0 acc n (ix2 0 l) : EReal) = (acc (ix2 0 l) : EReal) + ∑ t ∈ Finset.range n, S.lam img (s0 + t) l.val
  | 0, _ => by rw [Finset.sum_range_zero, add_zero]; rfl
  | n + 1, hn => by
    rw [Finset.sum_range_succ, ← add_assoc, ← samps_at h s0 acc l n (by omega)]
    exact samp_at h (by omega) _ l

/-- A line's lanes sum to its samples' values. -/
theorem line_sum (h : Tbl S img X I Wt) {n : ℕ} (hn : n < 50) :
    (∑ l : Fin 256, (samps (F := Ideal) lanes X I Wt (96 * n) (k0_pay31 (F := Ideal)) 96 (ix2 0 l) : EReal)) = ∑ t ∈ Finset.range 96, S.val img (96 * n + t) := by
  have e : ∀ l : Fin 256, (samps (F := Ideal) lanes X I Wt (96 * n) (k0_pay31 (F := Ideal)) 96 (ix2 0 l) : EReal) = ∑ t ∈ Finset.range 96, S.lam img (96 * n + t) l.val := by
    intro l
    rw [samps_at h _ _ l 96 (by omega), show (k0_pay31 (F := Ideal) (ix2 0 l) : EReal) = 0 from Ideal.ofBits_zero_f32, zero_add]
  rw [Finset.sum_congr rfl fun l _ => e l, Finset.sum_comm]
  refine Finset.sum_congr rfl fun t ht => ?_
  have ht' := Finset.mem_range.1 ht
  have a2 := S.ax 2 (96 * n + t) (by omega)
  exact rows_sum img a2.lo a2.hi a2.nonneg a2.le_one

theorem pay34_at (n : Fin k0_t1_loop.trips) (acc : FVec Ideal S1x50 .f32) (v : FVec Ideal S1x256 .f32) (q : Fin 50) :
    (k0_pay34 n acc v (ix2 0 q) : EReal) = (acc (ix2 0 q) : EReal) + (if q.val = n.val then ∑ l : Fin 256, (v (ix2 0 l) : EReal) else 0) := by
  have hn : n.val < 50 := lt_of_lt_of_eq n.isLt trips1
  have hc : IntOp.cmpi .eq (iota .tc S1x50 32 [1] iota_S1x50_d1_w32 (ix2 0 q)) (Scf.iv 0#32 1#32 n) = 1#1 ↔ q.val = n.val := by
    rw [show iota .tc S1x50 32 [1] iota_S1x50_d1_w32 (ix2 0 q) = BitVec.ofNat 32 q.val from by
      show BitVec.ofNat 32 (0 * 50 + q.val) = _
      rw [Nat.zero_mul, Nat.zero_add]]
    rw [show Scf.iv 0#32 1#32 n = BitVec.ofNat 32 n.val from by
      show 0#32 + BitVec.ofNat 32 n.val * 1#32 = _
      rw [BitVec.mul_one, BitVec.zero_add]]
    exact cmp_ofNat (by omega) (by omega)
  have hr : ∀ j : S1.Idx, (multiReduction (F := Ideal) .add [1] S1 v 0x00000000#32 reduces_S1x256_S1 (.inl rfl) rfl j : EReal) = ∑ l : Fin 256, (v (ix2 0 l) : EReal) := by
    intro j
    refine (Ideal.reduceAdd_r2_a1 reduces_S1x256_S1 v j).trans (Finset.sum_congr rfl fun l _ => ?_)
    refine congrArg (fun a => v (ix2 a l)) (Fin.ext ?_)
    have : (j 0).val < 1 := (j 0).isLt
    show (j 0).val = 0
    omega
  unfold k0_pay34
  show (acc (ix2 0 q) : EReal) + Scalar.select (IntOp.cmpi .eq (iota .tc S1x50 32 [1] iota_S1x50_d1_w32 (ix2 0 q)) (Scf.iv 0#32 1#32 n)) _ (FloatOps.ofBits (F := Ideal) .f32 0x00000000#32 : EReal) = _
  refine congrArg (fun y => (acc (ix2 0 q) : EReal) + y) ?_
  by_cases e : q.val = n.val
  · rw [if_pos e]
    exact (if_pos (hc.2 e)).trans (hr _)
  · rw [if_neg e]
    exact (if_neg fun e' => e (hc.1 e')).trans Ideal.ofBits_zero_f32

/-- The vector of the first lines' values, at a line. -/
theorem linesVal_at (h : Tbl S img X I Wt) (q : Fin 50) : ∀ n, n ≤ 50 →
    (linesVal (F := Ideal) X I Wt n (ix2 0 q) : EReal) = if q.val < n then ∑ t ∈ Finset.range 96, S.val img (96 * q.val + t) else 0
  | 0, _ => by rw [if_neg (by omega)]; exact Ideal.ofBits_zero_f32
  | n + 1, hn => by
    have ih := linesVal_at h q n (by omega)
    have hlt : n < k0_t1_loop.trips := by rw [trips1]; omega
    unfold linesVal
    rw [dif_pos hlt, pay34_at, ih, line_sum h (by omega)]
    show _ + (if q.val = n then _ else 0) = _
    by_cases e : q.val = n
    · rw [if_neg (by omega), if_pos e, if_pos (by omega), zero_add, e]
    · rw [if_neg e, add_zero]
      by_cases e' : q.val < n
      · rw [if_pos e', if_pos (by omega)]
      · rw [if_neg e', if_neg (by omega)]

end Cert.KernelIdeal.Hand
end
-- ==== Proof.Near.lean ====
/-
  WHAT THE PRECONDITION SAYS of one sample: its three voxel coordinates lie in -1 ≤ v < 192.
-/
module

public import proofs.«01_k».proof.Defs
public import proofs.«01_k».proof.Proof.Spec
public import Idealize.ShloMosaic.Lib.ReduceAll
public import Idealize.ShloMosaic.Lib.Pointwise.Tactic
public import Idealize.ShloMosaic.PureOps.Ideal.Laws

@[expose] public section

noncomputable section

namespace Cert.Near

open Cert.Pre_near Cert.Spec
open Idealize.ShloMosaic

theorem facts : Cert.Pre_near.Facts := by constructor <;> decide

variable [Cert.Pre_near.Facts]
variable {F : FTy → Type} [FloatOps F]

instance : Subsingleton S_.Idx := ⟨fun _ _ => funext fun a => a.elim0⟩

theorem near_words (img : FVec F S192x192x192 .f32) (cen size : FVec F S3 .f32) (lors : FVec F S50000x6 .f32)
    (h : fn img cen size lors = fun _ => 1#1) (d : Fin 3) (i : Fin 50000) (s : Fin 96) :
    IntOp.andi (FloatOps.cmpf .oge (vox cen size lors d i s) (FloatOps.ofBits .f32 0xBF800000#32))
      (FloatOps.cmpf .olt (vox cen size lors d i s) (FloatOps.ofBits .f32 0x43400000#32)) = 1#1 := by
  have e := congrFun h ix0
  unfold fn fn_part1 at e
  have e' := Host.reduce_andi_all _ _ _ _ _ e (ix3 i s d)
  pointwise at e'
  have en : (⟨3 + d.val, by omega⟩ : Fin 6) = ⟨d.val + 3, by omega⟩ := Fin.ext (Nat.add_comm 3 d.val)
  rw [en] at e'
  exact e'

/-- Over the extended reals: the two bounds. -/
theorem near_at (img : FVec Ideal S192x192x192 .f32) (cen size : FVec Ideal S3 .f32) (lors : FVec Ideal S50000x6 .f32)
    (h : fn img cen size lors = fun _ => 1#1) (d : Fin 3) (i : Fin 50000) (s : Fin 96) :
    ((-1 : ℝ) : EReal) ≤ vox cen size lors d i s ∧ (vox cen size lors d i s : EReal) < ((192 : ℝ) : EReal) := by
  obtain ⟨h1, h2⟩ := andi_one.1 (near_words img cen size lors h d i s)
  generalize vox cen size lors d i s = v at *
  rw [Ideal.cmpf_def, Ideal.ofBits_def] at h1 h2
  have e1 : Ideal.ofBits .f32 0xBF800000#32 = ((-1 : ℝ) : EReal) := by simp [Ideal.ofBits, Ideal.ieee, -EReal.coe_mul]; norm_num
  have e2 : Ideal.ofBits .f32 0x43400000#32 = ((192 : ℝ) : EReal) := by simp [Ideal.ofBits, Ideal.ieee, -EReal.coe_mul]; norm_num
  rw [e1] at h1
  rw [e2] at h2
  unfold Ideal.cmp at h1 h2
  have bit : ∀ b : Bool, BitVec.ofBool b = 1#1 → b = true := by decide
  exact ⟨of_decide_eq_true (bit _ h1), of_decide_eq_true (bit _ h2)⟩

end Cert.Near
end
-- ==== Proof.Ref.lean ====
/-
  THE REFERENCE'S RESULT, index by index: entry `(b, 0, q)` is the sum over the 96 samples of line `50 b + q` of the
  sum over the eight corners of the image's value at the held corner times the corner's weight.
-/
module

public import proofs.«01_k».proof.Proof.Gen.ReferenceIdeal.Run
public import proofs.«01_k».proof.Proof.Spec
public import Idealize.ShloMosaic.Lib.StableHlo.ReadAt
public import Idealize.ShloMosaic.PureOps.Ideal
public import Idealize.ShloMosaic.PureOps.Ideal.Laws
public import Idealize.ShloMosaic.Lib.Pointwise.Reduce

@[expose] public section

noncomputable section

namespace Cert.ReferenceIdeal.Hand

open Cert.ReferenceIdeal Cert.ReferenceIdeal.Gen Cert.ReferenceIdeal.Value Cert.Spec
open Idealize.ShloMosaic Idealize.ShloMosaic.TcCoe
open Idealize.SL.Sem

/-- The gather at an index: the image at the three words of the index's row, each read signed and held in 0 … 191. -/
theorem gather_at {α : Type} (x : S192x192x192.Idx → α) (idx : IVec S50000x96x8x3 32) (i : Fin 50000) (s : Fin 96) (k : Fin 8) :
    Host.gather gather_S192x192x192_S50000x96x8x3_S50000x96x8_n_012_n_n_012_3_111 x idx (ix3 i s k)
      = x (ix3 ⟨min (idx (ix4 i s k 0)).toInt.toNat 191, by omega⟩ ⟨min (idx (ix4 i s k 1)).toInt.toNat 191, by omega⟩
          ⟨min (idx (ix4 i s k 2)).toInt.toNat 191, by omega⟩) := by
  unfold Host.gather
  refine congrArg x ?_
  set d := gather_S192x192x192_S50000x96x8x3_S50000x96x8_n_012_n_n_012_3_111
  have hm : ∀ a : Fin 3, a ∈ d.startIndexMap := by intro a; fin_cases a <;> simp [d, gather_S192x192x192_S50000x96x8x3_S50000x96x8_n_012_n_n_012_3_111]
  have hs : ∀ a : Fin 3, d.siIdx (ix3 i s k) ⟨List.idxOf a d.startIndexMap, List.idxOf_lt_length_iff.2 (hm a)⟩ = ix4 i s k a := by
    intro a
    funext b
    refine Fin.ext ?_
    fin_cases a <;> fin_cases b <;> rfl
  have key : ∀ a : Fin 3, (d.operandIdx (ix3 i s k) idx a).val = min (idx (ix4 i s k a)).toInt.toNat 191 := by
    intro a
    show d.start _ idx a + d.batchCoord _ a + d.offCoord _ a = _
    rw [GatherDims.batchCoord_eq_zero _ _ _ List.not_mem_nil,
      GatherDims.offCoord_eq_zero _ _ _ (fun h => ((GatherDims.mem_sKept _ _).mp h).1 (hm a))]
    simp only [Nat.add_zero]
    unfold GatherDims.start
    rw [dif_pos (hm a), hs a]
    fin_cases a <;> rfl
  funext a
  refine Fin.ext ?_
  fin_cases a
  · exact key 0
  · exact key 1
  · exact key 2

variable {F : FTy → Type} [FloatOps F]
variable (m : (ℓ : Loc nD τ sig) → Buf (Elt F) ℓ) (c : Dev nD) (i : Fin 50000) (s : Fin 96) (k : Fin 8)

/-- What the reference's buffers hold at its end. -/
def RV {F : FTy → Type} [FloatOps F] (m : (ℓ : Loc nD τ sig) → Buf (Elt F) ℓ) (c : Dev nD)  (b : Ref sig .tc) : b.ty.Contents (Elt F) := StableHlo.after ops (StableHlo.launchContents m c) (Proc.devRef .tc b)
/-- The voxel coordinate, of the arguments in memory. -/
def voxR (d : Fin 3) (i : Fin 50000) (s : ℕ) : F .f32 := vox (m (c, Proc.tc.devRef main_arg1)) (m (c, Proc.tc.devRef main_arg2)) (m (c, Proc.tc.devRef main_arg3)) d i s

set_option maxHeartbeats 1000000 in
theorem w_at : (RV m c main_v83 : S50000x96x8.Idx → F .f32) (ix3 i s k) = weight k (voxR m c 0 i s) (voxR m c 1 i s) (voxR m c 2 i s) := by
  unfold RV
  simp only [ops, fn_main_v48, fn_main_v111]
  after_reads_at
  after_reads_at
  rfl

set_option maxHeartbeats 1000000 in
theorem i_at0 : (RV m c main_v111 : S50000x96x8x3.Idx → BitVec 32) (ix4 i s k 0) = wrap (held (corner k 0 (voxR m c 0 i s))) := by
  unfold RV
  simp only [ops, fn_main_v48, fn_main_v111]
  after_reads_at
  after_reads_at
  after_reads_at
  rfl

set_option maxHeartbeats 1000000 in
theorem i_at1 : (RV m c main_v111 : S50000x96x8x3.Idx → BitVec 32) (ix4 i s k 1) = wrap (held (corner k 1 (voxR m c 1 i s))) := by
  unfold RV
  simp only [ops, fn_main_v48, fn_main_v111]
  after_reads_at
  after_reads_at
  after_reads_at
  rfl

set_option maxHeartbeats 1000000 in
theorem i_at2 : (RV m c main_v111 : S50000x96x8x3.Idx → BitVec 32) (ix4 i s k 2) = wrap (held (corner k 2 (voxR m c 2 i s))) := by
  unfold RV
  simp only [ops, fn_main_v48, fn_main_v111]
  after_reads_at
  after_reads_at
  after_reads_at
  rfl

/-- The operations up to the gather's indices. -/
def pre {F : FTy → Type} [FloatOps F] : List (HloOp τ sig (Elt F)) := ops.take 143
def W {F : FTy → Type} [FloatOps F] (m : (ℓ : Loc nD τ sig) → Buf (Elt F) ℓ) (c : Dev nD) : Valuation τ sig (Elt F) := StableHlo.after pre (StableHlo.launchContents m c)

theorem RV_eq (b : Ref sig .tc) : RV m c b = StableHlo.after (ops.drop 143) (W m c) (Proc.devRef .tc b) := by
  unfold RV W pre
  rw [← StableHlo.after_append, List.take_append_drop]

set_option maxHeartbeats 1000000 in
theorem r_eq : RV m c main_v116 = shapeCast _ (Host.reduceAdd (Host.reduceAdd (mulf (Host.gather gather_S192x192x192_S50000x96x8x3_S50000x96x8_n_012_n_n_012_3_111 (RV m c main_arg0) (RV m c main_v111)) (RV m c main_v83)) (constant S_ .f32 0x00000000#32) reducesTo_S50000x96x8_S50000x96_d2 h_S_) (constant S_ .f32 0x00000000#32) reducesTo_S50000x96_S50000_d1 h_S_) shapeCasts_S50000_S1000x1x50 := by
  rw [RV_eq, RV_eq, RV_eq, RV_eq]
  generalize W m c = V
  simp only [ops, List.drop_succ_cons, List.drop_zero]
  after_results_simp
  rfl

theorem arg_eq (b : Ref sig .tc) (h : b = main_arg0 ∨ b = main_arg1 ∨ b = main_arg2 ∨ b = main_arg3) : RV m c b = m (c, Proc.tc.devRef b) := by
  unfold RV
  simp only [ops]
  rcases h with rfl | rfl | rfl | rfl <;> after_results_simp

/-- One sample's value: the eight corners, each the image's value at the held corner times the corner's weight. -/
def sampleR (img : S192x192x192.Idx → EReal) (v0 v1 v2 : EReal) : EReal :=
  ∑ k : Fin 8, img (ix3 (place (wrap (held (corner (F := Ideal) k 0 v0)))) (place (wrap (held (corner (F := Ideal) k 1 v1)))) (place (wrap (held (corner (F := Ideal) k 2 v2)))))
    * weight (F := Ideal) k v0 v1 v2

end Cert.ReferenceIdeal.Hand
end
-- ==== Proof.RefVal.lean ====
/-
  THE REFERENCE'S RESULT, index by index, over the extended reals: entry `(b, 0, q)` is the sum over the 96 samples of
  line `50 b + q` of the sample's eight corners.
-/
module

public import proofs.«01_k».proof.Proof.Ref

@[expose] public section

noncomputable section

namespace Cert.ReferenceIdeal.Hand

open Cert.ReferenceIdeal Cert.ReferenceIdeal.Gen Cert.ReferenceIdeal.Value Cert.Spec
open Idealize.ShloMosaic Idealize.ShloMosaic.TcCoe
open Idealize.SL.Sem

theorem zero_init (h : 0 < S_.numel) : (constant (F := Ideal) S_ .f32 0x00000000#32 (Shape.Idx.first h) : EReal) = 0 := Ideal.ofBits_zero_f32

theorem sum_samples (x : FVec Ideal S50000x96 .f32) (i : Fin 50000) :
    (Host.reduceAdd x (constant S_ .f32 0x00000000#32) reducesTo_S50000x96_S50000_d1 h_S_ (ix1 i) : EReal) = ∑ s : Fin 96, x (ix2 i s) :=
  (Ideal.hostReduceAdd_r2_a1 reducesTo_S50000x96_S50000_d1 x (constant (F := Ideal) S_ .f32 0x00000000#32 (Shape.Idx.first h_S_)) (ix1 i)).trans
    ((congrArg (· + _) (zero_init _)).trans (zero_add _))

theorem sum_corners (x : FVec Ideal S50000x96x8 .f32) (i : Fin 50000) (s : Fin 96) :
    (Host.reduceAdd x (constant S_ .f32 0x00000000#32) reducesTo_S50000x96x8_S50000x96_d2 h_S_ (ix2 i s) : EReal) = ∑ k : Fin 8, x (ix3 i s k) :=
  (Ideal.hostReduceAdd_r3_a2 reducesTo_S50000x96x8_S50000x96_d2 x (constant (F := Ideal) S_ .f32 0x00000000#32 (Shape.Idx.first h_S_)) (ix2 i s)).trans
    ((congrArg (· + _) (zero_init _)).trans (zero_add _))

theorem cast_at (x : FVec Ideal S50000 .f32) (b : Fin 1000) (q : Fin 50) :
    shapeCast S1000x1x50 x shapeCasts_S50000_S1000x1x50 (ix3 b 0 q) = x (ix1 ⟨b.val * 50 + q.val, by omega⟩) := by
  pointwise

/-- The line of place `q` of block `b`. -/
abbrev lineR (b : Fin 1000) (q : Fin 50) : Fin 50000 := ⟨b.val * 50 + q.val, by omega⟩

theorem r_at (m : (ℓ : Loc nD τ sig) → Buf (Elt Ideal) ℓ) (c : Dev nD) (b : Fin 1000) (q : Fin 50) :
    (RV m c main_v116 : S1000x1x50.Idx → EReal) (ix3 b 0 q)
      = ∑ s : Fin 96, sampleR (m (c, Proc.tc.devRef main_arg0)) (voxR m c 0 (lineR b q) s) (voxR m c 1 (lineR b q) s) (voxR m c 2 (lineR b q) s) := by
  have hI0 := fun s k => i_at0 m c (lineR b q) s k
  have hI1 := fun s k => i_at1 m c (lineR b q) s k
  have hI2 := fun s k => i_at2 m c (lineR b q) s k
  have hW := fun s k => w_at m c (lineR b q) s k
  rw [r_eq, arg_eq m c main_arg0 (Or.inl rfl)]
  generalize RV m c main_v111 = I at *
  generalize RV m c main_v83 = Wt at *
  refine (cast_at _ b q).trans ((sum_samples _ _).trans ?_)
  refine Finset.sum_congr rfl fun s _ => (sum_corners _ _ s).trans ?_
  unfold sampleR
  refine Finset.sum_congr rfl fun k _ => ?_
  refine congrArg₂ (fun a b : EReal => a * b) ((gather_at _ _ _ s k).trans ?_) (hW s k)
  have e0 := congrArg place (hI0 s k)
  have e1 := congrArg place (hI1 s k)
  have e2 := congrArg place (hI2 s k)
  rw [← e0, ← e1, ← e2]
  rfl

end Cert.ReferenceIdeal.Hand
end
-- ==== Proof.Ideal.Value.lean ====
/-
  THE TWO RESULTS AGREE: on arguments whose samples lie near the image, the kernel's result at `(b, 0, q)` is the sum over
  the 96 samples of line `50 b + q` of the reference's sample value.
-/
module

public import proofs.«01_k».proof.Proof.Ideal.Lines
public import proofs.«01_k».proof.Proof.Near
public import proofs.«01_k».proof.Proof.RefVal
public import Idealize.ShloMosaic.Lib.Pointwise.Tactic

@[expose] public section

noncomputable section

namespace Cert.KernelIdeal.Hand

open Cert.KernelIdeal Cert.KernelIdeal.Gen Cert.Spec Cert.Corner
open Idealize.ShloMosaic Idealize.ShloMosaic.TcCoe
open Cert.ReferenceIdeal.Hand (sampleR)

variable (m : (ℓ : Loc nD τ sig) → Buf (Elt Ideal) ℓ) (c : Dev nD)

/-- Every sample lies near the image. -/
def NearM : Prop := ∀ (d : Fin 3) (i : Fin 50000) (s : Fin 96),
  ((-1 : ℝ) : EReal) ≤ voxM m c d i s ∧ (voxM m c d i s : EReal) < ((192 : ℝ) : EReal)

/-- The coordinate of entry `s` of block `b`. -/
def vAt (b : Fin 1000) (d : Fin 3) (s : ℕ) : EReal := if h : s < 4800 then voxM m c d (lineOf b ⟨s, h⟩) (s % 96) else 0

theorem vAt_of (b : Fin 1000) (d : Fin 3) {s : ℕ} (h : s < 4800) : vAt m c b d s = voxM m c d (lineOf b ⟨s, h⟩) (s % 96) := dif_pos h

variable {m c}

theorem exists_smp (hn : NearM m c) (b : Fin 1000) : ∃ S : Smp, S.v = vAt m c b := by
  have key : ∀ (d : Fin 3) (s : ℕ), ∃ (n : ℤ) (f : ℝ), s < 4800 → Ax (vAt m c b d s) n f := by
    intro d s
    by_cases h : s < 4800
    · have hb := hn d (lineOf b ⟨s, h⟩) ⟨s % 96, Nat.mod_lt _ (by decide)⟩
      rw [← vAt_of m c b d h] at hb
      obtain ⟨n, f, e⟩ := ax_of hb.1 hb.2
      exact ⟨n, f, fun _ => e⟩
    · exact ⟨0, 0, fun h' => absurd h' h⟩
  choose n f h using key
  exact ⟨⟨vAt m c b, n, f, h⟩, rfl⟩

theorem colIdx_of {n : ℕ} (a : Fin n) {s : ℕ} (h : s < 4800) : colIdx a s = ValueIdx.ix2 a (⟨s, h⟩ : Fin 4800) :=
  congrArg (ValueIdx.ix2 a) (Fin.ext (Nat.min_eq_left (by omega)))

theorem tbl_of (t : Fin cfg0.N) (S : Smp) (hS : S.v = vAt m c (blkNo t)) :
    Tbl S (m (c, Proc.tc.devRef main_arg0)) (imgX m c) (sqz3 (iblk m c 0 t)) (sqz4 (iblk m c 1 t)) where
  x r l := img_at m c r l
  i0 s h := by rw [colIdx_of _ h, sqz0_at, hS, vAt_of m c _ 0 h, vAt_of m c _ 1 h]; exact idx_0 m c (blkNo t) ⟨s, h⟩
  i1 s h := by rw [colIdx_of _ h, sqz0_at, hS, vAt_of m c _ 0 h, vAt_of m c _ 1 h]; exact idx_1 m c (blkNo t) ⟨s, h⟩
  i2 s h := by rw [colIdx_of _ h, sqz0_at, hS, vAt_of m c _ 2 h]; exact idx_2 m c (blkNo t) ⟨s, h⟩
  w0 s h := by rw [colIdx_of _ h, sqz1_at, hS, vAt_of m c _ 2 h]; exact wts_0 m c (blkNo t) ⟨s, h⟩
  w1 s h := by rw [colIdx_of _ h, sqz1_at, hS, vAt_of m c _ 0 h]; exact wts_1 m c (blkNo t) ⟨s, h⟩
  w2 s h := by rw [colIdx_of _ h, sqz1_at, hS, vAt_of m c _ 0 h]; exact wts_2 m c (blkNo t) ⟨s, h⟩
  w3 s h := by rw [colIdx_of _ h, sqz1_at, hS, vAt_of m c _ 1 h]; exact wts_3 m c (blkNo t) ⟨s, h⟩

theorem val_eq (S : Smp) (img : Img) {s : ℕ} (h : s < 4800) : S.val img s = sampleR img (S.v 0 s) (S.v 1 s) (S.v 2 s) := by
  unfold Smp.val Cert.Corner.T sampleR
  exact Finset.sum_congr rfl fun k _ => (term_eq img (S.ax 0 s h) (S.ax 1 s h) (S.ax 2 s h) k).symm

theorem cast_one (x : FVec Ideal S1x50 .f32) (q : Fin 50) : shapeCast S1x1x50 x shapeCasts_S1x50_S1x1x50 (ix3 0 0 q) = x (ix2 0 q) := by
  pointwise

theorem res_at (hn : NearM m c) (b : Fin 1000) (q : Fin 50) :
    (resArr m c (ix3 b 0 q) : EReal) = ∑ s : Fin 96, sampleR (m (c, Proc.tc.devRef main_arg0))
      (voxM m c 0 ⟨b.val * 50 + q.val, by omega⟩ s) (voxM m c 1 ⟨b.val * 50 + q.val, by omega⟩ s) (voxM m c 2 ⟨b.val * 50 + q.val, by omega⟩ s) := by
  obtain ⟨S, hS⟩ := exists_smp hn b
  have h := tbl_of (m := m) (c := c) ⟨b.val, by rw [N_eq]; exact b.isLt⟩ S hS
  have e := linesVal_at h q 50 le_rfl
  rw [if_pos q.isLt] at e
  have e' : (resArr m c (ix3 b 0 q) : EReal) = linesVal (F := Ideal) (imgX m c) (sqz3 (iblk m c 0 ⟨b.val, by rw [N_eq]; exact b.isLt⟩)) (sqz4 (iblk m c 1 ⟨b.val, by rw [N_eq]; exact b.isLt⟩)) 50 (ix2 0 q) := by
    unfold resArr outAt pointVal k0_pay1
    exact cast_one _ q
  rw [e', e, Finset.sum_range]
  refine Finset.sum_congr rfl fun s _ => ?_
  have hs : 96 * q.val + s.val < 4800 := by omega
  rw [val_eq S _ hs, hS, vAt_of m c b 0 hs, vAt_of m c b 1 hs, vAt_of m c b 2 hs]
  have e1 : lineOf b ⟨96 * q.val + s.val, hs⟩ = ⟨b.val * 50 + q.val, by omega⟩ := Fin.ext (by show b.val * 50 + (96 * q.val + s.val) / 96 = b.val * 50 + q.val; omega)
  have e2 : (96 * q.val + s.val) % 96 = s.val := by omega
  rw [e1, e2]

/-- The results agree, from equal arguments. -/
theorem agree (hn : NearM m c) (m' : (ℓ : Loc Cert.ReferenceIdeal.nD Cert.ReferenceIdeal.τ Cert.ReferenceIdeal.sig) → Buf (Elt Ideal) ℓ)
    (h0 : m' (c, Proc.tc.devRef Cert.ReferenceIdeal.main_arg0) = m (c, Proc.tc.devRef main_arg0))
    (h1 : m' (c, Proc.tc.devRef Cert.ReferenceIdeal.main_arg1) = m (c, Proc.tc.devRef main_arg1))
    (h2 : m' (c, Proc.tc.devRef Cert.ReferenceIdeal.main_arg2) = m (c, Proc.tc.devRef main_arg2))
    (h3 : m' (c, Proc.tc.devRef Cert.ReferenceIdeal.main_arg3) = m (c, Proc.tc.devRef main_arg3)) :
    Cert.ReferenceIdeal.Hand.RV m' c Cert.ReferenceIdeal.main_v116 = resArr m c := by
  funext i
  have hi : (i : S1000x1x50.Idx) = ix3 (i 0) 0 (i 2) := by
    rw [ValueIdx.eq_ix3 i]
    have : (i 1).val < 1 := (i 1).isLt
    exact congrArg (fun a => ValueIdx.ix3 (i 0) a (i 2)) (Fin.ext (by show (i 1).val = 0; omega))
  rw [hi]
  refine (Cert.ReferenceIdeal.Hand.r_at m' c (i 0) (i 2)).trans (Eq.trans ?_ (res_at hn (i 0) (i 2)).symm)
  have hv : ∀ (d : Fin 3) (l : Fin 50000) (s : ℕ), Cert.ReferenceIdeal.Hand.voxR m' c d l s = voxM m c d l s := by
    intro d l s
    unfold Cert.ReferenceIdeal.Hand.voxR voxM
    rw [h1, h2, h3]
  simp only [hv, h0]

end Cert.KernelIdeal.Hand
end
-- ==== Proof.Combine.lean ====
/-
  THE COMBINING CALL: at every voxel the kernel adds the six back-projections one after another, the reference adds the
  two halves of each direction first; the sums agree because addition is associative and commutative.
-/
module

public import proofs.«01_k».proof.Proof.Gen.Kernel3Ideal.Value
public import proofs.«01_k».proof.Proof.Gen.Reference3Ideal.Run
public import Idealize.ShloMosaic.Lib.Pointwise.Tactic

@[expose] public section

noncomputable section

namespace Cert.Combine

open Idealize.ShloMosaic Idealize.ShloMosaic.TcCoe
open Cert.Reference3Ideal

/-- Six terms in the kernel's order and in the reference's. -/
theorem six (z0 z1 x0 x1 y0 y1 : EReal) : (x0 + x1) + (y0 + y1) + (z0 + z1) = z0 + z1 + x0 + x1 + y0 + y1 := by abel

theorem low_eq (p : S384x192x192.Idx → EReal) (i : S192x192x192.Idx) :
    extractStridedSlice S192x192x192 ![0, 0, 0] p Cert.Reference3Ideal.Gen.slices_S384x192x192_S192x192x192_0_0_0 i
      = p (Cert.Kernel3Ideal.Value.inIdx8_2 i) :=
  congrArg p (funext fun a => Fin.ext (by fin_cases a <;> simp [Cert.Kernel3Ideal.Value.inIdx8_2]))

theorem high_eq (p : S384x192x192.Idx → EReal) (i : S192x192x192.Idx) :
    extractStridedSlice S192x192x192 ![192, 0, 0] p Cert.Reference3Ideal.Gen.slices_S384x192x192_S192x192x192_192_0_0 i
      = p (Cert.Kernel3Ideal.Value.inIdx8_3 i) :=
  congrArg p (funext fun a => Fin.ext (by fin_cases a <;> simp [Cert.Kernel3Ideal.Value.inIdx8_3, Nat.add_comm]))

theorem combine_eq (img eff : S192x192x192.Idx → EReal) (z x y : S384x192x192.Idx → EReal) :
    (mulf (F := Ideal) (φ := .f32) (Host.divf img (addf eff (broadcastInDim S192x192x192 ![] Cert.Reference3Ideal.Gen.bcast_S_S192x192x192 (constant S_ .f32 0x322BCC77#32))))
        (addf (addf
          (addf (extractStridedSlice S192x192x192 ![0, 0, 0] x Cert.Reference3Ideal.Gen.slices_S384x192x192_S192x192x192_0_0_0) (extractStridedSlice S192x192x192 ![192, 0, 0] x Cert.Reference3Ideal.Gen.slices_S384x192x192_S192x192x192_192_0_0))
          (addf (extractStridedSlice S192x192x192 ![0, 0, 0] y Cert.Reference3Ideal.Gen.slices_S384x192x192_S192x192x192_0_0_0) (extractStridedSlice S192x192x192 ![192, 0, 0] y Cert.Reference3Ideal.Gen.slices_S384x192x192_S192x192x192_192_0_0)))
          (addf (extractStridedSlice S192x192x192 ![0, 0, 0] z Cert.Reference3Ideal.Gen.slices_S384x192x192_S192x192x192_0_0_0) (extractStridedSlice S192x192x192 ![192, 0, 0] z Cert.Reference3Ideal.Gen.slices_S384x192x192_S192x192x192_192_0_0))))
      = Cert.Kernel3Ideal.Value.G8 (F := Ideal) img eff z z x x y y := by
  funext i
  show _ * (_ + _ + (_ + _) + (_ + _)) = _ * (_ + _ + _ + _ + _ + _)
  rw [low_eq, low_eq, low_eq, high_eq, high_eq, high_eq, six]
  rfl

end Cert.Combine

end
-- ==== Proof.Bp.Host.lean ====
/-
  THE HOST LINES' RESULTS of the back-projection, index by index: the table of row numbers, the table of weights and the
  lines' factors that the region finds, over the argument arrays.
-/
module

public import proofs.«01_k».proof.Proof.Bp.Frame
public import proofs.«01_k».proof.Proof.Spec
public import Idealize.ShloMosaic.Lib.StableHlo.ReadAt

@[expose] public section

noncomputable section

namespace Cert.Kernel2.Hand

open Cert.Kernel2 Cert.Kernel2.Gen Cert.Spec
open Idealize.ShloMosaic Idealize.ShloMosaic.TcCoe
open Idealize.SL.Sem

variable {F : FTy → Type} [FloatOps F]
variable (m : (ℓ : Loc nD τ sig) → Buf (Elt F) ℓ) (c : Dev nD) (b : Fin 1000) (j : Fin 4800) (q : Fin 50)

/-- The voxel coordinate, of the arguments in memory. -/
def voxM (d : Fin 3) (i : Fin 50000) (s : ℕ) : F .f32 := vox (m (c, Proc.tc.devRef main_arg0)) (m (c, Proc.tc.devRef main_arg1)) (m (c, Proc.tc.devRef main_arg2)) d i s
/-- The line of entry `j` of block `b`. -/
abbrev lineOf (b : Fin 1000) (j : Fin 4800) : Fin 50000 := ⟨b.val * 50 + j.val / 96, by omega⟩

set_option maxHeartbeats 1000000 in
theorem idx_0 :
    (V m c main_v87 : S1000x3x4800.Idx → BitVec 32) (ix3 b 0 j) = row0 (clipW 192#32 (cell (voxM m c 0 (lineOf b j) (j.val % 96)))) (clipW 191#32 (cell (voxM m c 1 (lineOf b j) (j.val % 96)))) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

set_option maxHeartbeats 1000000 in
theorem idx_1 :
    (V m c main_v87 : S1000x3x4800.Idx → BitVec 32) (ix3 b 1 j) = row1 (clipW 192#32 (cell (voxM m c 0 (lineOf b j) (j.val % 96)))) (clipW 191#32 (cell (voxM m c 1 (lineOf b j) (j.val % 96)))) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

end Cert.Kernel2.Hand

end
-- ==== Proof.Bp.Ideal.Offs.lean ====
/-
  The offsets of the table reads of one trip of the inner loop of the back-projection, as plain numbers.
-/
module

public import proofs.«01_k».proof.Proof.Gen.Kernel2Ideal
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The offsets of the eight samples of a trip -/

theorem offs0 : ∀ (a : Fin k0_t2_loop.trips) (b : Fin k0_t3_loop.trips), k0_off3 a b = ![0, 96 * a.val + 8 * b.val + 0] ∧ k0_off4 a b = ![1, 96 * a.val + 8 * b.val + 0] ∧ k0_off5 a b = ![2, 96 * a.val + 8 * b.val + 0] ∧ k0_off6 a b = ![0, 96 * a.val + 8 * b.val + 0] ∧ k0_off7 a b = ![1, 96 * a.val + 8 * b.val + 0] ∧ k0_off8 a b = ![2, 96 * a.val + 8 * b.val + 0] ∧ k0_off9 a b = ![3, 96 * a.val + 8 * b.val + 0] := by decide +kernel
theorem offs1 : ∀ (a : Fin k0_t2_loop.trips) (b : Fin k0_t3_loop.trips), k0_off16 a b = ![0, 96 * a.val + 8 * b.val + 1] ∧ k0_off17 a b = ![1, 96 * a.val + 8 * b.val + 1] ∧ k0_off18 a b = ![2, 96 * a.val + 8 * b.val + 1] ∧ k0_off19 a b = ![0, 96 * a.val + 8 * b.val + 1] ∧ k0_off20 a b = ![1, 96 * a.val + 8 * b.val + 1] ∧ k0_off21 a b = ![2, 96 * a.val + 8 * b.val + 1] ∧ k0_off22 a b = ![3, 96 * a.val + 8 * b.val + 1] := by decide +kernel
theorem offs2 : ∀ (a : Fin k0_t2_loop.trips) (b : Fin k0_t3_loop.trips), k0_off29 a b = ![0, 96 * a.val + 8 * b.val + 2] ∧ k0_off30 a b = ![1, 96 * a.val + 8 * b.val + 2] ∧ k0_off31 a b = ![2, 96 * a.val + 8 * b.val + 2] ∧ k0_off32 a b = ![0, 96 * a.val + 8 * b.val + 2] ∧ k0_off33 a b = ![1, 96 * a.val + 8 * b.val + 2] ∧ k0_off34 a b = ![2, 96 * a.val + 8 * b.val + 2] ∧ k0_off35 a b = ![3, 96 * a.val + 8 * b.val + 2] := by decide +kernel
theorem offs3 : ∀ (a : Fin k0_t2_loop.trips) (b : Fin k0_t3_loop.trips), k0_off42 a b = ![0, 96 * a.val + 8 * b.val + 3] ∧ k0_off43 a b = ![1, 96 * a.val + 8 * b.val + 3] ∧ k0_off44 a b = ![2, 96 * a.val + 8 * b.val + 3] ∧ k0_off45 a b = ![0, 96 * a.val + 8 * b.val + 3] ∧ k0_off46 a b = ![1, 96 * a.val + 8 * b.val + 3] ∧ k0_off47 a b = ![2, 96 * a.val + 8 * b.val + 3] ∧ k0_off48 a b = ![3, 96 * a.val + 8 * b.val + 3] := by decide +kernel
theorem offs4 : ∀ (a : Fin k0_t2_loop.trips) (b : Fin k0_t3_loop.trips), k0_off55 a b = ![0, 96 * a.val + 8 * b.val + 4] ∧ k0_off56 a b = ![1, 96 * a.val + 8 * b.val + 4] ∧ k0_off57 a b = ![2, 96 * a.val + 8 * b.val + 4] ∧ k0_off58 a b = ![0, 96 * a.val + 8 * b.val + 4] ∧ k0_off59 a b = ![1, 96 * a.val + 8 * b.val + 4] ∧ k0_off60 a b = ![2, 96 * a.val + 8 * b.val + 4] ∧ k0_off61 a b = ![3, 96 * a.val + 8 * b.val + 4] := by decide +kernel
theorem offs5 : ∀ (a : Fin k0_t2_loop.trips) (b : Fin k0_t3_loop.trips), k0_off68 a b = ![0, 96 * a.val + 8 * b.val + 5] ∧ k0_off69 a b = ![1, 96 * a.val + 8 * b.val + 5] ∧ k0_off70 a b = ![2, 96 * a.val + 8 * b.val + 5] ∧ k0_off71 a b = ![0, 96 * a.val + 8 * b.val + 5] ∧ k0_off72 a b = ![1, 96 * a.val + 8 * b.val + 5] ∧ k0_off73 a b = ![2, 96 * a.val + 8 * b.val + 5] ∧ k0_off74 a b = ![3, 96 * a.val + 8 * b.val + 5] := by decide +kernel
theorem offs6 : ∀ (a : Fin k0_t2_loop.trips) (b : Fin k0_t3_loop.trips), k0_off81 a b = ![0, 96 * a.val + 8 * b.val + 6] ∧ k0_off82 a b = ![1, 96 * a.val + 8 * b.val + 6] ∧ k0_off83 a b = ![2, 96 * a.val + 8 * b.val + 6] ∧ k0_off84 a b = ![0, 96 * a.val + 8 * b.val + 6] ∧ k0_off85 a b = ![1, 96 * a.val + 8 * b.val + 6] ∧ k0_off86 a b = ![2, 96 * a.val + 8 * b.val + 6] ∧ k0_off87 a b = ![3, 96 * a.val + 8 * b.val + 6] := by decide +kernel
theorem offs7 : ∀ (a : Fin k0_t2_loop.trips) (b : Fin k0_t3_loop.trips), k0_off94 a b = ![0, 96 * a.val + 8 * b.val + 7] ∧ k0_off95 a b = ![1, 96 * a.val + 8 * b.val + 7] ∧ k0_off96 a b = ![2, 96 * a.val + 8 * b.val + 7] ∧ k0_off97 a b = ![0, 96 * a.val + 8 * b.val + 7] ∧ k0_off98 a b = ![1, 96 * a.val + 8 * b.val + 7] ∧ k0_off99 a b = ![2, 96 * a.val + 8 * b.val + 7] ∧ k0_off100 a b = ![3, 96 * a.val + 8 * b.val + 7] := by decide +kernel

theorem offsC : ∀ a : Fin k0_t2_loop.trips, k0_off2 a = ![a.val] := by decide +kernel
theorem offsZ : ∀ a : Fin k0_t1_loop.trips, k0_off1 a = ![50 * a.val, 0, 0] := by decide +kernel

end Cert.Kernel2Ideal.Hand

end
-- ==== Proof.Bp.Ideal.Trip.lean ====
/-
  ONE TRIP OF THE INNER LOOP of the back-projection: eight samples. Each sample reads its two row numbers, its lane and
  its four weights from the two tables in scalar memory, loads four rows of the accumulator and stores them back with the
  sample's weighted contribution added (`spread`). The trip's effect on the accumulator is named in closed form (`spreads`).
-/
module

public import proofs.«01_k».proof.Proof.Gen.Kernel2Ideal
public import proofs.«01_k».proof.Proof.Bp.Ideal.Offs
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Pipeline.Value
public import Idealize.ShloMosaic.Lib.Ring
public import Idealize.ShloMosaic.Lib.WritesUnit
public import Idealize.ShloMosaic.Lib.VecWindow
public import Idealize.ShloMosaic.Lib.Tactic
public import Idealize.ShloMosaic.Lib.ValueIdx

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The closed form -/

/-- Row `r` of the accumulator (the last row when `r` is beyond it). -/
def rowAt (A : S37250x1x256.Idx → Elt F .f32) (r : ℕ) : FVec F S1x256 .f32 :=
  fun j => A (ix3 (⟨min r 37249, by omega⟩ : Fin 37250) (0 : Fin 1) (j 1))

/-- The accumulator with row `r` replaced. -/
def putRow (A : S37250x1x256.Idx → Elt F .f32) (r : ℕ) (v : FVec F S1x256 .f32) : S37250x1x256.Idx → Elt F .f32 :=
  fun x => if (x 0).val = r then v (ix2 (0 : Fin 1) (x 2)) else A x

/-- The two lanes of a sample, scaled by its line's factor. -/
def lanesOf (v27 : IVec S1x256 32) (iz : BitVec 32) (fz cl : Elt F .f32) : FVec F S1x256 .f32 :=
  mulf (addf (select (cmpi .eq v27 (broadcast S1x256 iz)) (broadcast S1x256 (Scalar.subf (Scalar.ofBits .f32 0x3F800000#32) fz))
        (broadcast S1x256 (Scalar.ofBits .f32 0x00000000#32)))
      (select (cmpi .eq v27 (broadcast S1x256 (Scalar.addi iz 1#32))) (broadcast S1x256 fz)
        (broadcast S1x256 (Scalar.ofBits .f32 0x00000000#32)))) (broadcast S1x256 cl)

/-- A row with a contribution of weight `w` added. -/
def plus (g z : FVec F S1x256 .f32) (w : F .f32) : FVec F S1x256 .f32 := addf g (mulf z (broadcast S1x256 w))

/-- One sample spread over four rows of the accumulator. -/
def spreadVal (A : S37250x1x256.Idx → Elt F .f32) (r0 r1 : ℕ) (z : FVec F S1x256 .f32) (mx0 mx1 fy : F .f32) : S37250x1x256.Idx → Elt F .f32 :=
  let fy' : F .f32 := Scalar.subf (Scalar.ofBits .f32 0x3F800000#32) fy
  putRow (putRow (putRow (putRow A r0 (plus (rowAt A r0) z (Scalar.mulf mx0 fy'))) (r0 + 1) (plus (rowAt A (r0 + 1)) z (Scalar.mulf mx0 fy)))
    r1 (plus (rowAt A r1) z (Scalar.mulf mx1 fy'))) (r1 + 1) (plus (rowAt A (r1 + 1)) z (Scalar.mulf mx1 fy))

/-- Column `s` of a table (the last when `s` is beyond it). -/
def colIdx {n : ℕ} (a : Fin n) (s : ℕ) : (⟨2, ![n, 4800]⟩ : Shape).Idx := ix2 a (⟨min s 4799, by omega⟩ : Fin 4800)

/-- Sample `s` of the point's 4800. -/
def spread (v27 : IVec S1x256 32) (I : S3x4800.Idx → BitVec 32) (Wt : S4x4800.Idx → Elt F .f32) (cl : Elt F .f32)
    (s : ℕ) (A : S37250x1x256.Idx → Elt F .f32) : S37250x1x256.Idx → Elt F .f32 :=
  spreadVal A (I (colIdx (0 : Fin 3) s)).toNat (I (colIdx (1 : Fin 3) s)).toNat (lanesOf v27 (I (colIdx (2 : Fin 3) s)) (Wt (colIdx (0 : Fin 4) s)) cl)
    (Wt (colIdx (1 : Fin 4) s)) (Wt (colIdx (2 : Fin 4) s)) (Wt (colIdx (3 : Fin 4) s))

/-- `n` samples from sample `s0` on. -/
def spreads (v27 : IVec S1x256 32) (I : S3x4800.Idx → BitVec 32) (Wt : S4x4800.Idx → Elt F .f32) (cl : Elt F .f32)
    (s0 : ℕ) (A : S37250x1x256.Idx → Elt F .f32) : ℕ → S37250x1x256.Idx → Elt F .f32
  | 0 => A
  | n + 1 => spread v27 I Wt cl (s0 + n) (spreads v27 I Wt cl s0 A n)

/-- The row numbers of a table are in range. -/
def TblOK (I : S3x4800.Idx → BitVec 32) : Prop := ∀ (a : Fin 3) (j : Fin 4800), a.val < 2 → (I (ix2 a j)).toNat ≤ 37248

/-! ## The checks and the reads -/

theorem chk_lo (v : BitVec 32) (h : v.toNat ≤ 37248) : ∀ a, (k0_off10 v) a + S1x1x256.size a ≤ S37250x1x256.size a := by
  intro a
  fin_cases a
  · show v.toNat + 1 ≤ 37250; omega
  · show 0 + 1 ≤ 1; omega
  · show 0 + 256 ≤ 256; omega

theorem succ_toNat (v : BitVec 32) (h : v.toNat ≤ 37248) : (Scalar.addi v 1#32).toNat = v.toNat + 1 := by
  show (v + 1#32).toNat = _
  rw [BitVec.toNat_add]; show (v.toNat + 1) % 4294967296 = _; omega

theorem chk_hi (v : BitVec 32) (h : v.toNat ≤ 37248) : ∀ a, (k0_off11 v) a + S1x1x256.size a ≤ S37250x1x256.size a := by
  have e := succ_toNat v h
  intro a
  fin_cases a
  · show (Scalar.addi v 1#32).toNat + 1 ≤ 37250; omega
  · show 0 + 1 ≤ 1; omega
  · show 0 + 256 ≤ 256; omega

theorem chk_four (v : BitVec 32) (h : v.toNat ≤ 37248) : k0_chk1 v := ⟨chk_lo v h, chk_hi v h, chk_lo v h, chk_hi v h⟩
theorem chk_two (v : BitVec 32) (h : v.toNat ≤ 37248) : k0_chk2 v := ⟨chk_lo v h, chk_hi v h⟩

/-- A word read from row 0 or 1 of a table whose row numbers are in range. -/
theorem read_tbl {κ : Kind} {sp : Space} (v : View sig κ sp S3x4800 .i32) (f : v.ty.Contents (Elt F)) (hI : TblOK (v.read (Elt F) f))
    (off : Fin 2 → ℕ) (h : ∀ a, off a + S1x1.size a ≤ S3x4800.size a) (x : S1x1.Idx) (h0 : off 0 = 0 ∨ off 0 = 1) :
    ((v.slice (Rect.unit (s := S3x4800) off S1x1.size h)).read (Elt F) f x : BitVec 32).toNat ≤ 37248 := by
  show (v.read (Elt F) f ((Rect.unit (s := S3x4800) off S1x1.size h).emb x) : BitVec 32).toNat ≤ 37248
  rw [ValueIdx.eq_ix2 ((Rect.unit (s := S3x4800) off S1x1.size h).emb x)]
  refine hI _ _ ?_
  show off 0 + 1 * (x 0).val < 2
  have := (x 0).isLt
  have : (x 0).val < 1 := this
  omega

/-! ## The words, the row reads, and one sample from them -/

/-- The word of the index table at an offset. -/
def wI {sp : Space} {κ : Kind} (v : View sig κ sp S3x4800 .i32) (f : v.ty.Contents (Elt F)) (o : Fin 2 → ℕ)
    (h : ∀ a, o a + S1x1.size a ≤ S3x4800.size a) : BitVec 32 :=
  View.readAt (Elt F) v (Rect.unit (s := S3x4800) o S1x1.size h).toLoadRect f (Shape.Idx.first (show 0 < S1x1.numel by decide))

/-- The word of the weight table at an offset. -/
def wW {sp : Space} {κ : Kind} (v : View sig κ sp S4x4800 .f32) (f : v.ty.Contents (Elt F)) (o : Fin 2 → ℕ)
    (h : ∀ a, o a + S1x1.size a ≤ S4x4800.size a) : Elt F .f32 :=
  View.readAt (Elt F) v (Rect.unit (s := S4x4800) o S1x1.size h).toLoadRect f (Shape.Idx.first (show 0 < S1x1.numel by decide))

/-- The accumulator row a checked word names, as a vector of lanes. -/
def rowLo {sp : Space} {κ : Kind} (v : View sig κ sp S37250x1x256 .f32) (f : v.ty.Contents (Elt F)) (w : BitVec 32) (h : k0_chk1 w) : FVec F S1x256 .f32 :=
  shapeCast S1x256 (View.readAt (Elt F) v (Rect.unit (s := S37250x1x256) (k0_off10 w) S1x1x256.size (k0_off10_inb w h)).toLoadRect f) shapeCasts_S1x1x256_S1x256

/-- The row after it. -/
def rowHi {sp : Space} {κ : Kind} (v : View sig κ sp S37250x1x256 .f32) (f : v.ty.Contents (Elt F)) (w : BitVec 32) (h : k0_chk1 w) : FVec F S1x256 .f32 :=
  shapeCast S1x256 (View.readAt (Elt F) v (Rect.unit (s := S37250x1x256) (k0_off11 w) S1x1x256.size (k0_off11_inb w h)).toLoadRect f) shapeCasts_S1x1x256_S1x256

theorem wI_eq {sp : Space} {κ : Kind} (v : View sig κ sp S3x4800 .i32) (f : v.ty.Contents (Elt F)) (o : Fin 2 → ℕ) (h) (a : Fin 3) (s : ℕ)
    (ho : o = ![a.val, s]) : wI v f o h = v.read (Elt F) f (colIdx a s) := by
  subst ho
  have h1 := h 1
  have h1' : s + 1 ≤ 4800 := h1
  unfold wI
  show v.read (Elt F) f ((Rect.unit (s := S3x4800) _ S1x1.size h).emb _) = _
  refine congrArg _ (funext fun x => Fin.ext ?_)
  fin_cases x
  · show a.val + 1 * 0 = a.val; omega
  · show s + 1 * 0 = min s 4799; omega

theorem wW_eq {sp : Space} {κ : Kind} (v : View sig κ sp S4x4800 .f32) (f : v.ty.Contents (Elt F)) (o : Fin 2 → ℕ) (h) (a : Fin 4) (s : ℕ)
    (ho : o = ![a.val, s]) : wW v f o h = v.read (Elt F) f (colIdx a s) := by
  subst ho
  have h1 := h 1
  have h1' : s + 1 ≤ 4800 := h1
  unfold wW
  show v.read (Elt F) f ((Rect.unit (s := S4x4800) _ S1x1.size h).emb _) = _
  refine congrArg _ (funext fun x => Fin.ext ?_)
  fin_cases x
  · show a.val + 1 * 0 = a.val; omega
  · show s + 1 * 0 = min s 4799; omega

theorem rowRead {sp : Space} {κ : Kind} (v : View sig κ sp S37250x1x256 .f32) (f : v.ty.Contents (Elt F)) (o : Fin 3 → ℕ) (h) (r : ℕ) (ho : o = ![r, 0, 0]) :
    (shapeCast S1x256 (View.readAt (Elt F) v (Rect.unit (s := S37250x1x256) o S1x1x256.size h).toLoadRect f) shapeCasts_S1x1x256_S1x256 : FVec F S1x256 .f32)
      = rowAt (v.read (Elt F) f) r := by
  subst ho
  have h0 : r + 1 ≤ 37250 := h 0
  funext j
  refine (shapeCast_dropUnit_apply (n := 2) ![1, 256] (View.readAt (Elt F) v (Rect.unit (s := S37250x1x256) _ S1x1x256.size h).toLoadRect f) shapeCasts_S1x1x256_S1x256 j).trans ?_
  show v.read (Elt F) f ((Rect.unit (s := S37250x1x256) _ S1x1x256.size h).emb _) = _
  unfold rowAt
  have hj0 : (j 0).val < 1 := (j 0).isLt
  refine congrArg _ (funext fun x => Fin.ext ?_)
  fin_cases x
  · show r + 1 * 0 = min r 37249; omega
  · show 0 + 1 * (j 0).val = 0; omega
  · show 0 + 1 * (j 1).val = (j 1).val; omega

/-- A row written over what the accumulator held. -/
theorem read_row {sp : Space} {κ : Kind} (v : View sig κ sp S37250x1x256 .f32) (f : v.ty.Contents (Elt F)) (o : Fin 3 → ℕ) (h) (r : ℕ) (ho : o = ![r, 0, 0])
    (x : FVec F S1x256 .f32) (L : List (View.Piece (Elt F) S37250x1x256 .f32)) :
    v.read (Elt F) (v.writes (Elt F) f ((⟨Rect.unit (s := S37250x1x256) o S1x1x256.size h, shapeCast S1x1x256 x shapeCasts_S1x256_S1x1x256⟩ : View.Piece (Elt F) S37250x1x256 .f32) :: L))
      = putRow (v.read (Elt F) (v.writes (Elt F) f L)) r x := by
  subst ho
  funext y
  have y1 : (y 1).val < 1 := (y 1).isLt
  have y2 : (y 2).val < 256 := (y 2).isLt
  unfold putRow
  by_cases hy : (y 0).val = r
  · rw [if_pos hy]
    refine (View.read_writes_cons_unit_of_mem v f h _ L y (ix3 (0 : Fin 1) (0 : Fin 1) (⟨(y 2).val, y2⟩ : Fin 256)) rfl (fun a => ?_)).trans ?_
    · fin_cases a
      · show (y 0).val = r + 0; omega
      · show (y 1).val = 0 + 0; omega
      · show (y 2).val = 0 + (y 2).val; omega
    refine (shapeCast_addUnit_apply (n := 2) ![1, 256] x shapeCasts_S1x256_S1x1x256 _).trans ?_
    refine congrArg x (funext fun a => Fin.ext ?_)
    fin_cases a <;> rfl
  · rw [if_neg hy]
    refine View.read_writes_cons_unit_of_not_mem v f h _ L y rfl 0 ?_
    show (y 0).val < r ∨ r + 1 ≤ (y 0).val
    omega

/-- The four rows one sample writes, over the pieces written before. -/
def rawSpread {s6 s7 s8 : Space} {κ : Kind} (v27 : IVec S1x256 32) (cl : Elt F .f32)
    (v6 : View sig κ s6 S37250x1x256 .f32) (f6 : v6.ty.Contents (Elt F)) (v7 : View sig κ s7 S3x4800 .i32) (f7 : v7.ty.Contents (Elt F))
    (v8 : View sig κ s8 S4x4800 .f32) (f8 : v8.ty.Contents (Elt F)) (o1 o2 o3 o4 o5 o6 o7 : Fin 2 → ℕ) (h1 : ∀ a, o1 a + S1x1.size a ≤ S3x4800.size a) (h2 : ∀ a, o2 a + S1x1.size a ≤ S3x4800.size a) (h3 : ∀ a, o3 a + S1x1.size a ≤ S3x4800.size a)
    (h4 : ∀ a, o4 a + S1x1.size a ≤ S4x4800.size a) (h5 : ∀ a, o5 a + S1x1.size a ≤ S4x4800.size a) (h6 : ∀ a, o6 a + S1x1.size a ≤ S4x4800.size a) (h7 : ∀ a, o7 a + S1x1.size a ≤ S4x4800.size a)
    (c1 : k0_chk1 (wI v7 f7 o1 h1)) (c2 : k0_chk1 (wI v7 f7 o2 h2)) (L : List (View.Piece (Elt F) S37250x1x256 .f32)) : List (View.Piece (Elt F) S37250x1x256 .f32) :=
  (⟨Rect.unit (s := S37250x1x256) (k0_off11 (wI v7 f7 o2 h2)) S1x1x256.size (k0_off11_inb _ c2), shapeCast S1x1x256 (plus (rowHi v6 (v6.writes (Elt F) f6 L) _ c2) (lanesOf v27 (wI v7 f7 o3 h3) (wW v8 f8 o4 h4) cl) (Scalar.mulf (wW v8 f8 o6 h6) (wW v8 f8 o7 h7))) shapeCasts_S1x256_S1x1x256⟩ : View.Piece (Elt F) S37250x1x256 .f32)
  :: (⟨Rect.unit (s := S37250x1x256) (k0_off10 (wI v7 f7 o2 h2)) S1x1x256.size (k0_off10_inb _ c2), shapeCast S1x1x256 (plus (rowLo v6 (v6.writes (Elt F) f6 L) _ c2) (lanesOf v27 (wI v7 f7 o3 h3) (wW v8 f8 o4 h4) cl) (Scalar.mulf (wW v8 f8 o6 h6) (Scalar.subf (Scalar.ofBits .f32 0x3F800000#32) (wW v8 f8 o7 h7)))) shapeCasts_S1x256_S1x1x256⟩ : View.Piece (Elt F) S37250x1x256 .f32)
  :: (⟨Rect.unit (s := S37250x1x256) (k0_off11 (wI v7 f7 o1 h1)) S1x1x256.size (k0_off11_inb _ c1), shapeCast S1x1x256 (plus (rowHi v6 (v6.writes (Elt F) f6 L) _ c1) (lanesOf v27 (wI v7 f7 o3 h3) (wW v8 f8 o4 h4) cl) (Scalar.mulf (wW v8 f8 o5 h5) (wW v8 f8 o7 h7))) shapeCasts_S1x256_S1x1x256⟩ : View.Piece (Elt F) S37250x1x256 .f32)
  :: (⟨Rect.unit (s := S37250x1x256) (k0_off10 (wI v7 f7 o1 h1)) S1x1x256.size (k0_off10_inb _ c1), shapeCast S1x1x256 (plus (rowLo v6 (v6.writes (Elt F) f6 L) _ c1) (lanesOf v27 (wI v7 f7 o3 h3) (wW v8 f8 o4 h4) cl) (Scalar.mulf (wW v8 f8 o5 h5) (Scalar.subf (Scalar.ofBits .f32 0x3F800000#32) (wW v8 f8 o7 h7)))) shapeCasts_S1x256_S1x1x256⟩ : View.Piece (Elt F) S37250x1x256 .f32)
  :: L

theorem rawSpread_read {s6 s7 s8 : Space} {κ : Kind} (v27 : IVec S1x256 32) (cl : Elt F .f32)
    (v6 : View sig κ s6 S37250x1x256 .f32) (f6 : v6.ty.Contents (Elt F)) (v7 : View sig κ s7 S3x4800 .i32) (f7 : v7.ty.Contents (Elt F))
    (v8 : View sig κ s8 S4x4800 .f32) (f8 : v8.ty.Contents (Elt F)) (hI : TblOK (v7.read (Elt F) f7)) (o1 o2 o3 o4 o5 o6 o7 : Fin 2 → ℕ) (h1 : ∀ a, o1 a + S1x1.size a ≤ S3x4800.size a) (h2 : ∀ a, o2 a + S1x1.size a ≤ S3x4800.size a) (h3 : ∀ a, o3 a + S1x1.size a ≤ S3x4800.size a)
    (h4 : ∀ a, o4 a + S1x1.size a ≤ S4x4800.size a) (h5 : ∀ a, o5 a + S1x1.size a ≤ S4x4800.size a) (h6 : ∀ a, o6 a + S1x1.size a ≤ S4x4800.size a) (h7 : ∀ a, o7 a + S1x1.size a ≤ S4x4800.size a)
    (c1 : k0_chk1 (wI v7 f7 o1 h1)) (c2 : k0_chk1 (wI v7 f7 o2 h2)) (L : List (View.Piece (Elt F) S37250x1x256 .f32)) (s : ℕ)
    (ho : o1 = ![0, s] ∧ o2 = ![1, s] ∧ o3 = ![2, s] ∧ o4 = ![0, s] ∧ o5 = ![1, s] ∧ o6 = ![2, s] ∧ o7 = ![3, s]) :
    v6.read (Elt F) (v6.writes (Elt F) f6 (rawSpread v27 cl v6 f6 v7 f7 v8 f8 o1 o2 o3 o4 o5 o6 o7 h1 h2 h3 h4 h5 h6 h7 c1 c2 L))
      = spread v27 (v7.read (Elt F) f7) (v8.read (Elt F) f8) cl s (v6.read (Elt F) (v6.writes (Elt F) f6 L)) := by
  obtain ⟨e1, e2, e3, e4, e5, e6, e7⟩ := ho
  have w1 := wI_eq v7 f7 o1 h1 0 s e1
  have w2 := wI_eq v7 f7 o2 h2 1 s e2
  have b1 : (wI v7 f7 o1 h1).toNat ≤ 37248 := by rw [w1]; exact hI 0 _ (by decide)
  have b2 : (wI v7 f7 o2 h2).toNat ≤ 37248 := by rw [w2]; exact hI 1 _ (by decide)
  have elo : ∀ w : BitVec 32, k0_off10 w = ![w.toNat, 0, 0] := fun w => by funext x; fin_cases x <;> rfl
  have ehi : ∀ w : BitVec 32, w.toNat ≤ 37248 → k0_off11 w = ![w.toNat + 1, 0, 0] := fun w hw => by
    funext x; fin_cases x
    · exact succ_toNat w hw
    · rfl
    · rfl
  have lo : ∀ (g : v6.ty.Contents (Elt F)) (w : BitVec 32) (c : k0_chk1 w), rowLo v6 g w c = rowAt (v6.read (Elt F) g) w.toNat := fun g w c => rowRead v6 g _ _ _ (elo w)
  have hi : ∀ (g : v6.ty.Contents (Elt F)) (w : BitVec 32) (c : k0_chk1 w), w.toNat ≤ 37248 → rowHi v6 g w c = rowAt (v6.read (Elt F) g) (w.toNat + 1) :=
    fun g w c hw => rowRead v6 g _ _ _ (ehi w hw)
  unfold rawSpread
  rw [read_row v6 f6 _ _ _ (ehi _ b2), read_row v6 f6 _ _ _ (elo _), read_row v6 f6 _ _ _ (ehi _ b1), read_row v6 f6 _ _ _ (elo _),
    lo, lo, hi _ _ c1 b1, hi _ _ c2 b2, w1, w2, wI_eq v7 f7 o3 h3 2 s e3,
    wW_eq v8 f8 o4 h4 0 s e4, wW_eq v8 f8 o5 h5 1 s e5, wW_eq v8 f8 o6 h6 2 s e6, wW_eq v8 f8 o7 h7 3 s e7]
  rfl

theorem trip (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole) (arg5 : Memref sig .tc .hbm S74500x1x256 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : Memref sig .tc .smem S50 .f32) (harg9 : arg9.IsWhole) (arg10 : DmaSems sig S4) (k0_t2 : Fin k0_t2_loop.trips) (arg11 : BitVec 32) (cl : Elt F .f32)
    (f6 : Buf (Elt F) (arg6.view.loc (c : Thread nD τ))) (f7 : Buf (Elt F) (arg7.view.loc (c : Thread nD τ))) (f8 : Buf (Elt F) (arg8.view.loc (c : Thread nD τ)))
    (hI : TblOK (arg7.view.read (Elt F) f7))
    (k : Fin k0_t3_loop.trips) (Q : Unit → sProp 𝕄) :
    iprop((arg6.view.loc (c : Thread nD τ) ↦[arg6.view.set]{fullShare} f6) ∗ (arg7.view.loc (c : Thread nD τ) ↦[arg7.view.set]{fullShare} f7)
        ∗ (arg8.view.loc (c : Thread nD τ) ↦[arg8.view.set]{fullShare} f8)
        ∗ (iprop((∃ f, iprop(⌜arg6.view.read (Elt F) f = spreads (iota .tc S1x256 32 [1] iota_S1x256_d1_w32) (arg7.view.read (Elt F) f7) (arg8.view.read (Elt F) f8) cl (96 * k0_t2.val + 8 * k.val) (arg6.view.read (Elt F) f6) 8⌝ ∗ (arg6.view.loc (c : Thread nD τ) ↦[arg6.view.set]{fullShare} f)))
          ∗ (arg7.view.loc (c : Thread nD τ) ↦[arg7.view.set]{fullShare} f7)
        ∗ (arg8.view.loc (c : Thread nD τ) ↦[arg8.view.set]{fullShare} f8)) -∗ Q ⟨⟩))
      ⊢ wp frame (wpE (defs₀ (F := F)) Variants.none (c : Thread nD τ) none) Set.univ
        (k0_t3_body i arg2 harg2 arg3 harg3 arg4 harg4 arg5 harg5 arg6 harg6 arg7 harg7 arg8 harg8 arg9 harg9 arg10 (iota .tc S1x256 32 [1] iota_S1x256_d1_w32) k0_t2 arg11 cl k ⟨⟩) Q := by
  have hw : ∀ (off : Fin 2 → ℕ) (h : ∀ a, off a + S1x1.size a ≤ S3x4800.size a) (x : S1x1.Idx), (off 0 = 0 ∨ off 0 = 1) →
      (View.readAt (Elt F) arg7.view (Rect.unit (s := S3x4800) off S1x1.size h).toLoadRect f7 x : BitVec 32).toNat ≤ 37248 :=
    fun off h x h0 => read_tbl arg7.view f7 hI off h x h0
  unfold k0_t3_body
  iintro ⟨H6, H7, H8, Hk⟩
  sl_exec (disch := (first | refine chk_four _ (hw _ _ _ ?_) | refine chk_two _ (hw _ _ _ ?_)); first | exact Or.inl rfl | exact Or.inr rfl)
  sl_step
  iapply Hk
  isplitl [H6]
  swap
  · isplitl [H7]; · iexact H7
    iexact H8
  iexists _; isplitr; swap; · iexact H6
  ipureintro
  simp only [spreads]
  refine (rawSpread_read (iota .tc S1x256 32 [1] iota_S1x256_d1_w32) cl arg6.view f6 arg7.view f7 arg8.view f8 hI (k0_off94 k0_t2 k) (k0_off95 k0_t2 k) (k0_off96 k0_t2 k) (k0_off97 k0_t2 k) (k0_off98 k0_t2 k) (k0_off99 k0_t2 k) (k0_off100 k0_t2 k) (k0_off94_inb k0_t2 k) (k0_off95_inb k0_t2 k) (k0_off96_inb k0_t2 k) (k0_off97_inb k0_t2 k) (k0_off98_inb k0_t2 k) (k0_off99_inb k0_t2 k) (k0_off100_inb k0_t2 k) (chk_four _ (hw _ _ _ (Or.inl rfl))) (chk_four _ (hw _ _ _ (Or.inr rfl))) (trip.sl.H6_28 c arg6 arg7 arg8 k0_t2 cl f6 f7 f8 k hw) (96 * k0_t2.val + 8 * k.val + 7) (offs7 k0_t2 k)).trans (congrArg (spread (iota .tc S1x256 32 [1] iota_S1x256_d1_w32) (arg7.view.read (Elt F) f7) (arg8.view.read (Elt F) f8) cl (96 * k0_t2.val + 8 * k.val + 7)) ?_)
  refine (rawSpread_read (iota .tc S1x256 32 [1] iota_S1x256_d1_w32) cl arg6.view f6 arg7.view f7 arg8.view f8 hI (k0_off81 k0_t2 k) (k0_off82 k0_t2 k) (k0_off83 k0_t2 k) (k0_off84 k0_t2 k) (k0_off85 k0_t2 k) (k0_off86 k0_t2 k) (k0_off87 k0_t2 k) (k0_off81_inb k0_t2 k) (k0_off82_inb k0_t2 k) (k0_off83_inb k0_t2 k) (k0_off84_inb k0_t2 k) (k0_off85_inb k0_t2 k) (k0_off86_inb k0_t2 k) (k0_off87_inb k0_t2 k) (chk_four _ (hw _ _ _ (Or.inl rfl))) (chk_four _ (hw _ _ _ (Or.inr rfl))) (trip.sl.H6_24 c arg6 arg7 arg8 k0_t2 cl f6 f7 f8 k hw) (96 * k0_t2.val + 8 * k.val + 6) (offs6 k0_t2 k)).trans (congrArg (spread (iota .tc S1x256 32 [1] iota_S1x256_d1_w32) (arg7.view.read (Elt F) f7) (arg8.view.read (Elt F) f8) cl (96 * k0_t2.val + 8 * k.val + 6)) ?_)
  refine (rawSpread_read (iota .tc S1x256 32 [1] iota_S1x256_d1_w32) cl arg6.view f6 arg7.view f7 arg8.view f8 hI (k0_off68 k0_t2 k) (k0_off69 k0_t2 k) (k0_off70 k0_t2 k) (k0_off71 k0_t2 k) (k0_off72 k0_t2 k) (k0_off73 k0_t2 k) (k0_off74 k0_t2 k) (k0_off68_inb k0_t2 k) (k0_off69_inb k0_t2 k) (k0_off70_inb k0_t2 k) (k0_off71_inb k0_t2 k) (k0_off72_inb k0_t2 k) (k0_off73_inb k0_t2 k) (k0_off74_inb k0_t2 k) (chk_four _ (hw _ _ _ (Or.inl rfl))) (chk_four _ (hw _ _ _ (Or.inr rfl))) (trip.sl.H6_20 c arg6 arg7 arg8 k0_t2 cl f6 f7 f8 k hw) (96 * k0_t2.val + 8 * k.val + 5) (offs5 k0_t2 k)).trans (congrArg (spread (iota .tc S1x256 32 [1] iota_S1x256_d1_w32) (arg7.view.read (Elt F) f7) (arg8.view.read (Elt F) f8) cl (96 * k0_t2.val + 8 * k.val + 5)) ?_)
  refine (rawSpread_read (iota .tc S1x256 32 [1] iota_S1x256_d1_w32) cl arg6.view f6 arg7.view f7 arg8.view f8 hI (k0_off55 k0_t2 k) (k0_off56 k0_t2 k) (k0_off57 k0_t2 k) (k0_off58 k0_t2 k) (k0_off59 k0_t2 k) (k0_off60 k0_t2 k) (k0_off61 k0_t2 k) (k0_off55_inb k0_t2 k) (k0_off56_inb k0_t2 k) (k0_off57_inb k0_t2 k) (k0_off58_inb k0_t2 k) (k0_off59_inb k0_t2 k) (k0_off60_inb k0_t2 k) (k0_off61_inb k0_t2 k) (chk_four _ (hw _ _ _ (Or.inl rfl))) (chk_four _ (hw _ _ _ (Or.inr rfl))) (trip.sl.H6_16 c arg6 arg7 arg8 k0_t2 cl f6 f7 f8 k hw) (96 * k0_t2.val + 8 * k.val + 4) (offs4 k0_t2 k)).trans (congrArg (spread (iota .tc S1x256 32 [1] iota_S1x256_d1_w32) (arg7.view.read (Elt F) f7) (arg8.view.read (Elt F) f8) cl (96 * k0_t2.val + 8 * k.val + 4)) ?_)
  refine (rawSpread_read (iota .tc S1x256 32 [1] iota_S1x256_d1_w32) cl arg6.view f6 arg7.view f7 arg8.view f8 hI (k0_off42 k0_t2 k) (k0_off43 k0_t2 k) (k0_off44 k0_t2 k) (k0_off45 k0_t2 k) (k0_off46 k0_t2 k) (k0_off47 k0_t2 k) (k0_off48 k0_t2 k) (k0_off42_inb k0_t2 k) (k0_off43_inb k0_t2 k) (k0_off44_inb k0_t2 k) (k0_off45_inb k0_t2 k) (k0_off46_inb k0_t2 k) (k0_off47_inb k0_t2 k) (k0_off48_inb k0_t2 k) (chk_four _ (hw _ _ _ (Or.inl rfl))) (chk_four _ (hw _ _ _ (Or.inr rfl))) (trip.sl.H6_12 c arg6 arg7 arg8 k0_t2 cl f6 f7 f8 k hw) (96 * k0_t2.val + 8 * k.val + 3) (offs3 k0_t2 k)).trans (congrArg (spread (iota .tc S1x256 32 [1] iota_S1x256_d1_w32) (arg7.view.read (Elt F) f7) (arg8.view.read (Elt F) f8) cl (96 * k0_t2.val + 8 * k.val + 3)) ?_)
  refine (rawSpread_read (iota .tc S1x256 32 [1] iota_S1x256_d1_w32) cl arg6.view f6 arg7.view f7 arg8.view f8 hI (k0_off29 k0_t2 k) (k0_off30 k0_t2 k) (k0_off31 k0_t2 k) (k0_off32 k0_t2 k) (k0_off33 k0_t2 k) (k0_off34 k0_t2 k) (k0_off35 k0_t2 k) (k0_off29_inb k0_t2 k) (k0_off30_inb k0_t2 k) (k0_off31_inb k0_t2 k) (k0_off32_inb k0_t2 k) (k0_off33_inb k0_t2 k) (k0_off34_inb k0_t2 k) (k0_off35_inb k0_t2 k) (chk_four _ (hw _ _ _ (Or.inl rfl))) (chk_four _ (hw _ _ _ (Or.inr rfl))) (trip.sl.H6_8 c arg6 arg7 arg8 k0_t2 cl f6 f7 f8 k hw) (96 * k0_t2.val + 8 * k.val + 2) (offs2 k0_t2 k)).trans (congrArg (spread (iota .tc S1x256 32 [1] iota_S1x256_d1_w32) (arg7.view.read (Elt F) f7) (arg8.view.read (Elt F) f8) cl (96 * k0_t2.val + 8 * k.val + 2)) ?_)
  refine (rawSpread_read (iota .tc S1x256 32 [1] iota_S1x256_d1_w32) cl arg6.view f6 arg7.view f7 arg8.view f8 hI (k0_off16 k0_t2 k) (k0_off17 k0_t2 k) (k0_off18 k0_t2 k) (k0_off19 k0_t2 k) (k0_off20 k0_t2 k) (k0_off21 k0_t2 k) (k0_off22 k0_t2 k) (k0_off16_inb k0_t2 k) (k0_off17_inb k0_t2 k) (k0_off18_inb k0_t2 k) (k0_off19_inb k0_t2 k) (k0_off20_inb k0_t2 k) (k0_off21_inb k0_t2 k) (k0_off22_inb k0_t2 k) (chk_four _ (hw _ _ _ (Or.inl rfl))) (chk_four _ (hw _ _ _ (Or.inr rfl))) (trip.sl.H6_4 c arg6 arg7 arg8 k0_t2 cl f6 f7 f8 k hw) (96 * k0_t2.val + 8 * k.val + 1) (offs1 k0_t2 k)).trans (congrArg (spread (iota .tc S1x256 32 [1] iota_S1x256_d1_w32) (arg7.view.read (Elt F) f7) (arg8.view.read (Elt F) f8) cl (96 * k0_t2.val + 8 * k.val + 1)) ?_)
  refine (rawSpread_read (iota .tc S1x256 32 [1] iota_S1x256_d1_w32) cl arg6.view f6 arg7.view f7 arg8.view f8 hI (k0_off3 k0_t2 k) (k0_off4 k0_t2 k) (k0_off5 k0_t2 k) (k0_off6 k0_t2 k) (k0_off7 k0_t2 k) (k0_off8 k0_t2 k) (k0_off9 k0_t2 k) (k0_off3_inb k0_t2 k) (k0_off4_inb k0_t2 k) (k0_off5_inb k0_t2 k) (k0_off6_inb k0_t2 k) (k0_off7_inb k0_t2 k) (k0_off8_inb k0_t2 k) (k0_off9_inb k0_t2 k) (chk_four _ (hw _ _ _ (Or.inl rfl))) (chk_four _ (hw _ _ _ (Or.inr rfl))) [] (96 * k0_t2.val + 8 * k.val + 0) (offs0 k0_t2 k)).trans (congrArg (spread (iota .tc S1x256 32 [1] iota_S1x256_d1_w32) (arg7.view.read (Elt F) f7) (arg8.view.read (Elt F) f8) cl (96 * k0_t2.val + 8 * k.val + 0)) ?_)
  rfl

end Cert.Kernel2Ideal.Hand

end
-- ==== Proof.Bp.Ideal.Loops.lean ====
/-
  THE LOOPS of the back-projection: the accumulator is cleared in slabs of fifty rows; twelve trips of eight samples spread
  one line, fifty lines are spread at a point.
-/
module

public import proofs.«01_k».proof.Proof.Gen.Kernel2Ideal
public import proofs.«01_k».proof.Proof.Bp.Ideal.Trip
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Pipeline.Value
public import Idealize.ShloMosaic.Lib.Ring
public import Idealize.ShloMosaic.Lib.WritesUnit
public import Idealize.ShloMosaic.Lib.VecWindow
public import Idealize.ShloMosaic.Lib.Tactic
public import Idealize.ShloMosaic.Lib.ValueIdx

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The loops in closed form -/

/-- The lane numbers. -/
abbrev lanes : IVec S1x256 32 := iota .tc S1x256 32 [1] iota_S1x256_d1_w32

theorem spreads_add (I : S3x4800.Idx → BitVec 32) (Wt : S4x4800.Idx → Elt F .f32) (cl : Elt F .f32) (s0 : ℕ) (A : S37250x1x256.Idx → Elt F .f32) (m n : ℕ) :
    spreads lanes I Wt cl s0 A (m + n) = spreads lanes I Wt cl (s0 + m) (spreads lanes I Wt cl s0 A m) n := by
  induction n with
  | zero => rfl
  | succ n ih =>
    show spread _ _ _ _ (s0 + (m + n)) (spreads lanes I Wt cl s0 A (m + n)) = spread _ _ _ _ (s0 + m + n) (spreads lanes I Wt cl (s0 + m) (spreads lanes I Wt cl s0 A m) n)
    rw [ih, Nat.add_assoc]

/-- The accumulator after the first `n` lines of a point. -/
def linesAcc (I : S3x4800.Idx → BitVec 32) (Wt : S4x4800.Idx → Elt F .f32) (C : S50.Idx → Elt F .f32) (A : S37250x1x256.Idx → Elt F .f32) : ℕ → S37250x1x256.Idx → Elt F .f32
  | 0 => A
  | n + 1 => spreads lanes I Wt (C (ix1 (⟨min n 49, by omega⟩ : Fin 50))) (96 * n) (linesAcc I Wt C A n) 96

/-- The cleared accumulator. -/
def zeros : S37250x1x256.Idx → Elt F .f32 := fun _ => Scalar.ofBits .f32 0x00000000#32

theorem trips3 : k0_t3_loop.trips = 12 := by decide +kernel
theorem trips2 : k0_t2_loop.trips = 50 := by decide +kernel
theorem trips1 : k0_t1_loop.trips = 745 := by decide +kernel

abbrev pts6 (c : Dev nD) (arg6 : Memref sig .tc .vmem S37250x1x256 .f32) (f6 : Buf (Elt F) (arg6.view.loc (c : Thread nD τ))) : sProp 𝕄 :=
  arg6.view.loc (c : Thread nD τ) ↦[arg6.view.set]{fullShare} f6

abbrev held (c : Dev nD) (arg7 : Memref sig .tc .smem S3x4800 .i32) (arg8 : Memref sig .tc .smem S4x4800 .f32) (arg9 : Memref sig .tc .smem S50 .f32)
    (f7 : Buf (Elt F) (arg7.view.loc (c : Thread nD τ))) (f8 : Buf (Elt F) (arg8.view.loc (c : Thread nD τ))) (f9 : Buf (Elt F) (arg9.view.loc (c : Thread nD τ))) : sProp 𝕄 :=
  iprop((arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9))

theorem inner (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole) (arg5 : Memref sig .tc .hbm S74500x1x256 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : Memref sig .tc .smem S50 .f32) (harg9 : arg9.IsWhole) (arg10 : DmaSems sig S4) (k0_t2 : Fin k0_t2_loop.trips) (arg11 : BitVec 32) (cl : Elt F .f32) (A : S37250x1x256.Idx → Elt F .f32)
    (f7 : Buf (Elt F) (arg7.view.loc (c : Thread nD τ))) (f8 : Buf (Elt F) (arg8.view.loc (c : Thread nD τ))) (f9 : Buf (Elt F) (arg9.view.loc (c : Thread nD τ)))
    (hI : TblOK (arg7.view.read (Elt F) f7)) (k : Fin k0_t3_loop.trips) (u : Unit) :
    iprop((∃ f, iprop(⌜arg6.view.read (Elt F) f = spreads lanes (arg7.view.read (Elt F) f7) (arg8.view.read (Elt F) f8) cl (96 * k0_t2.val) A (8 * k.val)⌝ ∗ pts6 c arg6 f)) ∗ held c arg7 arg8 arg9 f7 f8 f9)
      ⊢ wp frame (wpE (defs₀ (F := F)) Variants.none (c : Thread nD τ) none) Set.univ
        (k0_t3_body i arg2 harg2 arg3 harg3 arg4 harg4 arg5 harg5 arg6 harg6 arg7 harg7 arg8 harg8 arg9 harg9 arg10 lanes k0_t2 arg11 cl k u)
        (fun _ => iprop((∃ f, iprop(⌜arg6.view.read (Elt F) f = spreads lanes (arg7.view.read (Elt F) f7) (arg8.view.read (Elt F) f8) cl (96 * k0_t2.val) A (8 * (k.val + 1))⌝ ∗ pts6 c arg6 f)) ∗ held c arg7 arg8 arg9 f7 f8 f9)) := by
  iintro ⟨⟨%f6, %h6, H6⟩, H7, H8, H9⟩
  iapply (trip c i arg2 harg2 arg3 harg3 arg4 harg4 arg5 harg5 arg6 harg6 arg7 harg7 arg8 harg8 arg9 harg9 arg10 k0_t2 arg11 cl f6 f7 f8 hI k _)
  isplitl [H6]; · iexact H6
  isplitl [H7]; · iexact H7
  isplitl [H8]; · iexact H8
  iintro ⟨⟨%g, %hg, H6⟩, H7, H8⟩
  isplitl [H6]
  · iexists g; isplitr; swap; · iexact H6
    ipureintro
    rw [hg, h6, ← spreads_add, Nat.mul_succ]
  · isplitl [H7]; · iexact H7
    isplitl [H8]; · iexact H8
    iexact H9

theorem word9 {sp : Space} {κ : Kind} (v : View sig κ sp S50 .f32) (f : v.ty.Contents (Elt F)) (k : Fin k0_t2_loop.trips) (hk) :
    View.readAt (Elt F) v (Rect.unit (s := S50) (k0_off2 k) S1.size hk).toLoadRect f (Shape.Idx.first (show 0 < S1.numel by decide))
      = v.read (Elt F) f (ix1 (⟨min k.val 49, by omega⟩ : Fin 50)) := by
  have hk' : k.val < 50 := Nat.lt_of_lt_of_eq k.isLt trips2
  rw [View.readAt_unit v f hk (offsC k) (by rw [← offsC k]; exact hk)]
  refine congrArg (v.read (Elt F) f) (funext fun a => Fin.ext ?_)
  fin_cases a
  show k.val + 1 * 0 = min k.val 49
  omega

theorem outer (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole) (arg5 : Memref sig .tc .hbm S74500x1x256 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : Memref sig .tc .smem S50 .f32) (harg9 : arg9.IsWhole) (arg10 : DmaSems sig S4) (A : S37250x1x256.Idx → Elt F .f32)
    (f7 : Buf (Elt F) (arg7.view.loc (c : Thread nD τ))) (f8 : Buf (Elt F) (arg8.view.loc (c : Thread nD τ))) (f9 : Buf (Elt F) (arg9.view.loc (c : Thread nD τ)))
    (hI : TblOK (arg7.view.read (Elt F) f7)) (k : Fin k0_t2_loop.trips) (u : Unit) :
    iprop((∃ f, iprop(⌜arg6.view.read (Elt F) f = linesAcc (arg7.view.read (Elt F) f7) (arg8.view.read (Elt F) f8) (arg9.view.read (Elt F) f9) A k.val⌝ ∗ pts6 c arg6 f)) ∗ held c arg7 arg8 arg9 f7 f8 f9)
      ⊢ wp frame (wpE (defs₀ (F := F)) Variants.none (c : Thread nD τ) none) Set.univ
        (k0_t2_body i arg2 harg2 arg3 harg3 arg4 harg4 arg5 harg5 arg6 harg6 arg7 harg7 arg8 harg8 arg9 harg9 arg10 lanes k u)
        (fun _ => iprop((∃ f, iprop(⌜arg6.view.read (Elt F) f = linesAcc (arg7.view.read (Elt F) f7) (arg8.view.read (Elt F) f8) (arg9.view.read (Elt F) f9) A (k.val + 1)⌝ ∗ pts6 c arg6 f)) ∗ held c arg7 arg8 arg9 f7 f8 f9)) := by
  iintro ⟨⟨%f6, %h6, H6⟩, H7, H8, H9⟩
  unfold k0_t2_body
  sl_exec
  iapply (Scf.wp_for_bind frame (wpE (defs₀ (F := F)) Variants.none (c : Thread nD τ) none) Set.univ k0_t3_loop.lb k0_t3_loop.ub k0_t3_loop.st k0_t3_ok _ _
    (fun n _ => iprop((∃ f, iprop(⌜arg6.view.read (Elt F) f = spreads lanes (arg7.view.read (Elt F) f7) (arg8.view.read (Elt F) f8) _ (96 * k.val) (linesAcc (arg7.view.read (Elt F) f7) (arg8.view.read (Elt F) f8) (arg9.view.read (Elt F) f9) A k.val) (8 * n)⌝ ∗ pts6 c arg6 f)) ∗ held c arg7 arg8 arg9 f7 f8 f9))
    (fun n a => inner c i arg2 harg2 arg3 harg3 arg4 harg4 arg5 harg5 arg6 harg6 arg7 harg7 arg8 harg8 arg9 harg9 arg10 k _ _ _ f7 f8 f9 hI n a)) $$ [H6 H7 H8 H9]
  · isplitl [H6]
    · iexists f6; isplitr; · ipureintro; exact h6
      iexact H6
    isplitl [H7]; · iexact H7
    isplitl [H8]; · iexact H8
    iexact H9
  · iintro %v ⟨⟨%g, %hg, H6⟩, H⟩
    sl_step
    isplitl [H6]
    · iexists g; isplitr; swap; · iexact H6
      ipureintro
      rw [hg, show Scf.trips k0_t3_loop.lb k0_t3_loop.ub k0_t3_loop.st = 12 from trips3]
      refine congrArg (fun w => spreads lanes _ _ w _ _ _) ?_
      exact word9 arg9.view f9 k _
    iexact H

/-- The counted loop over the lines: from the tables' contents to the accumulator after fifty lines. -/
theorem lines_bind (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole) (arg5 : Memref sig .tc .hbm S74500x1x256 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : Memref sig .tc .smem S50 .f32) (harg9 : arg9.IsWhole) (arg10 : DmaSems sig S4) (f6 : Buf (Elt F) (arg6.view.loc (c : Thread nD τ)))
    (f7 : Buf (Elt F) (arg7.view.loc (c : Thread nD τ))) (f8 : Buf (Elt F) (arg8.view.loc (c : Thread nD τ))) (f9 : Buf (Elt F) (arg9.view.loc (c : Thread nD τ)))
    (hI : TblOK (arg7.view.read (Elt F) f7)) {β : Type} {kk : Unit → Prog (TpuEff nD τ sig (Elt F) Λ₀ .tc) β} {Q : β → sProp 𝕄} :
    iprop(pts6 c arg6 f6 ∗ held c arg7 arg8 arg9 f7 f8 f9 ∗ ((∃ f, iprop(⌜arg6.view.read (Elt F) f = linesAcc (arg7.view.read (Elt F) f7) (arg8.view.read (Elt F) f8) (arg9.view.read (Elt F) f9) (arg6.view.read (Elt F) f6) 50⌝ ∗ pts6 c arg6 f)) -∗ held c arg7 arg8 arg9 f7 f8 f9 -∗
        wp frame (wpE (defs₀ (F := F)) Variants.none (c : Thread nD τ) none) Set.univ (kk ⟨⟩) Q))
      ⊢ wp frame (wpE (defs₀ (F := F)) Variants.none (c : Thread nD τ) none) Set.univ
        (Scf.Loop.for k0_t2_loop k0_t2_ok ⟨⟩ (k0_t2_body i arg2 harg2 arg3 harg3 arg4 harg4 arg5 harg5 arg6 harg6 arg7 harg7 arg8 harg8 arg9 harg9 arg10 lanes) >>= kk) Q := by
  iintro ⟨H6, H, HK⟩
  iapply (Scf.wp_for_bind frame (wpE (defs₀ (F := F)) Variants.none (c : Thread nD τ) none) Set.univ k0_t2_loop.lb k0_t2_loop.ub k0_t2_loop.st k0_t2_ok _ _
    (fun n _ => iprop((∃ f, iprop(⌜arg6.view.read (Elt F) f = linesAcc (arg7.view.read (Elt F) f7) (arg8.view.read (Elt F) f8) (arg9.view.read (Elt F) f9) (arg6.view.read (Elt F) f6) n⌝ ∗ pts6 c arg6 f)) ∗ held c arg7 arg8 arg9 f7 f8 f9))
    (fun n a => outer c i arg2 harg2 arg3 harg3 arg4 harg4 arg5 harg5 arg6 harg6 arg7 harg7 arg8 harg8 arg9 harg9 arg10 (arg6.view.read (Elt F) f6) f7 f8 f9 hI n a)) $$ [H6 H]
  · isplitl [H6]
    · iexists f6; isplitr; · ipureintro; rfl
      iexact H6
    iexact H
  · iintro %v ⟨⟨%g, %hg, H6⟩, H⟩
    iapply HK $$ [H6] H
    iexists g; isplitr; swap; · iexact H6
    ipureintro
    rw [hg, show Scf.trips k0_t2_loop.lb k0_t2_loop.ub k0_t2_loop.st = 50 from trips2]

/-! ## Clearing the accumulator -/

theorem clear_trip (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole) (arg5 : Memref sig .tc .hbm S74500x1x256 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : Memref sig .tc .smem S50 .f32) (harg9 : arg9.IsWhole) (arg10 : DmaSems sig S4) (h1 : k0_cond1 i = 1#1) (k : Fin k0_t1_loop.trips) (u : Unit) :
    iprop(∃ f, iprop(⌜∀ x : S37250x1x256.Idx, (x 0).val < 50 * k.val → arg6.view.read (Elt F) f x = zeros x⌝ ∗ pts6 c arg6 f))
      ⊢ wp frame (wpE (defs₀ (F := F)) Variants.none (c : Thread nD τ) none) Set.univ
        (k0_t1_body i arg2 harg2 arg3 harg3 arg4 harg4 arg5 harg5 arg6 harg6 arg7 harg7 arg8 harg8 arg9 harg9 arg10 h1 k u)
        (fun _ => iprop(∃ f, iprop(⌜∀ x : S37250x1x256.Idx, (x 0).val < 50 * (k.val + 1) → arg6.view.read (Elt F) f x = zeros x⌝ ∗ pts6 c arg6 f))) := by
  have hk : k.val < 745 := Nat.lt_of_lt_of_eq k.isLt trips1
  iintro ⟨%f, %h, H6⟩
  unfold k0_t1_body
  sl_exec
  sl_step
  iexists _; isplitr; swap; · iexact H6
  ipureintro
  intro x hx
  have x1 : (x 1).val < 1 := (x 1).isLt
  have x2 : (x 2).val < 256 := (x 2).isLt
  by_cases hlt : (x 0).val < 50 * k.val
  · refine (View.read_writes_cons_unit_of_not_mem arg6.view f _ _ [] x (offsZ k) 0 (Or.inl hlt)).trans (h x hlt)
  · refine (View.read_writes_cons_unit_of_mem arg6.view f _ _ [] x (ix3 (⟨(x 0).val - 50 * k.val, by omega⟩ : Fin 50) (0 : Fin 1) (⟨(x 2).val, x2⟩ : Fin 256)) (offsZ k) (fun a => ?_)).trans rfl
    fin_cases a
    · show (x 0).val = 50 * k.val + ((x 0).val - 50 * k.val); omega
    · show (x 1).val = 0 + 0; omega
    · show (x 2).val = 0 + (x 2).val; omega

theorem clear_bind (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole) (arg5 : Memref sig .tc .hbm S74500x1x256 .f32) (harg5 : arg5.IsWhole) (arg6 : Memref sig .tc .vmem S37250x1x256 .f32) (harg6 : arg6.IsWhole) (arg7 : Memref sig .tc .smem S3x4800 .i32) (harg7 : arg7.IsWhole) (arg8 : Memref sig .tc .smem S4x4800 .f32) (harg8 : arg8.IsWhole) (arg9 : Memref sig .tc .smem S50 .f32) (harg9 : arg9.IsWhole) (arg10 : DmaSems sig S4) (h1 : k0_cond1 i = 1#1) (f6 : Buf (Elt F) (arg6.view.loc (c : Thread nD τ)))
    {β : Type} {kk : Unit → Prog (TpuEff nD τ sig (Elt F) Λ₀ .tc) β} {Q : β → sProp 𝕄} :
    iprop(pts6 c arg6 f6 ∗ ((∃ f, iprop(⌜arg6.view.read (Elt F) f = zeros⌝ ∗ pts6 c arg6 f)) -∗
        wp frame (wpE (defs₀ (F := F)) Variants.none (c : Thread nD τ) none) Set.univ (kk ⟨⟩) Q))
      ⊢ wp frame (wpE (defs₀ (F := F)) Variants.none (c : Thread nD τ) none) Set.univ
        (Scf.Loop.for k0_t1_loop (k0_t1_ok i h1) ⟨⟩ (k0_t1_body i arg2 harg2 arg3 harg3 arg4 harg4 arg5 harg5 arg6 harg6 arg7 harg7 arg8 harg8 arg9 harg9 arg10 h1) >>= kk) Q := by
  iintro ⟨H6, HK⟩
  iapply (Scf.wp_for_bind frame (wpE (defs₀ (F := F)) Variants.none (c : Thread nD τ) none) Set.univ k0_t1_loop.lb k0_t1_loop.ub k0_t1_loop.st (k0_t1_ok i h1) _ _
    (fun n _ => iprop(∃ f, iprop(⌜∀ x : S37250x1x256.Idx, (x 0).val < 50 * n → arg6.view.read (Elt F) f x = zeros x⌝ ∗ pts6 c arg6 f)))
    (fun n a => clear_trip c i arg2 harg2 arg3 harg3 arg4 harg4 arg5 harg5 arg6 harg6 arg7 harg7 arg8 harg8 arg9 harg9 arg10 h1 n a)) $$ [H6]
  · iexists f6; isplitr; · ipureintro; exact fun x hx => absurd hx (by omega)
    iexact H6
  · iintro %v ⟨%g, %hg, H6⟩
    iapply HK
    iexists g; isplitr; swap; · iexact H6
    ipureintro
    rw [show Scf.trips k0_t1_loop.lb k0_t1_loop.ub k0_t1_loop.st = 745 from trips1] at hg
    funext x
    exact hg x (Nat.lt_of_lt_of_eq (x 0).isLt rfl)

end Cert.Kernel2Ideal.Hand

end
-- ==== Proof.Bp.Ideal.Body.lean ====
/-
  THE BODY of the back-projection: the first point of a half clears the accumulator, every point copies its tables into
  scalar memory and spreads its fifty lines, the last point of a half copies the accumulator out.
-/
module

public import proofs.«01_k».proof.Proof.Gen.Kernel2Ideal
public import proofs.«01_k».proof.Proof.Bp.Ideal.Loops
public import proofs.«01_k».proof.Proof.Gen.Kernel2Ideal.Launch
public import Idealize.ShloMosaic.Lib.WordCmp
public import Idealize.ShloMosaic.Lib.VecWindow
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## The body's operands -/

/-- The scratch buffers: the accumulator, the three tables. -/
abbrev scM6 : Memref sig .tc .vmem S37250x1x256 .f32 := Memref.whole cc0_scratch0
abbrev scM7 : Memref sig .tc .smem S3x4800 .i32 := Memref.whole cc0_scratch1
abbrev scM8 : Memref sig .tc .smem S4x4800 .f32 := Memref.whole cc0_scratch2
abbrev scM9 : Memref sig .tc .smem S50 .f32 := Memref.whole cc0_scratch3
/-- The result, left in HBM. -/
abbrev outM : Memref sig .tc .hbm S74500x1x256 .f32 := Memref.whole main_v97
abbrev HbBuf (c : Dev nD) {sp : Space} {S : Shape} {e : EltTy} (M : Memref sig .tc sp S e) : Type := Buf (Elt F) (M.view.loc (c : Thread nD τ))
abbrev hbPt (c : Dev nD) {sp : Space} {S : Shape} {e : EltTy} (M : Memref sig .tc sp S e) (f : HbBuf (F := F) c M) : sProp 𝕄 :=
  M.view.loc (c : Thread nD τ) ↦{fullShare} f

/-- A block of a table without its leading axis. -/
def sqz3 (d : S1x3x4800.Idx → BitVec 32) : S3x4800.Idx → BitVec 32 := fun j => d (ix3 (0 : Fin 1) (j 0) (j 1))
def sqz4 (d : S1x4x4800.Idx → Elt F .f32) : S4x4800.Idx → Elt F .f32 := fun j => d (ix3 (0 : Fin 1) (j 0) (j 1))
def sqz5 (d : S1x1x50.Idx → Elt F .f32) : S50.Idx → Elt F .f32 := fun j => d (ix3 (0 : Fin 1) (0 : Fin 1) (j 0))

theorem sqz3_eq (arg : Memref sig .tc .vmem S1x3x4800 .i32) (f : arg.view.ty.Contents (Elt F)) :
    ((arg.slice (Rect.unit (s := S1x3x4800) ![0, 0, 0] S1x3x4800.size inb_S1x3x4800_S1x3x4800_0_0_0) (fun _ => rfl)).squeeze S3x4800 squeezes_S1x3x4800_S3x4800).view.read (Elt F) f
      = sqz3 (arg.view.read (Elt F) f) := by
  refine (Memref.read_squeeze_full arg inb_S1x3x4800_S1x3x4800_0_0_0 squeezes_S1x3x4800_S3x4800 f).trans (funext fun y => ?_)
  refine (shapeCast_dropUnit_apply (n := 2) ![3, 4800] (arg.view.read (Elt F) f) (squeezes_S1x3x4800_S3x4800).numel_eq y).trans ?_
  refine congrArg _ (funext fun x => ?_)
  fin_cases x <;> rfl
theorem sqz4_eq (arg : Memref sig .tc .vmem S1x4x4800 .f32) (f : arg.view.ty.Contents (Elt F)) :
    ((arg.slice (Rect.unit (s := S1x4x4800) ![0, 0, 0] S1x4x4800.size inb_S1x4x4800_S1x4x4800_0_0_0) (fun _ => rfl)).squeeze S4x4800 squeezes_S1x4x4800_S4x4800).view.read (Elt F) f
      = sqz4 (arg.view.read (Elt F) f) := by
  refine (Memref.read_squeeze_full arg inb_S1x4x4800_S1x4x4800_0_0_0 squeezes_S1x4x4800_S4x4800 f).trans (funext fun y => ?_)
  refine (shapeCast_dropUnit_apply (n := 2) ![4, 4800] (arg.view.read (Elt F) f) (squeezes_S1x4x4800_S4x4800).numel_eq y).trans ?_
  refine congrArg _ (funext fun x => ?_)
  fin_cases x <;> rfl
/-- An index of a block of line factors, from its last coordinate. -/
theorem idx5 (x : S1x1x50.Idx) : x = ix3 (0 : Fin 1) (0 : Fin 1) (x 2) := by
  funext a
  fin_cases a
  · exact Fin.ext (by have : (x 0).val < 1 := (x 0).isLt; show (x 0).val = 0; omega)
  · exact Fin.ext (by have : (x 1).val < 1 := (x 1).isLt; show (x 1).val = 0; omega)
  · rfl
theorem sqz5_eq (arg : Memref sig .tc .vmem S1x1x50 .f32) (f : arg.view.ty.Contents (Elt F)) :
    ((arg.slice (Rect.unit (s := S1x1x50) ![0, 0, 0] S1x1x50.size inb_S1x1x50_S1x1x50_0_0_0) (fun _ => rfl)).squeeze S50 squeezes_S1x1x50_S50).view.read (Elt F) f
      = sqz5 (arg.view.read (Elt F) f) := by
  refine (Memref.read_squeeze_full arg inb_S1x1x50_S1x1x50_0_0_0 squeezes_S1x1x50_S50 f).trans (funext fun y => ?_)
  refine (shapeCast_apply (arg.view.read (Elt F) f) (squeezes_S1x1x50_S50).numel_eq y (ix3 (0 : Fin 1) (0 : Fin 1) (y 0)) ?_).trans rfl
  rw [show y = ix1 (y 0) from funext fun a => by fin_cases a; rfl]
  exact (by decide +kernel : ∀ k : Fin 50, (S1x1x50.rowMajor (ix3 (0 : Fin 1) (0 : Fin 1) k)).val = (S50.rowMajor (ix1 k)).val) (y 0)

/-- The accumulator a point leaves. -/
def accAfter (i : grid0.Coords) (d2 : S1x3x4800.Idx → BitVec 32) (d3 : S1x4x4800.Idx → Elt F .f32) (d4 : S1x1x50.Idx → Elt F .f32)
    (A : S37250x1x256.Idx → Elt F .f32) : S37250x1x256.Idx → Elt F .f32 :=
  linesAcc (sqz3 d2) (sqz4 d3) (sqz5 d4) (if k0_cond1 i = 1#1 then zeros else A) 50

/-- The result a point leaves: the last point of a half writes the half's accumulator. -/
def outAfter (i : grid0.Coords) (acc : S37250x1x256.Idx → Elt F .f32) {c : Dev nD} (fo : HbBuf (F := F) c outM) : HbBuf (F := F) c outM :=
  if h : k0_cond2 i = 1#1 then
    View.write (Elt F) (outM.slice (Rect.unit (s := S74500x1x256) (k0_off107 i) S37250x1x256.size (k0_off107_inb i h)) (fun _ => rfl)).view fo acc Finset.univ
  else fo

/-- The loop over the lines on the scratch buffers, with the tables and the accumulator known by what they hold. -/
theorem lines_run (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole)
    (I : S3x4800.Idx → BitVec 32) (Wt : S4x4800.Idx → Elt F .f32) (C : S50.Idx → Elt F .f32) (A : S37250x1x256.Idx → Elt F .f32) (hI : TblOK I)
    {β : Type} {kk : Unit → Prog (TpuEff nD τ sig (Elt F) Λ₀ .tc) β} {Q : β → sProp 𝕄} :
    iprop((∃ f, iprop(⌜scM6.view.read (Elt F) f = A⌝ ∗ hbPt c scM6 f)) ∗ (∃ f, iprop(⌜scM7.view.read (Elt F) f = I⌝ ∗ hbPt c scM7 f))
        ∗ (∃ f, iprop(⌜scM8.view.read (Elt F) f = Wt⌝ ∗ hbPt c scM8 f)) ∗ (∃ f, iprop(⌜scM9.view.read (Elt F) f = C⌝ ∗ hbPt c scM9 f))
        ∗ ((∃ f, iprop(⌜scM6.view.read (Elt F) f = linesAcc I Wt C A 50⌝ ∗ hbPt c scM6 f)) -∗ (∃ f, hbPt c scM7 f) -∗ (∃ f, hbPt c scM8 f) -∗ (∃ f, hbPt c scM9 f) -∗
          wp frame (wpE (defs₀ (F := F)) Variants.none (c : Thread nD τ) none) Set.univ (kk ⟨⟩) Q))
      ⊢ wp frame (wpE (defs₀ (F := F)) Variants.none (c : Thread nD τ) none) Set.univ
        (Scf.Loop.for k0_t2_loop k0_t2_ok ⟨⟩ (k0_t2_body i arg2 harg2 arg3 harg3 arg4 harg4 outM (Memref.isWhole_whole _) scM6 (Memref.isWhole_whole _) scM7 (Memref.isWhole_whole _) scM8 (Memref.isWhole_whole _) scM9 (Memref.isWhole_whole _) cc0_scratch4 lanes) >>= kk) Q := by
  iintro ⟨⟨%f6, %h6, H6⟩, ⟨%f7, %h7, H7⟩, ⟨%f8, %h8, H8⟩, ⟨%f9, %h9, H9⟩, HK⟩
  subst h6 h7 h8 h9
  iapply (lines_bind c i arg2 harg2 arg3 harg3 arg4 harg4 outM (Memref.isWhole_whole _) scM6 (Memref.isWhole_whole _) scM7 (Memref.isWhole_whole _) scM8 (Memref.isWhole_whole _) scM9 (Memref.isWhole_whole _) cc0_scratch4 f6 f7 f8 f9 hI)
  unfold held pts6
  rw [show scM6.view.set = Finset.univ from View.set_whole _, show scM7.view.set = Finset.univ from View.set_whole _, show scM8.view.set = Finset.univ from View.set_whole _, show scM9.view.set = Finset.univ from View.set_whole _]
  isplitl [H6]; · iexact H6
  isplitl [H7 H8 H9]
  · isplitl [H7]; · iexact H7
    isplitl [H8]; · iexact H8
    iexact H9
  iintro H6 ⟨H7, H8, H9⟩
  iapply HK $$ [H6] [H7] [H8] [H9]
  · iexact H6
  · iexists f7; iexact H7
  · iexists f8; iexact H8
  · iexists f9; iexact H9

theorem bodyRun (c : Dev nD) (i : grid0.Coords) (arg2 : Memref sig .tc .vmem S1x3x4800 .i32) (harg2 : arg2.IsWhole) (arg3 : Memref sig .tc .vmem S1x4x4800 .f32) (harg3 : arg3.IsWhole) (arg4 : Memref sig .tc .vmem S1x1x50 .f32) (harg4 : arg4.IsWhole)
    (fo : HbBuf (F := F) c outM) (d2 : S1x3x4800.Idx → BitVec 32) (d3 : S1x4x4800.Idx → Elt F .f32) (d4 : S1x1x50.Idx → Elt F .f32) (f6 : HbBuf (F := F) c scM6)
    (hI : TblOK (sqz3 d2)) (W : Waits sig Unit) (K : PUnit → sProp 𝕄) :
    iprop(owns (c : Thread nD τ) arg2 fullShare d2 ∗ owns (c : Thread nD τ) arg3 fullShare d3 ∗ owns (c : Thread nD τ) arg4 fullShare d4
        ∗ hbPt c scM6 f6 ∗ (∃ f, hbPt c scM7 f) ∗ (∃ f, hbPt c scM8 f) ∗ (∃ f, hbPt c scM9 f)
        ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
        ∗ hbPt c outM fo ∗ owes (c : Thread nD τ) 0 W
        ∗ (iprop(owns (c : Thread nD τ) arg2 fullShare d2 ∗ owns (c : Thread nD τ) arg3 fullShare d3 ∗ owns (c : Thread nD τ) arg4 fullShare d4
            ∗ (∃ f, iprop(⌜scM6.view.read (Elt F) f = accAfter i d2 d3 d4 (scM6.view.read (Elt F) f6)⌝ ∗ hbPt c scM6 f)) ∗ (∃ f, hbPt c scM7 f) ∗ (∃ f, hbPt c scM8 f) ∗ (∃ f, hbPt c scM9 f)
            ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
            ∗ hbPt c outM (outAfter i (accAfter i d2 d3 d4 (scM6.view.read (Elt F) f6)) fo) ∗ (∃ W', owes (c : Thread nD τ) 0 W')) -∗ K ⟨⟩))
      ⊢ wp frame (wpE (defs₀ (F := F)) Variants.none c none) Set.univ
        (cc0_recon_bp i arg2 harg2 arg3 harg3 arg4 harg4 outM (Memref.isWhole_whole _) scM6 (Memref.isWhole_whole _) scM7 (Memref.isWhole_whole _) scM8 (Memref.isWhole_whole _) scM9 (Memref.isWhole_whole _) cc0_scratch4) K := by
  unfold owns
  iintro ⟨⟨%f2, %h2, H2⟩, ⟨%f3, %h3, H3⟩, ⟨%f4, %h4, H4⟩, H6, ⟨%f7, H7⟩, ⟨%f8, H8⟩, ⟨%f9, H9⟩, Hq0, Hq1, Hq2, Hq3, Ho, HW, Hk⟩
  simp only [cc0_recon_bp_eq_skeleton]; unfold cc0_recon_bp_skel
  simp only [k0_part17_eq_skeleton]; unfold k0_part17_skel
  by_cases h1 : k0_cond1 i = 1#1
  case' pos =>
    rw [dif_pos h1]
    simp only [bind_assoc, pure_bind]
    iapply (clear_bind c i arg2 harg2 arg3 harg3 arg4 harg4 outM (Memref.isWhole_whole _) scM6 (Memref.isWhole_whole _) scM7 (Memref.isWhole_whole _) scM8 (Memref.isWhole_whole _) scM9 (Memref.isWhole_whole _) cc0_scratch4 h1 f6)
    unfold pts6
    rw [show scM6.view.set = Finset.univ from View.set_whole _]
    isplitl [H6]; · iexact H6
    iintro ⟨%g6, %hg6, H6⟩
    sl_exec
    have hs : scM6.view.read (Elt F) g6 = if k0_cond1 i = 1#1 then zeros else scM6.view.read (Elt F) f6 := by rw [if_pos h1]; exact hg6
  case' neg =>
    rw [dif_neg h1]
    sl_exec
    have hs : scM6.view.read (Elt F) f6 = if k0_cond1 i = 1#1 then zeros else scM6.view.read (Elt F) f6 := by rw [if_neg h1]
  all_goals
    iapply (lines_run c i arg2 harg2 arg3 harg3 arg4 harg4 (sqz3 d2) (sqz4 d3) (sqz5 d4) (if k0_cond1 i = 1#1 then zeros else scM6.view.read (Elt F) f6) hI)
    isplitl [H6]; · iexists _; isplitr; swap; · iexact H6
                    ipureintro; exact hs
    isplitl [H7]; · iexists _; isplitr; swap; · iexact H7
                    ipureintro; exact (View.read_write_univ _ _).trans ((sqz3_eq arg2 f2).trans (by rw [h2]))
    isplitl [H8]; · iexists _; isplitr; swap; · iexact H8
                    ipureintro; exact (View.read_write_univ _ _).trans ((sqz4_eq arg3 f3).trans (by rw [h3]))
    isplitl [H9]; · iexists _; isplitr; swap; · iexact H9
                    ipureintro; exact (View.read_write_univ _ _).trans ((sqz5_eq arg4 f4).trans (by rw [h4]))
    iintro ⟨%k6, %hk6, H6⟩ H7 H8 H9
    have hacc : accAfter i d2 d3 d4 (scM6.view.read (Elt F) f6) = scM6.view.read (Elt F) k6 := hk6.symm
    rw [hacc]
    by_cases hl : k0_cond2 i = 1#1
    case' pos =>
      rw [dif_pos hl]
      sl_exec
    case' neg =>
      rw [dif_neg hl]
      sl_exec
    all_goals
      sl_step
      iapply Hk
      isplitl [H2]; · iexists f2; isplitr; · ipureintro; exact h2
                      iexact H2
      isplitl [H3]; · iexists f3; isplitr; · ipureintro; exact h3
                      iexact H3
      isplitl [H4]; · iexists f4; isplitr; · ipureintro; exact h4
                      iexact H4
      isplitl [H6]; · iexists k6; isplitr; · ipureintro; rfl
                      iexact H6
      isplitl [H7]; · iexact H7
      isplitl [H8]; · iexact H8
      isplitl [H9]; · iexact H9
      isplitl [Hq0]; · iexact Hq0
      isplitl [Hq1]; · iexact Hq1
      isplitl [Hq2]; · iexact Hq2
      isplitl [Hq3]; · iexact Hq3
      isplitl [Ho]
      · unfold outAfter
        first
          | (rw [dif_pos hl]; iexact Ho)
          | (rw [dif_neg hl]; iexact Ho)
      iexists _; iexact HW

end Cert.Kernel2Ideal.Hand

end
-- ==== Proof.Bp.Ideal.Frame.lean ====
/-
  THE RUN of the back-projection: the region's invariant (the accumulator holds what the points of the half so far have
  spread, the result what the finished halves have copied out), the body at every point, the launch, and the frame from a
  bound on the row numbers of the index table.
-/
module

public import proofs.«01_k».proof.Proof.Gen.Kernel2Ideal
public import proofs.«01_k».proof.Proof.Bp.Ideal.Body
public import proofs.«01_k».proof.Proof.Gen.Kernel2Ideal.Frame
public import Idealize.ShloMosaic.Lib.Pipeline.FrameSuffixV
public import proofs.«01_k».proof.Proof.Gen.Kernel2Ideal.Launch
public import Idealize.ShloMosaic.Lib.WordCmp
public import Idealize.ShloMosaic.Lib.VecWindow
public import proofs.«01_k».proof.Proof.Gen.Kernel2Ideal.Skeleton
public import proofs.«01_k».proof.Proof.Gen.Kernel2Ideal.Loops
public import proofs.«01_k».proof.Proof.Gen.Kernel2Ideal.Points
public import Idealize.ShloMosaic.Lib.Pipeline.FrameBody
public import Idealize.ShloMosaic.Lib.Pipeline.Value
public import Idealize.ShloMosaic.Lib.Ring
public import Idealize.ShloMosaic.Lib.Tactic
public import Idealize.ShloMosaic.Lib.ValueIdx

@[expose] public section

set_option maxRecDepth 16384

noncomputable section

namespace Cert.Kernel2Ideal.Hand

open Cert.Kernel2Ideal Cert.Kernel2Ideal.Gen
open Idealize.ShloMosaic Idealize.ShloMosaic.TcCoe Idealize.ShloMosaic.Tactic
open Idealize.ShloMosaic.ValueIdx (ix1 ix2 ix3)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## @main around the region, at this algebra -/

set_option maxHeartbeats 800000 in
theorem hmain (𝒱₀ : Variants) : Pipeline.HMainK (Ix := Unit) (Name := ℕ) (U := Pipeline.UD sig nD τ) (Lvl := ℕ) cfgs 0 defs₀ 𝒱₀ m (main (F := F)) (V m)
    (fun _ => Pipeline.chain ([hostOps1].map StableHlo.seq)) :=
  Pipeline.hmain_around cfgs 0 defs₀ 𝒱₀ m main [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16] [hostOps1] (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The launch's own semaphores and the result left in HBM -/

abbrev osem0 : Fin 4 → SemLoc sig := fun j => (![SemLoc.dma 6, SemLoc.dma 7, SemLoc.dma 8, SemLoc.dma 9] : Fin 4 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 6) 0 ∗ semVal ((c : Thread nD τ), SemLoc.dma 7) 0
          ∗ semVal ((c : Thread nD τ), SemLoc.dma 8) 0 ∗ semVal ((c : Thread nD τ), SemLoc.dma 9) 0) := by
  rw [Pipeline.ownSems0_eq_of_list c osem0 [0, 1, 2, 3] (by decide) (by decide)]; rfl
def R0 : Finset (Ref sig .tc) := {main_v97}
theorem R0_sub : R0 ⊆ Pipeline.restRefs sig spec0 \ ∅ := by decide
theorem outPts0_eq (c : Dev nD) (G : (c : Dev nD) → (b : Ref sig .tc) → Buf (Elt F) ((c.tc : Thread nD τ).loc b)) :
    (bigSep R0 (fun b => ((c : Thread nD τ).loc b) ↦{fullShare} G c b) : sProp 𝕄) = iprop(hbPt c outM (G c main_v97)) := by
  rw [BI.bigSep_eq_bigSepL_of_eq [main_v97] (by decide) (by decide)]; rfl

theorem PhiD0_eq (c : Dev nD) (G : (c : Dev nD) → (b : Ref sig .tc) → Buf (Elt F) ((c.tc : Thread nD τ).loc b)) :
    (Pipeline.ΦDRV osem0 spec0 ∅ R0 (V m) G c : sProp 𝕄)
      = iprop(iprop((∃ f, hbPt c scM6 f) ∗ (∃ f, hbPt c scM7 f) ∗ (∃ f, hbPt c scM8 f) ∗ (∃ f, hbPt c scM9 f))
          ∗ iprop(semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)
          ∗ iprop(bigSep ∅ fun b => ((c : Thread nD τ).loc b) ↦{fullShare} V m c b)
          ∗ hbPt c outM (G c main_v97)) := by
  unfold Pipeline.ΦDRV; rw [scopedRest0_eq, ownSems00_eq, outPts0_eq]; try rfl

/-! ## What the points leave -/

/-- The accumulator after the first `n` points. -/
def accAt (c : Dev nD) : ℕ → S37250x1x256.Idx → Elt F .f32
  | 0 => zeros
  | n + 1 => if h : n < cfg0.N then
      accAfter (grid0.coords ⟨n, h⟩) (iblk m c 0 ⟨n, h⟩) (iblk m c 1 ⟨n, h⟩) (iblk m c 2 ⟨n, h⟩) (accAt c n)
    else accAt c n

/-- The result after the first `n` points. -/
def resAt (c : Dev nD) : ℕ → HbBuf (F := F) c outM
  | 0 => V m c main_v97
  | n + 1 => if h : n < cfg0.N then outAfter (grid0.coords ⟨n, h⟩) (accAt m c (n + 1)) (resAt c n) else resAt c n

theorem accAt_succ (c : Dev nD) (t : Fin cfg0.N) :
    accAt m c (t.val + 1) = accAfter (grid0.coords t) (iblk m c 0 t) (iblk m c 1 t) (iblk m c 2 t) (accAt m c t.val) := dif_pos t.isLt
theorem resAt_succ (c : Dev nD) (t : Fin cfg0.N) :
    resAt m c (t.val + 1) = outAfter (grid0.coords t) (accAt m c (t.val + 1)) (resAt m c t.val) := dif_pos t.isLt

/-- The first point clears the accumulator, so what it held before does not matter. -/
theorem accAfter_first (t : Fin cfg0.N) (h : t.val = 0) (d2 : S1x3x4800.Idx → BitVec 32) (d3 : S1x4x4800.Idx → Elt F .f32) (d4 : S1x1x50.Idx → Elt F .f32)
    (A B : S37250x1x256.Idx → Elt F .f32) : accAfter (grid0.coords t) d2 d3 d4 A = accAfter (grid0.coords t) d2 d3 d4 B := by
  have h1 : k0_cond1 (grid0.coords t) = 1#1 := by
    rw [show t = (⟨0, t.pos⟩ : Fin cfg0.N) from Fin.ext h]
    exact (by decide +kernel : k0_cond1 (grid0.coords (⟨0, by decide⟩ : Fin grid0.N)) = 1#1)
  unfold accAfter
  rw [if_pos h1, if_pos h1]

/-! ## The region's invariant and proof data -/

/-- Before point `n`. -/
def PhiS (c : Dev nD) (n : ℕ) : sProp 𝕄 :=
  iprop((∃ f, iprop(⌜n ≠ 0 → scM6.view.read (Elt F) f = accAt m c n⌝ ∗ hbPt c scM6 f)) ∗ (∃ f, hbPt c scM7 f) ∗ (∃ f, hbPt c scM8 f) ∗ (∃ f, hbPt c scM9 f)
    ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0
    ∗ iprop(bigSep ∅ fun b => ((c : Thread nD τ).loc b) ↦{fullShare} V m c b)
    ∗ hbPt c outM (resAt m c n))

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

theorem Phi_castSucc (c : Dev nD) (t : Fin cfg0.N) : (dats m 0 c).Φ t.castSucc = PhiS m c t.val := by dsimp only [dats]; rfl
theorem Phi_succ (c : Dev nD) (t : Fin cfg0.N) : (dats m 0 c).Φ t.succ = PhiS m c (t.val + 1) := by dsimp only [dats]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

theorem sound_body (hT : ∀ c t, TblOK (sqz3 (iblk m c 0 t))) (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, after0_0, after0_1, after0_2]
  rw [Phi_castSucc, Phi_succ]
  unfold Dat.owesAt Pipeline.owesWithin
  rw [show (dats m 0 c).owed t.castSucc = 0 from rfl, show (dats m 0 c).owed t.succ = 0 from rfl]
  unfold PhiS
  iintro ⟨⟨⟨%f6, %hf6, H6⟩, H7, H8, H9, Hq0, Hq1, Hq2, Hq3, He, Ho⟩, ⟨%W, -, HW⟩, ⟨%d0, H0⟩, ⟨%d1, H1⟩, ⟨%d2, H2⟩⟩
  have e : accAfter (grid0.coords t) (iblk m c 0 t) (iblk m c 1 t) (iblk m c 2 t) (scM6.view.read (Elt F) f6) = accAt m c (t.val + 1) := by
    rw [accAt_succ]
    by_cases h0 : t.val = 0
    · exact accAfter_first t h0 _ _ _ _ _
    · rw [hf6 h0]
  iapply (bodyRun c (grid0.coords t) _ _ _ _ _ _ (resAt m c t.val) (iblk m c 0 t) (iblk m c 1 t) (iblk m c 2 t) f6 (hT c t) W _)
  isplitl [H0]; · iexact H0
  isplitl [H1]; · iexact H1
  isplitl [H2]; · iexact H2
  isplitl [H6]; · iexact H6
  isplitl [H7]; · iexact H7
  isplitl [H8]; · iexact H8
  isplitl [H9]; · iexact H9
  isplitl [Hq0]; · iexact Hq0
  isplitl [Hq1]; · iexact Hq1
  isplitl [Hq2]; · iexact Hq2
  isplitl [Hq3]; · iexact Hq3
  isplitl [Ho]; · iexact Ho
  isplitl [HW]; · iexact HW
  rw [e, ← resAt_succ]
  iintro ⟨H0, H1, H2, ⟨%g6, %hg6, H6⟩, H7, H8, H9, Hq0, Hq1, Hq2, Hq3, Ho, ⟨%W', HW'⟩⟩
  isplitl [H6 H7 H8 H9 Hq0 Hq1 Hq2 Hq3 He Ho]
  · isplitl [H6]
    · iexists g6; isplitr; · ipureintro; exact fun _ => hg6
      iexact H6
    isplitl [H7]; · iexact H7
    isplitl [H8]; · iexact H8
    isplitl [H9]; · iexact H9
    isplitl [Hq0]; · iexact Hq0
    isplitl [Hq1]; · iexact Hq1
    isplitl [Hq2]; · iexact Hq2
    isplitl [Hq3]; · iexact Hq3
    isplitl [He]; · iexact He
    iexact Ho
  isplitl [HW']
  · iexists W'; isplitr; · ipureintro; exact fun _ _ => Or.inl trivial
    iexact HW'
  isplitl [H0]; · iexact H0
  isplitl [H1]; · iexact H1
  iexact H2

theorem defs₀_row (t : Fin cfg0.N) :
    defs₀ (F := F) .tc cfg0.body (cfg0.bodyArgs t (cfg0.slots t)) = bodyAt0 t := by
  unfold defs₀; rw [Defs.onTc_tc]

theorem body_obligation (hT : ∀ c t, TblOK (sqz3 (iblk m c 0 t))) (c : Dev nD) :
    BodyObligation (dats (F := F) m 0 c) (defs₀ (F := F)) Variants.none () Set.univ := fun t => by
  rw [bigSep_W0, bigSep_W0, defs₀_row]
  exact triple_restated (sound_body m hT c t) rfl .rfl fun _ => .rfl

/-- The contents the launch ends with: the result after all points. -/
def G (c : Dev nD) (b : Ref sig .tc) : Buf (Elt F) ((c.tc : Thread nD τ).loc b) :=
  if h : main_v97 = b then h ▸ resAt m c cfg0.N else V m c b
theorem G_out (c : Dev nD) : G m c main_v97 = resAt m c cfg0.N := dif_pos rfl

theorem Phi_in (c : Dev nD) : (Pipeline.ΦDRV osem0 spec0 ∅ R0 (V m) (V m) c : sProp 𝕄) ⊢ PhiS m c 0 := by
  rw [PhiD0_eq]; unfold PhiS
  iintro ⟨⟨⟨%f6, H6⟩, H7, H8, H9⟩, ⟨Hq0, Hq1, Hq2, Hq3⟩, He, Ho⟩
  isplitl [H6]
  · iexists f6; isplitr; · ipureintro; exact fun h => absurd rfl h
    iexact H6
  isplitl [H7]; · iexact H7
  isplitl [H8]; · iexact H8
  isplitl [H9]; · iexact H9
  isplitl [Hq0]; · iexact Hq0
  isplitl [Hq1]; · iexact Hq1
  isplitl [Hq2]; · iexact Hq2
  isplitl [Hq3]; · iexact Hq3
  isplitl [He]; · iexact He
  iexact Ho

theorem Phi_out (c : Dev nD) : PhiS m c cfg0.N ⊢ (Pipeline.ΦDRV osem0 spec0 ∅ R0 (V m) (G m) c : sProp 𝕄) := by
  rw [PhiD0_eq, G_out]; unfold PhiS
  iintro ⟨⟨%f6, %hf6, H6⟩, H7, H8, H9, Hq0, Hq1, Hq2, Hq3, He, Ho⟩
  isplitl [H6 H7 H8 H9]
  · isplitl [H6]; · iexists f6; iexact H6
    isplitl [H7]; · iexact H7
    isplitl [H8]; · iexact H8
    iexact H9
  isplitl [Hq0 Hq1 Hq2 Hq3]
  · isplitl [Hq0]; · iexact Hq0
    isplitl [Hq1]; · iexact Hq1
    isplitl [Hq2]; · iexact Hq2
    iexact Hq3
  isplitl [He]; · iexact He
  iexact Ho

/-! ## The run and the frame -/

/-- The contents of a buffer after the run. -/
def finalAt (c : Dev nD) (b : Ref sig .tc) : Buf (Elt F) ((c.tc : Thread nD τ).loc b) :=
  StableHlo.after (List.flatten [hostOps1]) (Pipeline.withArrays spec0 c (Pipeline.withR (V0 m c) R0 c (G m c)) fun w => (dats m 0 c).arrAt w cfg0.N) (Proc.devRef .tc b)

set_option backward.isDefEq.respectTransparency.types false in
theorem run_main (hT : ∀ c t, TblOK (sqz3 (iblk m c 0 t))) :
    θ_run defs (onTc (τ := τ) (main (F := F))) (s₀ m ρ)
      (fun r => (∀ c : Dev nD, ∀ b ∈ Pipeline.restRefs sig spec0, r.2.mem ((c.tc : Thread nD τ).loc b) = finalAt m c b) ∧ r.2.sem = fun _ => 0) :=
  Pipeline.θ_run_frame_dmaR_aroundV cfgs (dats m) (0 : Fin 1) launch0 osem0 defs₀ Variants.none ownSemFacts0 ∅ R0 (by decide) R0_sub m ρ main
    (hbody := fun c => (body_obligation m hT c).loose) (hshare := fun c => (dats m 0 c).share_full fun _ => rfl)
    (howed := fun _ _ => rfl) (V₀ := V0 m) (opss := [hostOps1]) (hsub := sfx_sub) (hfresh := sfx_fresh) (hkeep := sfx_keeps) (G := G m)
    (hmain := hmain m Variants.none) (hA := A_eq m) (hin := fun c => Phi_in m c) (hout := fun c => Phi_out m c)
    (Q' := fun r => (∀ c : Dev nD, ∀ b ∈ Pipeline.restRefs sig spec0, r.2.mem ((c.tc : Thread nD τ).loc b) = finalAt m c b) ∧ r.2.sem = fun _ => 0)
    (hQ' := fun r h => ⟨fun c => (h.1 c).2, h.2⟩)

theorem W_main_arg0 (c : Dev nD) : finalAt m c main_arg0 = m ((c : Thread nD τ).loc main_arg0) := by
  unfold finalAt
  rw [StableHlo.after_of_forall_not_mem (b := Proc.devRef .tc main_arg0) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg0 (by exact (by decide : ∀ w, Pipeline.arrRef spec0 w ≠ main_arg0)),
    Pipeline.withR_of_not_mem _ _ _ _ main_arg0 (by decide)]
  exact V_main_arg0 m c
theorem W_main_arg1 (c : Dev nD) : finalAt m c main_arg1 = m ((c : Thread nD τ).loc main_arg1) := by
  unfold finalAt
  rw [StableHlo.after_of_forall_not_mem (b := Proc.devRef .tc main_arg1) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg1 (by exact (by decide : ∀ w, Pipeline.arrRef spec0 w ≠ main_arg1)),
    Pipeline.withR_of_not_mem _ _ _ _ main_arg1 (by decide)]
  exact V_main_arg1 m c
theorem W_main_arg2 (c : Dev nD) : finalAt m c main_arg2 = m ((c : Thread nD τ).loc main_arg2) := by
  unfold finalAt
  rw [StableHlo.after_of_forall_not_mem (b := Proc.devRef .tc main_arg2) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg2 (by exact (by decide : ∀ w, Pipeline.arrRef spec0 w ≠ main_arg2)),
    Pipeline.withR_of_not_mem _ _ _ _ main_arg2 (by decide)]
  exact V_main_arg2 m c
theorem W_main_arg3 (c : Dev nD) : finalAt m c main_arg3 = m ((c : Thread nD τ).loc main_arg3) := by
  unfold finalAt
  rw [StableHlo.after_of_forall_not_mem (b := Proc.devRef .tc main_arg3) _ _ (List.forall_iff_forall_mem.mp (by
      simp only [hostOps1, List.flatten_cons, List.flatten_nil, List.append_nil, List.cons_append,
        List.nil_append, List.Forall, StableHlo.unary_writes, StableHlo.reshape_writes, Finset.mem_singleton]
      repeat' apply And.intro
      all_goals exact StableHlo.devRef_ne_of_ne (by decide))),
    Pipeline.withArrays_of_ne _ c _ _ main_arg3 (by exact (by decide : ∀ w, Pipeline.arrRef spec0 w ≠ main_arg3)),
    Pipeline.withR_of_not_mem _ _ _ _ main_arg3 (by decide)]
  exact V_main_arg3 m c

theorem frame_of (hT : ∀ c t, TblOK (sqz3 (iblk m c 0 t))) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v102) = finalAt m c main_v102)
      ∧ r.2.sem = fun _ => 0) :=
  (θ_run defs _ _).mono (fun _ h => ⟨fun c => ⟨(h.1 c main_arg0 (Pipeline.mem_restRefs_of main_arg0 (by decide) (by decide))).trans (W_main_arg0 m c),
      (h.1 c main_arg1 (Pipeline.mem_restRefs_of main_arg1 (by decide) (by decide))).trans (W_main_arg1 m c),
      (h.1 c main_arg2 (Pipeline.mem_restRefs_of main_arg2 (by decide) (by decide))).trans (W_main_arg2 m c),
      (h.1 c main_arg3 (Pipeline.mem_restRefs_of main_arg3 (by decide) (by decide))).trans (W_main_arg3 m c),
      h.1 c main_v102 (Pipeline.mem_restRefs_of main_v102 (by decide) (by decide))⟩, h.2⟩) (run_main m ρ hT)

end Cert.Kernel2Ideal.Hand

end
-- ==== Proof.Bp.Ideal.Host.lean ====
/-
  THE HOST LINES' RESULTS of the back-projection, index by index: the table of row numbers, the table of weights and the
  lines' factors that the region finds, over the argument arrays.
-/
module

public import proofs.«01_k».proof.Proof.Bp.Ideal.Frame
public import proofs.«01_k».proof.Proof.Spec
public import Idealize.ShloMosaic.Lib.StableHlo.ReadAt

@[expose] public section

noncomputable section

namespace Cert.Kernel2Ideal.Hand

open Cert.Kernel2Ideal Cert.Kernel2Ideal.Gen Cert.Spec
open Idealize.ShloMosaic Idealize.ShloMosaic.TcCoe
open Idealize.SL.Sem

variable {F : FTy → Type} [FloatOps F]
variable (m : (ℓ : Loc nD τ sig) → Buf (Elt F) ℓ) (c : Dev nD) (b : Fin 1000) (j : Fin 4800) (q : Fin 50)

/-- The voxel coordinate, of the arguments in memory. -/
def voxM (d : Fin 3) (i : Fin 50000) (s : ℕ) : F .f32 := vox (m (c, Proc.tc.devRef main_arg0)) (m (c, Proc.tc.devRef main_arg1)) (m (c, Proc.tc.devRef main_arg2)) d i s
/-- The line of entry `j` of block `b`. -/
abbrev lineOf (b : Fin 1000) (j : Fin 4800) : Fin 50000 := ⟨b.val * 50 + j.val / 96, by omega⟩

set_option maxHeartbeats 1000000 in
theorem idx_0 :
    (V m c main_v87 : S1000x3x4800.Idx → BitVec 32) (ix3 b 0 j) = row0 (clipW 192#32 (cell (voxM m c 0 (lineOf b j) (j.val % 96)))) (clipW 191#32 (cell (voxM m c 1 (lineOf b j) (j.val % 96)))) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

set_option maxHeartbeats 1000000 in
theorem idx_1 :
    (V m c main_v87 : S1000x3x4800.Idx → BitVec 32) (ix3 b 1 j) = row1 (clipW 192#32 (cell (voxM m c 0 (lineOf b j) (j.val % 96)))) (clipW 191#32 (cell (voxM m c 1 (lineOf b j) (j.val % 96)))) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

set_option maxHeartbeats 1000000 in
theorem idx_2 :
    (V m c main_v87 : S1000x3x4800.Idx → BitVec 32) (ix3 b 2 j) = clipW 192#32 (cell (voxM m c 2 (lineOf b j) (j.val % 96))) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

set_option maxHeartbeats 1000000 in
theorem wts_0 :
    (V m c main_v96 : S1000x4x4800.Idx → F .f32) (ix3 b 0 j) = frac (voxM m c 2 (lineOf b j) (j.val % 96)) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

set_option maxHeartbeats 1000000 in
theorem wts_1 :
    (V m c main_v96 : S1000x4x4800.Idx → F .f32) (ix3 b 1 j) = wx0 (clipW 192#32 (cell (voxM m c 0 (lineOf b j) (j.val % 96)))) (frac (voxM m c 0 (lineOf b j) (j.val % 96))) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

set_option maxHeartbeats 1000000 in
theorem wts_2 :
    (V m c main_v96 : S1000x4x4800.Idx → F .f32) (ix3 b 2 j) = wx1 (clipW 192#32 (cell (voxM m c 0 (lineOf b j) (j.val % 96)))) (frac (voxM m c 0 (lineOf b j) (j.val % 96))) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

set_option maxHeartbeats 1000000 in
theorem wts_3 :
    (V m c main_v96 : S1000x4x4800.Idx → F .f32) (ix3 b 3 j) = frac (voxM m c 1 (lineOf b j) (j.val % 96)) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  after_reads_at
  rfl

end Cert.Kernel2Ideal.Hand

end
-- ==== Proof.Bp.Ideal.Blocks.lean ====
/-
  THE BLOCKS of the back-projection: the windows' blocks read off their arrays, the row numbers in range at every point,
  the frame.
-/
module

public import proofs.«01_k».proof.Proof.Bp.Ideal.Host
public import Idealize.ShloMosaic.Lib.Pipeline.Value

@[expose] public section

noncomputable section

namespace Cert.Kernel2Ideal.Hand

open Cert.Kernel2Ideal Cert.Kernel2Ideal.Gen Cert.Spec
open Idealize.ShloMosaic Idealize.ShloMosaic.TcCoe
open Idealize.SL Idealize.SL.Sem

variable {F : FTy → Type} [FloatOps F]
variable (m : (ℓ : Loc nD τ sig) → Buf (Elt F) ℓ) (ρ : Dev nD → PrngReg) (c : Dev nD)

theorem index_in : ∀ t : Fin grid0.N, (win0_0.index t 0 = t.val ∧ win0_0.index t 1 = 0 ∧ win0_0.index t 2 = 0)
    ∧ (win0_1.index t 0 = t.val ∧ win0_1.index t 1 = 0 ∧ win0_1.index t 2 = 0)
    ∧ (win0_2.index t 0 = t.val ∧ win0_2.index t 1 = 0 ∧ win0_2.index t 2 = 0) := by decide +kernel

theorem N_eq : cfg0.N = 1000 := by decide

/-- A point as the number of its block. -/
abbrev blkNo (t : Fin cfg0.N) : Fin 1000 := ⟨t.val, lt_of_lt_of_eq t.isLt N_eq⟩

theorem iblk0_at (t : Fin cfg0.N) (a : Fin 3) (j : Fin 4800) :
    (iblk m c 0 t : S1x3x4800.Idx → BitVec 32) (ix3 0 a j) = (V m c main_v87 : S1000x3x4800.Idx → BitVec 32) (ix3 (blkNo t) a j) := by
  unfold iblk
  rw [View.read_apply]
  show V m c main_v87 _ = V m c main_v87 _
  congr 1
  funext x
  apply Fin.ext
  match x with
  | ⟨0, _⟩ => show win0_0.index t 0 * 1 + 1 * 0 = t.val; rw [(index_in t).1.1]; omega
  | ⟨1, _⟩ => show win0_0.index t 1 * 3 + 1 * a.val = a.val; rw [(index_in t).1.2.1]; omega
  | ⟨2, _⟩ => show win0_0.index t 2 * 4800 + 1 * j.val = j.val; rw [(index_in t).1.2.2]; omega

theorem iblk1_at (t : Fin cfg0.N) (a : Fin 4) (j : Fin 4800) :
    (iblk m c 1 t : S1x4x4800.Idx → F .f32) (ix3 0 a j) = (V m c main_v96 : S1000x4x4800.Idx → F .f32) (ix3 (blkNo t) a j) := by
  unfold iblk
  rw [View.read_apply]
  show V m c main_v96 _ = V m c main_v96 _
  congr 1
  funext x
  apply Fin.ext
  match x with
  | ⟨0, _⟩ => show win0_1.index t 0 * 1 + 1 * 0 = t.val; rw [(index_in t).2.1.1]; omega
  | ⟨1, _⟩ => show win0_1.index t 1 * 4 + 1 * a.val = a.val; rw [(index_in t).2.1.2.1]; omega
  | ⟨2, _⟩ => show win0_1.index t 2 * 4800 + 1 * j.val = j.val; rw [(index_in t).2.1.2.2]; omega

theorem iblk2_at (t : Fin cfg0.N) (a : Fin 1) (j : Fin 50) :
    (iblk m c 2 t : S1x1x50.Idx → F .f32) (ix3 0 a j) = (V m c main_v37 : S1000x1x50.Idx → F .f32) (ix3 (blkNo t) a j) := by
  unfold iblk
  rw [View.read_apply]
  show V m c main_v37 _ = V m c main_v37 _
  congr 1
  funext x
  apply Fin.ext
  match x with
  | ⟨0, _⟩ => show win0_2.index t 0 * 1 + 1 * 0 = t.val; rw [(index_in t).2.2.1]; omega
  | ⟨1, _⟩ => show win0_2.index t 1 * 1 + 1 * a.val = a.val; rw [(index_in t).2.2.2.1]; omega
  | ⟨2, _⟩ => show win0_2.index t 2 * 50 + 1 * j.val = j.val; rw [(index_in t).2.2.2.2]; omega

theorem sqz0_at (t : Fin cfg0.N) (a : Fin 3) (j : Fin 4800) :
    sqz3 (iblk m c 0 t) (ValueIdx.ix2 a j) = (V m c main_v87 : S1000x3x4800.Idx → BitVec 32) (ix3 (blkNo t) a j) := by
  rw [← iblk0_at]
  show (iblk m c 0 t : S1x3x4800.Idx → BitVec 32) _ = _
  congr 1

theorem sqz1_at (t : Fin cfg0.N) (a : Fin 4) (j : Fin 4800) :
    sqz4 (iblk m c 1 t) (ValueIdx.ix2 a j) = (V m c main_v96 : S1000x4x4800.Idx → F .f32) (ix3 (blkNo t) a j) := by
  rw [← iblk1_at]
  show (iblk m c 1 t : S1x4x4800.Idx → F .f32) _ = _
  congr 1

/-- Every block of the table holds row numbers of the accumulator. -/
theorem tbl_ok (c : Dev nD) (t : Fin cfg0.N) : TblOK (sqz3 (iblk m c 0 t)) := by
  intro a j ha
  rw [sqz0_at]
  match a, ha with
  | ⟨0, _⟩, _ => rw [show (ix3 (blkNo t) ⟨0, _⟩ j : S1000x3x4800.Idx) = ix3 (blkNo t) 0 j from rfl, idx_0]; exact row0_le _ _
  | ⟨1, _⟩, _ => rw [show (ix3 (blkNo t) ⟨1, _⟩ j : S1000x3x4800.Idx) = ix3 (blkNo t) 1 j from rfl, idx_1]; exact row1_le _ _

/-- The frame: the arguments end as launched, every counter at zero. -/
theorem frame_all :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (frame_of m ρ (tbl_ok m))

/-- The run: the result array at its final value, and the arguments unchanged. -/
theorem run_all :
    θ_run defs (onTc (τ := τ) (main (F := F))) ⟨m, fun _ => 0, ρ⟩ (fun r => ∀ c : Dev nD,
      r.2.mem ((c.tc : Thread nD τ).loc main_v102) = finalAt m c main_v102
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h.1 c).2.2.2.2, (h.1 c).1, (h.1 c).2.1, (h.1 c).2.2.1, (h.1 c).2.2.2.1⟩) (frame_of m ρ (tbl_ok m))

end Cert.Kernel2Ideal.Hand

end
-- ==== Proof.Bp.Pure.lean ====
/-
  ONE SAMPLE SPREAD, over the extended reals: along an axis a cell and its successor take the weights `1 - f` and `f`
  (`wt`), and what a sample adds at a cell of the image is the product of the three axes' weights times its line's factor,
  both as the reference's eight corners land and as the kernel's four rows and two lanes do. Also a line's length.
-/
module

public import proofs.«01_k».proof.Proof.Rows

@[expose] public section

noncomputable section

namespace Cert.Spec

open Idealize.ShloMosaic

variable {F : FTy → Type} [FloatOps F]

/-- The differences of the lines' end points. -/
def gap (lors : Lors F) : FVec F (⟨2, ![50000, 3]⟩ : Shape) .f32 := fun x =>
  FloatOps.subf (lors (ix2 (x 0) ⟨3 + (x 1).val, by have : (x 1).val < 3 := (x 1).isLt; omega⟩)) (lors (ix2 (x 0) ⟨(x 1).val, by have : (x 1).val < 3 := (x 1).isLt; omega⟩))

/-- The distance between two samples of a line. -/
def seg (lors : Lors F) (i : Fin 50000) : F .f32 :=
  FloatOps.hostDivf (FloatOps.hostUnary .sqrt ((Host.reduceAdd (mulf (gap lors) (gap lors)) (constant (⟨0, ![]⟩ : Shape) .f32 0x00000000#32)
    (by decide : (⟨2, ![50000, 3]⟩ : Shape).ReducesTo [1] (⟨1, ![50000]⟩ : Shape)) (by decide) : FVec F (⟨1, ![50000]⟩ : Shape) .f32) (ix1 i)))
    (FloatOps.ofBits .f32 0x42C00000#32)

/-- The factor of a length. -/
def kw : F .f32 := FloatOps.ofBits .f32 0x3FD8A618#32

end Cert.Spec

namespace Cert.Corner

open Cert.Spec
open Idealize.ShloMosaic

/-- The weight that cell `a` takes of a sample in cell `n`, fraction `f`. -/
def wt (n : ℤ) (f : ℝ) (a : ℤ) : ℝ := (if a = n then 1 - f else 0) + (if a = n + 1 then f else 0)

theorem wt_lo {n a : ℤ} (f : ℝ) (h : a = n) : wt n f a = 1 - f := by
  unfold wt; rw [if_pos h, if_neg (by omega), add_zero]
theorem wt_hi {n a : ℤ} (f : ℝ) (h : a = n + 1) : wt n f a = f := by
  unfold wt; rw [if_neg (by omega), if_pos h, zero_add]
theorem wt_no {n a : ℤ} (f : ℝ) (h : ¬ a = n) (h' : ¬ a = n + 1) : wt n f a = 0 := by
  unfold wt; rw [if_neg h, if_neg h', add_zero]

theorem lane_wt (n : ℤ) (f : ℝ) (l : ℤ) : lane n f l = ((wt n f l : ℝ) : EReal) := by
  unfold lane
  by_cases h : l = n
  · rw [wt_lo f h, if_pos h, if_neg (by omega), add_zero]
  · by_cases h' : l = n + 1
    · rw [wt_hi f h', if_neg h, if_pos h', zero_add]
    · rw [wt_no f h h', if_neg h, if_neg h', add_zero, EReal.coe_zero]

theorem st_eq (k : Fin 8) (d : Fin 3) : st k d = if step k d = 1#32 then 1 else 0 := by
  unfold st
  rcases step_cases k d with e | e <;> rw [e] <;> rfl

/-- The eight corners that land at a cell. -/
theorem corners_sum (c : EReal) (n0 n1 n2 x y z : ℤ) (f0 f1 f2 : ℝ) :
    (∑ k : Fin 8, if n0 + st k 0 = x ∧ n1 + st k 1 = y ∧ n2 + st k 2 = z then ((lin (st k 0) f0 * lin (st k 1) f1 * lin (st k 2) f2 : ℝ) : EReal) * c else 0)
      = ((wt n0 f0 x * wt n1 f1 y * wt n2 f2 z : ℝ) : EReal) * c := by
  rw [Fin.sum_univ_eight]
  simp only [st_eq, show step 0 0 = 0#32 from rfl, show step 0 1 = 0#32 from rfl, show step 0 2 = 0#32 from rfl,
    show step 1 0 = 0#32 from rfl, show step 1 1 = 0#32 from rfl, show step 1 2 = 1#32 from rfl,
    show step 2 0 = 0#32 from rfl, show step 2 1 = 1#32 from rfl, show step 2 2 = 0#32 from rfl,
    show step 3 0 = 0#32 from rfl, show step 3 1 = 1#32 from rfl, show step 3 2 = 1#32 from rfl,
    show step 4 0 = 1#32 from rfl, show step 4 1 = 0#32 from rfl, show step 4 2 = 0#32 from rfl,
    show step 5 0 = 1#32 from rfl, show step 5 1 = 0#32 from rfl, show step 5 2 = 1#32 from rfl,
    show step 6 0 = 1#32 from rfl, show step 6 1 = 1#32 from rfl, show step 6 2 = 0#32 from rfl,
    show step 7 0 = 1#32 from rfl, show step 7 1 = 1#32 from rfl, show step 7 2 = 1#32 from rfl]
  simp only [show ¬ ((0#32 : BitVec 32) = 1#32) by decide, if_true, if_false, add_zero, lin, show ¬ ((0 : ℤ) = 1) by decide]
  have key : ∀ (n a : ℤ) (f : ℝ), ((n = a) = True ∧ (n + 1 = a) = False ∧ wt n f a = 1 - f) ∨ ((n = a) = False ∧ (n + 1 = a) = True ∧ wt n f a = f) ∨ ((n = a) = False ∧ (n + 1 = a) = False ∧ wt n f a = 0) := by
    intro n a f
    by_cases h : n = a
    · exact Or.inl ⟨eq_true h, eq_false (by omega), wt_lo f h.symm⟩
    · by_cases h' : n + 1 = a
      · exact Or.inr (Or.inl ⟨eq_false h, eq_true h', wt_hi f h'.symm⟩)
      · exact Or.inr (Or.inr ⟨eq_false h, eq_false h', wt_no f (fun e => h e.symm) (fun e => h' e.symm)⟩)
  rcases key n0 x f0 with ⟨a, a', e⟩ | ⟨a, a', e⟩ | ⟨a, a', e⟩ <;> rcases key n1 y f1 with ⟨b, b', e'⟩ | ⟨b, b', e'⟩ | ⟨b, b', e'⟩ <;>
    rcases key n2 z f2 with ⟨d, d', e''⟩ | ⟨d, d', e''⟩ | ⟨d, d', e''⟩ <;>
    simp only [a, a', b, b', d, d', e, e', e'', and_true, and_false, true_and, false_and, if_true, if_false, add_zero, zero_add, mul_zero, zero_mul, EReal.coe_zero]

theorem held_of {w : BitVec 32} (h : 0 ≤ w.toInt ∧ w.toInt < 192) : Spec.held w = w := by
  unfold Spec.held IntOp.minsi IntOp.maxsi IntOp.subi
  simp only [BitVec.slt_iff_toInt_lt]
  have e0 : (0#32 : BitVec 32).toInt = 0 := rfl
  have e1 : (192#32 - 1#32 : BitVec 32).toInt = 191 := rfl
  split <;> split <;> first | rfl | (apply BitVec.eq_of_toInt_eq; omega)

/-- A corner's update at a cell of the image: the corner's weight there, nothing elsewhere. -/
theorem land_eq {v0 v1 v2 : EReal} {n0 n1 n2 : ℤ} {f0 f1 f2 : ℝ} (h0 : Ax v0 n0 f0) (h1 : Ax v1 n1 f1) (h2 : Ax v2 n2 f2) (k : Fin 8) (c : EReal)
    (x y z : Fin 192) :
    (if (Spec.held (corner (F := Ideal) k 0 v0)).toInt = x.val ∧ (Spec.held (corner (F := Ideal) k 1 v1)).toInt = y.val
        ∧ (Spec.held (corner (F := Ideal) k 2 v2)).toInt = z.val then (weight (F := Ideal) k v0 v1 v2 : EReal) * c else 0)
      = if n0 + st k 0 = x.val ∧ n1 + st k 1 = y.val ∧ n2 + st k 2 = z.val then ((lin (st k 0) f0 * lin (st k 1) f1 * lin (st k 2) f2 : ℝ) : EReal) * c else 0 := by
  have c0 := corner_eq h0 k 0
  have c1 := corner_eq h1 k 1
  have c2 := corner_eq h2 k 2
  unfold weight
  rw [part_eq h0, part_eq h1, part_eq h2]
  rw [← c0, ← c1, ← c2]
  unfold Scalar.select
  simp only [andi_one, within_iff]
  by_cases h : ((0 ≤ (corner (F := Ideal) k 0 v0).toInt ∧ (corner (F := Ideal) k 0 v0).toInt < 192) ∧ (0 ≤ (corner (F := Ideal) k 1 v1).toInt ∧ (corner (F := Ideal) k 1 v1).toInt < 192))
      ∧ (0 ≤ (corner (F := Ideal) k 2 v2).toInt ∧ (corner (F := Ideal) k 2 v2).toInt < 192)
  · rw [if_pos h, held_of h.1.1, held_of h.1.2, held_of h.2, EReal.coe_mul, EReal.coe_mul]
    rfl
  · have hx := x.isLt; have hy := y.isLt; have hz := z.isLt
    rw [if_neg h, nil_eq, zero_mul, ite_self, if_neg (by omega)]

variable {v0 v1 : EReal} {n0 n1 : ℤ} {f0 f1 : ℝ} (h0 : Ax v0 n0 f0) (h1 : Ax v1 n1 f1)

include h0 h1 in
/-- The accumulator row of cells `(x, y)` is the lower row, or the one after it. -/
theorem row0_hit {b r : ℕ} (hb : b ≤ 1) (x y : Fin 192) (hr : r = x.val * 194 + y.val + 1) :
    r = (row0 (wx v0) (wy v1)).toNat + b ↔ (x.val : ℤ) = n0 ∧ (y.val : ℤ) = n1 + b := by
  have ex := wx_toInt h0
  have ey := wy_toInt h1
  have := h0.lo; have := h0.hi; have := h1.lo; have := h1.hi
  have := x.isLt; have := y.isLt
  by_cases h : 0 ≤ n0
  · have er := row0_toNat (x := wx v0) (y := wy v1) (by omega) (by omega) (by omega) (by omega)
    rw [ex, ey] at er
    omega
  · have e : (row0 (wx v0) (wy v1)).toNat = 37248 := by
      unfold row0
      rw [show Scalar.select (ok0 (wx v0)) _ _ = _ from if_neg (fun e => h (by have := (ok0_iff.1 e).1; omega))]
      rfl
    omega

include h0 h1 in
theorem row1_hit {b r : ℕ} (hb : b ≤ 1) (x y : Fin 192) (hr : r = x.val * 194 + y.val + 1) :
    r = (row1 (wx v0) (wy v1)).toNat + b ↔ (x.val : ℤ) = n0 + 1 ∧ (y.val : ℤ) = n1 + b := by
  have ex := wx_toInt h0
  have ey := wy_toInt h1
  have := h0.lo; have := h0.hi; have := h1.lo; have := h1.hi
  have := x.isLt; have := y.isLt
  by_cases h : n0 ≤ 190
  · have er := row1_toNat (x := wx v0) (y := wy v1) (by omega) (by omega) (by omega) (by omega)
    rw [ex, ey] at er
    omega
  · have e : (row1 (wx v0) (wy v1)).toNat = 37248 := by
      unfold row1
      rw [show Scalar.select (ok1 (wx v0)) _ _ = _ from if_neg (fun e => h (by have := (ok1_iff (by omega) (by omega)).1 e; omega))]
      rfl
    omega

include h0 in
theorem wx0_of (h : 0 ≤ n0) : (wx0 (F := Ideal) (wx v0) (Spec.frac (F := Ideal) v0) : EReal) = ((1 - f0 : ℝ) : EReal) := by
  have ex := wx_toInt h0
  have := h0.hi
  unfold wx0
  rw [show Scalar.select (ok0 (wx v0)) _ _ = _ from if_pos (ok0_iff.2 (by omega)), h0.frac]
  show (one (F := Ideal) : EReal) - (f0 : EReal) = _
  rw [one_eq, ← EReal.coe_sub]

include h0 in
theorem wx1_of (h : n0 ≤ 190) : (wx1 (F := Ideal) (wx v0) (Spec.frac (F := Ideal) v0) : EReal) = (f0 : EReal) := by
  have ex := wx_toInt h0
  have := h0.lo
  unfold wx1
  rw [show Scalar.select (ok1 (wx v0)) _ _ = _ from if_pos ((ok1_iff (by omega) (by omega)).2 (by omega)), h0.frac]

/-- The four rows' updates at the accumulator row of cells `(x, y)`: which of them hit, and with what weight. -/
theorem four_rows {v0 v1 : EReal} {n0 n1 : ℤ} {f0 f1 : ℝ} (h0 : Ax v0 n0 f0) (h1 : Ax v1 n1 f1) (x y : Fin 192) {r : ℕ} (hr : r = x.val * 194 + y.val + 1) (a z : EReal) :
    (if r = (row1 (wx v0) (wy v1)).toNat + 1 then a + z * ((wx1 (F := Ideal) (wx v0) (Spec.frac (F := Ideal) v0) : EReal) * (Spec.frac (F := Ideal) v1 : EReal))
      else if r = (row1 (wx v0) (wy v1)).toNat then a + z * ((wx1 (F := Ideal) (wx v0) (Spec.frac (F := Ideal) v0) : EReal) * ((one (F := Ideal) : EReal) - (Spec.frac (F := Ideal) v1 : EReal)))
      else if r = (row0 (wx v0) (wy v1)).toNat + 1 then a + z * ((wx0 (F := Ideal) (wx v0) (Spec.frac (F := Ideal) v0) : EReal) * (Spec.frac (F := Ideal) v1 : EReal))
      else if r = (row0 (wx v0) (wy v1)).toNat then a + z * ((wx0 (F := Ideal) (wx v0) (Spec.frac (F := Ideal) v0) : EReal) * ((one (F := Ideal) : EReal) - (Spec.frac (F := Ideal) v1 : EReal)))
      else a)
    = a + ((wt n0 f0 x.val * wt n1 f1 y.val : ℝ) : EReal) * z := by
  have q00 := row0_hit h0 h1 (b := 0) (by omega) x y hr
  have q01 := row0_hit h0 h1 (b := 1) (by omega) x y hr
  have q10 := row1_hit h0 h1 (b := 0) (by omega) x y hr
  have q11 := row1_hit h0 h1 (b := 1) (by omega) x y hr
  simp only [Nat.add_zero, Nat.cast_zero, add_zero, Nat.cast_one] at q00 q01 q10 q11
  simp only [q00, q01, q10, q11]
  rw [h1.frac, one_eq, ← EReal.coe_sub]
  have hx := x.isLt
  by_cases a0 : (x.val : ℤ) = n0
  · rw [wx0_of h0 (by omega), wt_lo f0 a0]
    by_cases b0 : (y.val : ℤ) = n1
    · rw [if_neg (by omega), if_neg (by omega), if_neg (by omega), if_pos ⟨a0, b0⟩, wt_lo f1 b0, mul_comm z, EReal.coe_mul]
    · by_cases b1 : (y.val : ℤ) = n1 + 1
      · rw [if_neg (by omega), if_neg (by omega), if_pos ⟨a0, b1⟩, wt_hi f1 b1, mul_comm z, EReal.coe_mul]
      · rw [if_neg (by omega), if_neg (by omega), if_neg (by omega), if_neg (by omega), wt_no f1 b0 b1, mul_zero, EReal.coe_zero, zero_mul, add_zero]
  · by_cases a1 : (x.val : ℤ) = n0 + 1
    · rw [wx1_of h0 (by omega), wt_hi f0 a1]
      by_cases b0 : (y.val : ℤ) = n1
      · rw [if_neg (by omega), if_pos ⟨a1, b0⟩, wt_lo f1 b0, mul_comm z, EReal.coe_mul]
      · by_cases b1 : (y.val : ℤ) = n1 + 1
        · rw [if_pos ⟨a1, b1⟩, wt_hi f1 b1, mul_comm z, EReal.coe_mul]
        · rw [if_neg (by omega), if_neg (by omega), if_neg (by omega), if_neg (by omega), wt_no f1 b0 b1, mul_zero, EReal.coe_zero, zero_mul, add_zero]
    · rw [if_neg (by omega), if_neg (by omega), if_neg (by omega), if_neg (by omega), wt_no f0 a0 a1, zero_mul, EReal.coe_zero, zero_mul, add_zero]

/-- Blocks of fifty, in order, are all. -/
theorem sum_blocks (H : ℕ → EReal) (n : ℕ) : ∑ t ∈ Finset.range n, ∑ q ∈ Finset.range 50, H (t * 50 + q) = ∑ i ∈ Finset.range (n * 50), H i := by
  induction n with
  | zero => rw [Nat.zero_mul]; rfl
  | succ n ih => rw [Finset.sum_range_succ, ih, Nat.succ_mul, Finset.sum_range_add]

end Cert.Corner
end
-- ==== Proof.Bp.Ideal.Spread.lean ====
/-
  THE ACCUMULATOR, entry by entry, over the extended reals: a sample adds at the entry of cells `(x, y, z)` the product of
  the three axes' weights times its line's factor; a line its 96 samples; a point its fifty lines; a half its 500 points.
-/
module

public import proofs.«01_k».proof.Proof.Bp.Ideal.Blocks
public import proofs.«01_k».proof.Proof.Bp.Pure
public import Idealize.ShloMosaic.PureOps.Ideal.Laws

@[expose] public section

noncomputable section

namespace Cert.Kernel2Ideal.Hand

open Cert.Kernel2Ideal Cert.Kernel2Ideal.Gen Cert.Spec Cert.Corner
open Idealize.ShloMosaic Idealize.ShloMosaic.TcCoe
open Idealize.SL Idealize.SL.Sem

theorem lanes_at (l : Fin 256) : lanes (ix2 0 l) = BitVec.ofNat 32 l.val := by
  show BitVec.ofNat 32 (0 * 256 + l.val) = _
  rw [Nat.zero_mul, Nat.zero_add]

/-- A row with a contribution, at an entry. -/
theorem put_at (A B : S37250x1x256.Idx → EReal) (r : ℕ) (z : FVec Ideal S1x256 .f32) (w : EReal) (ρ : Fin 37250) (l : Fin 256) :
    (putRow (F := Ideal) A r (plus (rowAt (F := Ideal) B r) z w) (ix3 ρ 0 l) : EReal) = if ρ.val = r then B (ix3 ρ 0 l) + z (ix2 0 l) * w else A (ix3 ρ 0 l) := by
  show (if ρ.val = r then (plus (rowAt (F := Ideal) B r) z w : FVec Ideal S1x256 .f32) (ix2 0 l) else A (ix3 ρ 0 l)) = _
  by_cases h : ρ.val = r
  · rw [if_pos h, if_pos h]
    show (B (ix3 ⟨min r 37249, _⟩ 0 l) : EReal) + z (ix2 0 l) * w = _
    have e : (⟨min r 37249, by omega⟩ : Fin 37250) = ρ := Fin.ext (by have := ρ.isLt; show min r 37249 = ρ.val; omega)
    rw [e]
  · rw [if_neg h, if_neg h]

/-- The entry of the accumulator that cells `(x, y)` and lane `l` have. -/
abbrev rowOf (x y : Fin 192) : Fin 37250 := ⟨x.val * 194 + y.val + 1, by omega⟩

theorem lanesOf_at {v : EReal} {n : ℤ} {f : ℝ} (h : Ax v n f) (z : Fin 192) (cl : EReal) :
    (lanesOf (F := Ideal) lanes (clipW 192#32 (cell (F := Ideal) v)) (Spec.frac (F := Ideal) v) cl (ix2 0 ⟨z.val, by omega⟩) : EReal) = ((wt n f z.val : ℝ) : EReal) * cl := by
  rw [← lane_wt, ← lane_eq h (⟨z.val, by omega⟩ : Fin 256), ← lanes_at]
  rfl

theorem spread_at {v0 v1 v2 : EReal} {n0 n1 n2 : ℤ} {f0 f1 f2 : ℝ} (h0 : Ax v0 n0 f0) (h1 : Ax v1 n1 f1) (h2 : Ax v2 n2 f2)
    (I : S3x4800.Idx → BitVec 32) (Wt : S4x4800.Idx → EReal) (s : ℕ)
    (i0 : I (colIdx (0 : Fin 3) s) = row0 (wx v0) (wy v1)) (i1 : I (colIdx (1 : Fin 3) s) = row1 (wx v0) (wy v1)) (i2 : I (colIdx (2 : Fin 3) s) = clipW 192#32 (cell (F := Ideal) v2))
    (w0 : Wt (colIdx (0 : Fin 4) s) = Spec.frac (F := Ideal) v2) (w1 : Wt (colIdx (1 : Fin 4) s) = wx0 (F := Ideal) (wx v0) (Spec.frac (F := Ideal) v0))
    (w2 : Wt (colIdx (2 : Fin 4) s) = wx1 (F := Ideal) (wx v0) (Spec.frac (F := Ideal) v0)) (w3 : Wt (colIdx (3 : Fin 4) s) = Spec.frac (F := Ideal) v1)
    (cl : EReal) (A : S37250x1x256.Idx → EReal) (x y z : Fin 192) :
    (spread (F := Ideal) lanes I Wt cl s A (ix3 (rowOf x y) 0 ⟨z.val, by omega⟩) : EReal)
      = A (ix3 (rowOf x y) 0 ⟨z.val, by omega⟩) + ((wt n0 f0 x.val * wt n1 f1 y.val * wt n2 f2 z.val : ℝ) : EReal) * cl := by
  unfold spread spreadVal
  rw [i0, i1, i2, w0, w1, w2, w3]
  simp only [put_at]
  refine (four_rows h0 h1 x y rfl _ _).trans ?_
  rw [lanesOf_at h2, ← mul_assoc, ← EReal.coe_mul]

/-- Samples in turn add their terms. -/
theorem spreads_at (I : S3x4800.Idx → BitVec 32) (Wt : S4x4800.Idx → EReal) (g : ℕ → EReal) (e : S37250x1x256.Idx)
    (h : ∀ s, s < 4800 → ∀ (cl : EReal) (A : S37250x1x256.Idx → EReal), (spread (F := Ideal) lanes I Wt cl s A e : EReal) = A e + g s * cl)
    (cl : EReal) (s0 : ℕ) (A : S37250x1x256.Idx → EReal) : ∀ n, s0 + n ≤ 4800 →
    (spreads (F := Ideal) lanes I Wt cl s0 A n e : EReal) = A e + ∑ t ∈ Finset.range n, g (s0 + t) * cl := by
  intro n
  induction n with
  | zero => intro _; rw [Finset.range_zero, Finset.sum_empty, add_zero]; rfl
  | succ n ih =>
    intro hn
    rw [Finset.sum_range_succ, ← add_assoc, ← ih (by omega)]
    exact h (s0 + n) (by omega) cl _

/-- Lines in turn add their samples. -/
theorem linesAcc_at (I : S3x4800.Idx → BitVec 32) (Wt : S4x4800.Idx → EReal) (C : S50.Idx → EReal) (g : ℕ → EReal) (e : S37250x1x256.Idx)
    (h : ∀ s, s < 4800 → ∀ (cl : EReal) (A : S37250x1x256.Idx → EReal), (spread (F := Ideal) lanes I Wt cl s A e : EReal) = A e + g s * cl)
    (A : S37250x1x256.Idx → EReal) : ∀ n, n ≤ 50 →
    (linesAcc (F := Ideal) I Wt C A n e : EReal) = A e + ∑ q ∈ Finset.range n, ∑ t ∈ Finset.range 96, g (96 * q + t) * C (ix1 (⟨min q 49, by omega⟩ : Fin 50)) := by
  intro n
  induction n with
  | zero => intro _; rw [Finset.range_zero, Finset.sum_empty, add_zero]; rfl
  | succ n ih =>
    intro hn
    rw [Finset.sum_range_succ, ← add_assoc, ← ih (by omega)]
    exact spreads_at I Wt g e h _ (96 * n) _ 96 (by omega)

variable (m : (ℓ : Loc nD τ sig) → Buf (Elt Ideal) ℓ) (c : Dev nD)

/-- Every sample lies near the image. -/
def NearM : Prop := ∀ (d : Fin 3) (i : Fin 50000) (s : Fin 96),
  ((-1 : ℝ) : EReal) ≤ voxM m c d i s ∧ (voxM m c d i s : EReal) < ((192 : ℝ) : EReal)

/-- The samples' cells and fractions. -/
structure Cells where
  n : Fin 3 → Fin 50000 → Fin 96 → ℤ
  f : Fin 3 → Fin 50000 → Fin 96 → ℝ
  ax : ∀ (d : Fin 3) (i : Fin 50000) (s : Fin 96), Ax (voxM m c d i s) (n d i s) (f d i s)

variable {m c}

theorem cells_of (hn : NearM m c) : Nonempty (Cells m c) := by
  have key : ∀ (d : Fin 3) (i : Fin 50000) (s : Fin 96), ∃ (n : ℤ) (f : ℝ), Ax (voxM m c d i s) n f := fun d i s => ax_of (hn d i s).1 (hn d i s).2
  choose n f h using key
  exact ⟨⟨n, f, h⟩⟩

/-- What sample `s` of line `i` weighs at a cell. -/
def Cells.w (S : Cells m c) (x y z : Fin 192) (i : Fin 50000) (s : Fin 96) : EReal :=
  ((wt (S.n 0 i s) (S.f 0 i s) x.val * wt (S.n 1 i s) (S.f 1 i s) y.val * wt (S.n 2 i s) (S.f 2 i s) z.val : ℝ) : EReal)

/-- What line `i` adds at a cell (nothing beyond the last line). -/
def Cells.line (S : Cells m c) (cf : Fin 50000 → EReal) (x y z : Fin 192) (i : ℕ) : EReal :=
  if h : i < 50000 then ∑ s : Fin 96, S.w x y z ⟨i, h⟩ s * cf ⟨i, h⟩ else 0

/-- The weight of entry `s` of block `b`. -/
def Cells.ent (S : Cells m c) (x y z : Fin 192) (b : Fin 1000) (s : ℕ) : EReal :=
  if h : s < 4800 then S.w x y z (lineOf b ⟨s, h⟩) ⟨s % 96, Nat.mod_lt _ (by decide)⟩ else 0

theorem colIdx_of {n : ℕ} (a : Fin n) {s : ℕ} (h : s < 4800) : colIdx a s = ValueIdx.ix2 a (⟨s, h⟩ : Fin 4800) :=
  congrArg (ValueIdx.ix2 a) (Fin.ext (Nat.min_eq_left (by omega)))

theorem ent_at (S : Cells m c) (t : Fin cfg0.N) (x y z : Fin 192) : ∀ s, s < 4800 → ∀ (cl : EReal) (A : S37250x1x256.Idx → EReal),
    (spread (F := Ideal) lanes (sqz3 (iblk m c 0 t)) (sqz4 (iblk m c 1 t)) cl s A (ix3 (rowOf x y) 0 ⟨z.val, by omega⟩) : EReal)
      = A (ix3 (rowOf x y) 0 ⟨z.val, by omega⟩) + S.ent x y z (blkNo t) s * cl := by
  intro s h cl A
  unfold Cells.ent Cells.w
  rw [dif_pos h]
  have ax := fun d => S.ax d (lineOf (blkNo t) ⟨s, h⟩) ⟨s % 96, Nat.mod_lt _ (by decide)⟩
  refine spread_at (ax 0) (ax 1) (ax 2) _ _ s ?_ ?_ ?_ ?_ ?_ ?_ ?_ cl A x y z
  · rw [colIdx_of _ h, sqz0_at]; exact idx_0 m c (blkNo t) ⟨s, h⟩
  · rw [colIdx_of _ h, sqz0_at]; exact idx_1 m c (blkNo t) ⟨s, h⟩
  · rw [colIdx_of _ h, sqz0_at]; exact idx_2 m c (blkNo t) ⟨s, h⟩
  · rw [colIdx_of _ h, sqz1_at]; exact wts_0 m c (blkNo t) ⟨s, h⟩
  · rw [colIdx_of _ h, sqz1_at]; exact wts_1 m c (blkNo t) ⟨s, h⟩
  · rw [colIdx_of _ h, sqz1_at]; exact wts_2 m c (blkNo t) ⟨s, h⟩
  · rw [colIdx_of _ h, sqz1_at]; exact wts_3 m c (blkNo t) ⟨s, h⟩

/-- The factor of a line, as the kernel's table holds it. -/
def cfM (m : (ℓ : Loc nD τ sig) → Buf (Elt Ideal) ℓ) (c : Dev nD) (i : Fin 50000) : EReal :=
  (V m c main_v37 : S1000x1x50.Idx → EReal) (ix3 ⟨i.val / 50, by omega⟩ 0 ⟨i.val % 50, by omega⟩)

theorem zeros_at (e : S37250x1x256.Idx) : (zeros (F := Ideal) e : EReal) = 0 := Ideal.ofBits_zero_f32

theorem cond1_iff : ∀ t : Fin grid0.N, k0_cond1 (grid0.coords t) = 1#1 ↔ t.val % 500 = 0 := by decide +kernel
theorem cond2_iff : ∀ t : Fin grid0.N, k0_cond2 (grid0.coords t) = 1#1 ↔ t.val % 500 = 499 := by decide +kernel
theorem off107_eq : ∀ t : Fin grid0.N, k0_off107 (grid0.coords t) 0 = t.val / 500 * 37250 ∧ k0_off107 (grid0.coords t) 1 = 0 ∧ k0_off107 (grid0.coords t) 2 = 0 := by decide +kernel

/-- One point: its fifty lines, on a cleared accumulator at the first point of a half. -/
theorem point_at (S : Cells m c) (t : Fin cfg0.N) (x y z : Fin 192) :
    (accAt m c (t.val + 1) (ix3 (rowOf x y) 0 ⟨z.val, by omega⟩) : EReal)
      = (if t.val % 500 = 0 then 0 else (accAt m c t.val (ix3 (rowOf x y) 0 ⟨z.val, by omega⟩) : EReal))
        + ∑ q ∈ Finset.range 50, S.line (cfM m c) x y z (t.val * 50 + q) := by
  have hN : t.val < 1000 := lt_of_lt_of_eq t.isLt N_eq
  rw [accAt_succ]
  unfold accAfter
  refine (linesAcc_at _ _ _ (S.ent x y z (blkNo t)) _ (ent_at S t x y z) _ 50 le_rfl).trans ?_
  refine congrArg₂ (fun a b : EReal => a + b) ?_ (Finset.sum_congr rfl fun q hq => ?_)
  · by_cases h : t.val % 500 = 0
    · rw [if_pos h, if_pos ((cond1_iff t).2 h), zeros_at]
    · rw [if_neg h, if_neg (fun e => h ((cond1_iff t).1 e))]
  · have hq' : q < 50 := Finset.mem_range.1 hq
    have hi : t.val * 50 + q < 50000 := by omega
    unfold Cells.line
    rw [dif_pos hi, Finset.sum_range]
    refine Finset.sum_congr rfl fun s _ => ?_
    have hs : 96 * q + s.val < 4800 := by omega
    unfold Cells.ent
    rw [dif_pos hs]
    have e1 : lineOf (blkNo t) ⟨96 * q + s.val, hs⟩ = ⟨t.val * 50 + q, hi⟩ := Fin.ext (by show t.val * 50 + (96 * q + s.val) / 96 = t.val * 50 + q; omega)
    have e2 : (⟨(96 * q + s.val) % 96, Nat.mod_lt _ (by decide)⟩ : Fin 96) = s := Fin.ext (by show (96 * q + s.val) % 96 = s.val; omega)
    rw [e1, e2]
    refine congrArg (fun a : EReal => S.w x y z ⟨t.val * 50 + q, hi⟩ s * a) ?_
    unfold cfM
    show (iblk m c 2 t : S1x1x50.Idx → EReal) (ix3 0 0 ⟨min q 49, _⟩) = _
    rw [iblk2_at]
    congr 1
    refine congrArg₂ (fun a b => (ix3 a (0 : Fin 1) b : S1000x1x50.Idx)) (Fin.ext ?_) (Fin.ext ?_)
    · show t.val = (t.val * 50 + q) / 50; omega
    · show min q 49 = (t.val * 50 + q) % 50; omega

/-- The points of a half so far. -/
theorem half_at (S : Cells m c) (h : Fin 2) (x y z : Fin 192) : ∀ k, k < 500 →
    (accAt m c (500 * h.val + k + 1) (ix3 (rowOf x y) 0 ⟨z.val, by omega⟩) : EReal)
      = ∑ t ∈ Finset.range (k + 1), ∑ q ∈ Finset.range 50, S.line (cfM m c) x y z ((500 * h.val + t) * 50 + q) := by
  intro k
  induction k with
  | zero =>
    intro _
    have e := point_at S ⟨500 * h.val, by rw [N_eq]; omega⟩ x y z
    rw [if_pos (by show 500 * h.val % 500 = 0; omega), zero_add] at e
    rw [Finset.sum_range_one]
    exact e
  | succ k ih =>
    intro hk
    have e := point_at S ⟨500 * h.val + (k + 1), by rw [N_eq]; omega⟩ x y z
    rw [if_neg (by show ¬ ((500 * h.val + (k + 1)) % 500 = 0); omega)] at e
    rw [Finset.sum_range_succ, ← ih (by omega)]
    exact e

/-- What a half's accumulator ends with: its 25000 lines. -/
theorem half_all (S : Cells m c) (h : Fin 2) (x y z : Fin 192) :
    (accAt m c (500 * h.val + 500) (ix3 (rowOf x y) 0 ⟨z.val, by omega⟩) : EReal) = ∑ i ∈ Finset.range 25000, S.line (cfM m c) x y z (25000 * h.val + i) := by
  refine (half_at S h x y z 499 (by omega)).trans ?_
  refine Eq.trans ?_ (sum_blocks (fun i => S.line (cfM m c) x y z (25000 * h.val + i)) 500)
  refine Finset.sum_congr rfl fun t _ => Finset.sum_congr rfl fun q _ => congrArg _ ?_
  omega

end Cert.Kernel2Ideal.Hand
end
-- ==== Proof.Bp.Ideal.Tail.lean ====
/-
  AROUND THE CALL: the factor of a line as the host lines before the call lay it out; the result array as the points leave
  it and as the host lines after the call cut it.
-/
module

public import proofs.«01_k».proof.Proof.Bp.Ideal.Spread
public import Idealize.ShloMosaic.Lib.StableHlo.ReadAt
public import Idealize.ShloMosaic.Lib.Pointwise.Tactic

@[expose] public section

noncomputable section

namespace Cert.Kernel2Ideal.Hand

open Cert.Kernel2Ideal Cert.Kernel2Ideal.Gen Cert.Spec Cert.Corner
open Idealize.ShloMosaic Idealize.ShloMosaic.TcCoe
open Idealize.SL Idealize.SL.Sem

variable {F : FTy → Type} [FloatOps F]
variable (m : (ℓ : Loc nD τ sig) → Buf (Elt F) ℓ) (c : Dev nD)

theorem gap_eq (l : Lors F) : subf (extractStridedSlice S50000x3 ![0, 3] l slices_S50000x6_S50000x3_0_3)
    (extractStridedSlice S50000x3 ![0, 0] l slices_S50000x6_S50000x3_0_0) = gap l := by
  funext x
  rw [ValueIdx.eq_ix2 x]
  pointwise
  rfl

/-- The kernel's factor of line `50 b + q`. -/
theorem fac_at (b : Fin 1000) (q : Fin 50) : (V m c main_v37 : S1000x1x50.Idx → F .f32) (ix3 b 0 q)
    = FloatOps.mulf (FloatOps.mulf ((m (c, Proc.tc.devRef main_arg3) : S1000x1x50.Idx → F .f32) (ix3 b 0 q)) (FloatOps.mulf (seg (m (c, Proc.tc.devRef main_arg2)) ⟨b.val * 50 + q.val, by omega⟩) kw))
      (FloatOps.mulf (seg (m (c, Proc.tc.devRef main_arg2)) ⟨b.val * 50 + q.val, by omega⟩) kw) := by
  unfold V V0
  simp only [List.flatten_cons, List.flatten_nil, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.cons_append, List.nil_append]
  after_reads_at
  unfold seg
  rw [← gap_eq]
  rfl

theorem cast_split (X : S74500x1x256.Idx → F .f32) (hc : S74500x1x256.ShapeCasts S2x37250x256) (h : Fin 2) (r : Fin 37250) (l : Fin 256) :
    shapeCast S2x37250x256 X hc (ix3 h r l) = X (ix3 ⟨h.val * 37250 + r.val, by omega⟩ 0 l) := by
  refine shapeCast_apply X hc _ _ ?_
  rw [Shape.rowMajor_val_three, Shape.rowMajor_val_three]
  show ((h.val * 37250 + r.val) * 1 + 0) * 256 + l.val = (h.val * 37250 + r.val) * 256 + l.val
  omega

theorem cast_planes (X : S2x37248x192.Idx → F .f32) (hc : S2x37248x192.ShapeCasts S2x192x194x192) (h : Fin 2) (x : Fin 192) (y : Fin 194) (z : Fin 192) :
    shapeCast S2x192x194x192 X hc (ix4 h x y z) = X (ix3 h ⟨x.val * 194 + y.val, by omega⟩ z) := by
  refine shapeCast_apply X hc _ _ ?_
  rw [Shape.rowMajor_val_three, Shape.rowMajor_val_four]
  show (h.val * 37248 + (x.val * 194 + y.val)) * 192 + z.val = ((h.val * 192 + x.val) * 194 + y.val) * 192 + z.val
  omega

theorem cast_join (X : S2x192x192x192.Idx → F .f32) (hc : S2x192x192x192.ShapeCasts S384x192x192) (h : Fin 2) (x y z : Fin 192) :
    shapeCast S384x192x192 X hc (ix3 ⟨h.val * 192 + x.val, by omega⟩ y z) = X (ix4 h x y z) := by
  refine shapeCast_apply X hc _ _ ?_
  rw [Shape.rowMajor_val_three, Shape.rowMajor_val_four]
  rfl

theorem slice_planes (X : S2x192x194x192.Idx → F .f32) (hs : S2x192x194x192.Slices ![0, 0, 1, 0] S2x192x192x192) (h : Fin 2) (x y z : Fin 192) :
    extractStridedSlice S2x192x192x192 ![0, 0, 1, 0] X hs (ix4 h x y z) = X (ix4 h x ⟨1 + y.val, by omega⟩ z) := by
  pointwise

theorem slice_rows (X : S2x37250x256.Idx → F .f32) (hs : S2x37250x256.Slices ![0, 0, 0] S2x37248x192) (h : Fin 2) (r : Fin 37248) (z : Fin 192) :
    extractStridedSlice S2x37248x192 ![0, 0, 0] X hs (ix3 h r z) = X (ix3 h ⟨r.val, by omega⟩ ⟨z.val, by omega⟩) := by
  pointwise

theorem tail_at (W : Valuation τ sig (Elt F)) (h : Fin 2) (x y z : Fin 192) :
    (StableHlo.after (List.flatten [hostOps1]) W (Proc.devRef .tc main_v102) : S384x192x192.Idx → F .f32) (ix3 ⟨h.val * 192 + x.val, by omega⟩ y z)
      = (W (Proc.devRef .tc main_v97) : S74500x1x256.Idx → F .f32) (ix3 ⟨h.val * 37250 + (rowOf x y).val, by omega⟩ 0 ⟨z.val, by omega⟩) := by
  simp only [List.flatten_cons, List.flatten_nil, hostOps1, List.cons_append, List.nil_append]
  after_results_simp
  refine (cast_join _ _ h x y z).trans ((slice_planes _ _ h x y z).trans ((cast_planes _ _ h x _ z).trans ((slice_rows _ _ h _ z).trans ((cast_split _ _ h _ _).trans ?_))))
  congr 1
  refine congrArg (fun a => (ix3 a (0 : Fin 1) (⟨z.val, by omega⟩ : Fin 256) : S74500x1x256.Idx)) (Fin.ext ?_)
  show h.val * 37250 + (x.val * 194 + (1 + y.val)) = h.val * 37250 + (x.val * 194 + y.val + 1)
  omega

/-- A point that ends a half writes the half's slab. -/
theorem out_hit (t : Fin grid0.N) (h : k0_cond2 (grid0.coords t) = 1#1) (acc : S37250x1x256.Idx → Elt F .f32) (fo : HbBuf (F := F) c outM) (r : Fin 37250) (l : Fin 256)
    (R : Fin 74500) (hR : R.val = t.val / 500 * 37250 + r.val) :
    (outAfter (grid0.coords t) acc fo : S74500x1x256.Idx → F .f32) (ix3 R 0 l) = acc (ix3 r 0 l) := by
  unfold outAfter
  rw [dif_pos h]
  have e : (ix3 R 0 l : S74500x1x256.Idx) = (outM.slice (Rect.unit (s := S74500x1x256) (k0_off107 (grid0.coords t)) S37250x1x256.size (k0_off107_inb (grid0.coords t) h)) (fun _ => rfl)).view.emb (ix3 r 0 l : S37250x1x256.Idx) := by
    funext a
    refine Fin.ext ?_
    have o := off107_eq t
    match a with
    | ⟨0, _⟩ => show R.val = k0_off107 (grid0.coords t) 0 + 1 * r.val; rw [o.1]; omega
    | ⟨1, _⟩ => show 0 = k0_off107 (grid0.coords t) 1 + 1 * 0; rw [o.2.1]
    | ⟨2, _⟩ => show l.val = k0_off107 (grid0.coords t) 2 + 1 * l.val; rw [o.2.2]; omega
  rw [e]
  exact View.write_emb_of_mem _ _ (Finset.mem_univ _)

/-- Another half's slab is kept. -/
theorem out_keep (t : Fin grid0.N) (acc : S37250x1x256.Idx → Elt F .f32) (fo : HbBuf (F := F) c outM) (l : Fin 256)
    (R : Fin 74500) (hR : ¬ (t.val / 500 * 37250 ≤ R.val ∧ R.val < t.val / 500 * 37250 + 37250)) :
    (outAfter (grid0.coords t) acc fo : S74500x1x256.Idx → F .f32) (ix3 R 0 l) = (fo : S74500x1x256.Idx → F .f32) (ix3 R 0 l) := by
  unfold outAfter
  by_cases h : k0_cond2 (grid0.coords t) = 1#1
  · rw [dif_pos h]
    refine View.write_of_not_mem _ _ _ fun hm => hR ?_
    obtain ⟨y, -, e⟩ := Finset.mem_map.1 hm
    have e0 := congrArg (fun i : S74500x1x256.Idx => (i 0).val) e
    have o := (off107_eq t).1
    have e1 : k0_off107 (grid0.coords t) 0 + 1 * (y 0).val = R.val := e0
    have : (y 0).val < 37250 := (y 0).isLt
    omega
  · rw [dif_neg h]

theorem out_none (t : Fin grid0.N) (h : ¬ k0_cond2 (grid0.coords t) = 1#1) (acc : S37250x1x256.Idx → Elt F .f32) (fo : HbBuf (F := F) c outM) :
    outAfter (grid0.coords t) acc fo = fo := by
  unfold outAfter
  rw [dif_neg h]

/-- Once a half's last point has run, its slab is the half's accumulator. -/
theorem res_half (h : Fin 2) (r : Fin 37250) (l : Fin 256) : ∀ k, 500 * h.val + 500 + k ≤ 1000 →
    (resAt m c (500 * h.val + 500 + k) : S74500x1x256.Idx → F .f32) (ix3 ⟨h.val * 37250 + r.val, by omega⟩ 0 l) = accAt m c (500 * h.val + 500) (ix3 r 0 l) := by
  intro k
  induction k with
  | zero =>
    intro _
    have hN : 500 * h.val + 499 < cfg0.N := by rw [N_eq]; omega
    refine (congrFun (resAt_succ m c ⟨500 * h.val + 499, hN⟩) _).trans ?_
    refine out_hit c ⟨500 * h.val + 499, hN⟩ ((cond2_iff _).2 ?_) _ _ r l _ ?_
    · show (500 * h.val + 499) % 500 = 499; omega
    · show h.val * 37250 + r.val = (500 * h.val + 499) / 500 * 37250 + r.val; omega
  | succ k ih =>
    intro hk
    have hN : 500 * h.val + 500 + k < cfg0.N := by rw [N_eq]; omega
    refine (congrFun (resAt_succ m c ⟨500 * h.val + 500 + k, hN⟩) _).trans (Eq.trans ?_ (ih (by omega)))
    refine out_keep c ⟨500 * h.val + 500 + k, hN⟩ _ _ l _ ?_
    show ¬ ((500 * h.val + 500 + k) / 500 * 37250 ≤ h.val * 37250 + r.val ∧ h.val * 37250 + r.val < (500 * h.val + 500 + k) / 500 * 37250 + 37250)
    omega

/-- The result at a cell of a half: the half's accumulator after its last point. -/
theorem final_at (h : Fin 2) (x y z : Fin 192) :
    (finalAt m c main_v102 : S384x192x192.Idx → F .f32) (ix3 ⟨h.val * 192 + x.val, by omega⟩ y z)
      = accAt m c (500 * h.val + 500) (ix3 (rowOf x y) 0 ⟨z.val, by omega⟩) := by
  refine (tail_at _ h x y z).trans ?_
  rw [Pipeline.withArrays_of_ne _ _ _ _ main_v97 (by exact (by decide : ∀ w, Pipeline.arrRef spec0 w ≠ main_v97)),
    Pipeline.withR_of_mem _ _ _ _ main_v97 (by exact (by decide : main_v97 ∈ R0)), G_out]
  have e : cfg0.N = 500 * h.val + 500 + (500 - 500 * h.val) := by rw [N_eq]; omega
  rw [e]
  exact res_half m c h (rowOf x y) ⟨z.val, by omega⟩ _ (by omega)

end Cert.Kernel2Ideal.Hand
end
-- ==== Proof.Bp.Ref.lean ====
/-
  THE BACK-PROJECTION'S REFERENCE, index by index: each sample's eight corners add the corner's weight times the line's
  factor at the held corner, in the half of the result that the line belongs to.
-/
module

public import proofs.«01_k».proof.Proof.Gen.Reference2Ideal.Run
public import proofs.«01_k».proof.Proof.Bp.Pure
public import Idealize.ShloMosaic.Lib.StableHlo.ReadAt
public import Idealize.ShloMosaic.PureOps.Ideal
public import Idealize.ShloMosaic.PureOps.Ideal.Laws
public import Idealize.ShloMosaic.Lib.Pointwise.Reduce
public import Idealize.ShloMosaic.Lib.Pointwise.Tactic
public import Idealize.ShloMosaic.Lib.Pipeline.Value

@[expose] public section

noncomputable section

namespace Cert.Reference2Ideal.Hand

open Cert.Reference2Ideal Cert.Reference2Ideal.Gen Cert.Reference2Ideal.Value Cert.Spec
open Idealize.ShloMosaic Idealize.ShloMosaic.TcCoe
open Idealize.SL.Sem

/-- An update lands at a cell exactly when its four words, read signed, are the cell's coordinates. -/
theorem lands_at (idx : IVec S50000x96x8x4 32) (i : Fin 50000) (s : Fin 96) (k : Fin 8) (h : Fin 2) (x y z : Fin 192) :
    scatter_S2x192x192x192_S50000x96x8x4_S50000x96x8_n_0123_0123_3.resultIdx? (ix3 i s k) idx = some (ix4 h x y z)
      ↔ (idx (ix4 i s k 0)).toInt = h.val ∧ (idx (ix4 i s k 1)).toInt = x.val ∧ (idx (ix4 i s k 2)).toInt = y.val ∧ (idx (ix4 i s k 3)).toInt = z.val := by
  set d := scatter_S2x192x192x192_S50000x96x8x4_S50000x96x8_n_0123_0123_3
  have hm : ∀ a : Fin 4, a ∈ d.scatterDimsToOperandDims := by intro a; fin_cases a <;> simp [d, scatter_S2x192x192x192_S50000x96x8x4_S50000x96x8_n_0123_0123_3]
  have hs : ∀ a : Fin 4, d.siIdx (ix3 i s k) ⟨List.idxOf a d.scatterDimsToOperandDims, List.idxOf_lt_length_iff.2 (hm a)⟩ = ix4 i s k a := by
    intro a
    funext b
    refine Fin.ext ?_
    fin_cases a <;> fin_cases b <;> rfl
  have hw : ∀ a : Fin 4, d.window (ix3 i s k) a = 0 := by
    intro a
    unfold ScatterDims.window
    exact dif_neg fun e => (of_decide_eq_true (List.mem_filter.1 e).2) (by fin_cases a <;> simp [d, scatter_S2x192x192x192_S50000x96x8x4_S50000x96x8_n_0123_0123_3])
  have hst : ∀ a : Fin 4, d.start (ix3 i s k) idx a = (idx (ix4 i s k a)).toInt := by
    intro a
    unfold ScatterDims.start
    rw [dif_pos (hm a), hs a]
  unfold ScatterDims.resultIdx?
  have hh := h.isLt; have hx := x.isLt; have hy := y.isLt; have hz := z.isLt
  constructor
  · intro e
    split at e
    · rename_i hb
      have e' := Option.some.inj e
      have g : ∀ a : Fin 4, ((d.start (ix3 i s k) idx a + d.window (ix3 i s k) a).toNat : ℕ) = ((ix4 h x y z : S2x192x192x192.Idx) a).val := fun a => congrArg (fun f => (f a).val) e'
      have l := fun a => (hb a).1
      refine ⟨?_, ?_, ?_, ?_⟩
      · have g0 := g 0; have l0 := l 0; rw [hst, hw] at g0 l0; have : ((ix4 h x y z : S2x192x192x192.Idx) 0).val = h.val := rfl; omega
      · have g0 := g 1; have l0 := l 1; rw [hst, hw] at g0 l0; have : ((ix4 h x y z : S2x192x192x192.Idx) 1).val = x.val := rfl; omega
      · have g0 := g 2; have l0 := l 2; rw [hst, hw] at g0 l0; have : ((ix4 h x y z : S2x192x192x192.Idx) 2).val = y.val := rfl; omega
      · have g0 := g 3; have l0 := l 3; rw [hst, hw] at g0 l0; have : ((ix4 h x y z : S2x192x192x192.Idx) 3).val = z.val := rfl; omega
    · exact absurd e (by simp)
  · rintro ⟨e0, e1, e2, e3⟩
    have hv : ∀ a : Fin 4, d.start (ix3 i s k) idx a + d.window (ix3 i s k) a = (((ix4 h x y z : S2x192x192x192.Idx) a).val : ℤ) := by
      intro a
      rw [hst, hw]
      fin_cases a
      · exact (add_zero _).trans e0
      · exact (add_zero _).trans e1
      · exact (add_zero _).trans e2
      · exact (add_zero _).trans e3
    rw [dif_pos (fun a => ⟨by rw [hv]; omega, by rw [hv]; exact_mod_cast ((ix4 h x y z : S2x192x192x192.Idx) a).isLt⟩)]
    refine congrArg some (funext fun a => Fin.ext ?_)
    show (d.start (ix3 i s k) idx a + d.window (ix3 i s k) a).toNat = _
    rw [hv, Int.toNat_natCast]

variable {F : FTy → Type} [FloatOps F]
variable (m : (ℓ : Loc nD τ sig) → Buf (Elt F) ℓ) (c : Dev nD) (i : Fin 50000) (s : Fin 96) (k : Fin 8)

/-- What the reference's buffers hold at its end. -/
def RV {F : FTy → Type} [FloatOps F] (m : (ℓ : Loc nD τ sig) → Buf (Elt F) ℓ) (c : Dev nD)  (b : Ref sig .tc) : b.ty.Contents (Elt F) := StableHlo.after ops (StableHlo.launchContents m c) (Proc.devRef .tc b)
/-- The voxel coordinate, of the arguments in memory. -/
def voxR (d : Fin 3) (i : Fin 50000) (s : ℕ) : F .f32 := vox (m (c, Proc.tc.devRef main_arg0)) (m (c, Proc.tc.devRef main_arg1)) (m (c, Proc.tc.devRef main_arg2)) d i s

/-- The half of a line, as the reference computes it. -/
def halfW (i : Fin 50000) : BitVec 32 := (IntOp.cmpi .sge (BitVec.ofNat 32 i.val) 25000#32).setWidth 32
/-- The reference's factor of a line. -/
def conR (i : Fin 50000) : F .f32 :=
  FloatOps.mulf (FloatOps.mulf (FloatOps.mulf (FloatOps.mulf ((m (c, Proc.tc.devRef main_arg3) : S1000x1x50.Idx → F .f32) (ix3 ⟨i.val / 50, by omega⟩ 0 ⟨i.val % 50, by omega⟩))
    (seg (m (c, Proc.tc.devRef main_arg2)) i)) kw) (seg (m (c, Proc.tc.devRef main_arg2)) i)) kw

set_option maxHeartbeats 1000000 in
theorem w_at : (RV m c main_v83 : S50000x96x8.Idx → F .f32) (ix3 i s k) = weight k (voxR m c 0 i s) (voxR m c 1 i s) (voxR m c 2 i s) := by
  unfold RV
  simp only [ops, fn_main_v48, fn_main_v123]
  after_reads_at
  after_reads_at
  try after_reads_at
  rfl

set_option maxHeartbeats 1000000 in
theorem i_at1 : (RV m c main_v123 : S50000x96x8x4.Idx → BitVec 32) (ix4 i s k 1) = held (corner k 0 (voxR m c 0 i s)) := by
  unfold RV
  simp only [ops, fn_main_v48, fn_main_v123]
  after_reads_at
  after_reads_at
  try after_reads_at
  rfl

set_option maxHeartbeats 1000000 in
theorem i_at2 : (RV m c main_v123 : S50000x96x8x4.Idx → BitVec 32) (ix4 i s k 2) = held (corner k 1 (voxR m c 1 i s)) := by
  unfold RV
  simp only [ops, fn_main_v48, fn_main_v123]
  after_reads_at
  after_reads_at
  try after_reads_at
  rfl

set_option maxHeartbeats 1000000 in
theorem i_at3 : (RV m c main_v123 : S50000x96x8x4.Idx → BitVec 32) (ix4 i s k 3) = held (corner k 2 (voxR m c 2 i s)) := by
  unfold RV
  simp only [ops, fn_main_v48, fn_main_v123]
  after_reads_at
  after_reads_at
  try after_reads_at
  rfl

set_option maxHeartbeats 1000000 in
theorem i_at0 : (RV m c main_v123 : S50000x96x8x4.Idx → BitVec 32) (ix4 i s k 0) = halfW i := by
  unfold RV
  simp only [ops, fn_main_v48, fn_main_v123]
  after_reads_at
  try after_reads_at
  rfl

theorem gap_eqR (l : Lors F) : subf (transpose S50000x3 [1, 0] (extractStridedSlice S3x50000 ![3, 0] (transpose S6x50000 [1, 0] l transposes_S50000x6_S6x50000_1_0) slices_S6x50000_S3x50000_3_0) transposes_S3x50000_S50000x3_1_0)
    (transpose S50000x3 [1, 0] (extractStridedSlice S3x50000 ![0, 0] (transpose S6x50000 [1, 0] l transposes_S50000x6_S6x50000_1_0) slices_S6x50000_S3x50000_0_0) transposes_S3x50000_S50000x3_1_0) = gap l := by
  funext x
  rw [ValueIdx.eq_ix2 x]
  pointwise
  rfl

/-- What the buffers hold after the first `n` operations. -/
def W {F : FTy → Type} [FloatOps F] (n : ℕ) (m : (ℓ : Loc nD τ sig) → Buf (Elt F) ℓ) (c : Dev nD) : Valuation τ sig (Elt F) := StableHlo.after (ops.take n) (StableHlo.launchContents m c)

theorem RV_eq (n : ℕ) (b : Ref sig .tc) : RV m c b = StableHlo.after (ops.drop n) (W n m c) (Proc.devRef .tc b) := by
  unfold RV W
  rw [← StableHlo.after_append, List.take_append_drop]

set_option maxHeartbeats 1000000 in
theorem u_split : (RV m c main_v117 : S50000x96x8.Idx → F .f32) (ix3 i s k) = FloatOps.mulf ((RV m c main_v83 : S50000x96x8.Idx → F .f32) (ix3 i s k)) ((RV m c main_v114 : S50000x1x1.Idx → F .f32) (ix3 i 0 0)) := by
  rw [RV_eq m c 149 main_v117, RV_eq m c 149 main_v83, RV_eq m c 149 main_v114]
  generalize W 149 m c = V
  simp only [ops, List.drop_succ_cons, List.drop_zero]
  after_reads_at

set_option maxHeartbeats 1000000 in
theorem con_at : (RV m c main_v114 : S50000x1x1.Idx → F .f32) (ix3 i 0 0) = conR m c i := by
  unfold RV
  simp only [ops, fn_main_v48, fn_main_v123]
  after_reads_at
  unfold conR seg
  rw [← gap_eqR]
  rfl

theorem u_at : (RV m c main_v117 : S50000x96x8.Idx → F .f32) (ix3 i s k) = FloatOps.mulf (weight k (voxR m c 0 i s) (voxR m c 1 i s) (voxR m c 2 i s)) (conR m c i) := by
  rw [u_split, w_at, con_at]

set_option maxHeartbeats 1000000 in
theorem z_at (x : S2x192x192x192.Idx) : (RV m c main_v115 : S2x192x192x192.Idx → F .f32) x = FloatOps.ofBits .f32 0#32 := by
  unfold RV
  simp only [ops]
  after_results_simp
  rfl

set_option maxHeartbeats 1000000 in
theorem r_eq : RV m c main_v125 = shapeCast _ (Host.scatterAdd scatter_S2x192x192x192_S50000x96x8x4_S50000x96x8_n_0123_0123_3 (RV m c main_v115 : FVec F S2x192x192x192 .f32) (RV m c main_v123) (RV m c main_v117)) shapeCasts_S2x192x192x192_S384x192x192 := by
  rw [RV_eq m c 157 main_v125, RV_eq m c 157 main_v115, RV_eq m c 157 main_v123, RV_eq m c 157 main_v117]
  generalize W 157 m c = V
  simp only [ops, List.drop_succ_cons, List.drop_zero]
  after_results_simp
  rfl

theorem arg_eq (b : Ref sig .tc) (h : b = main_arg0 ∨ b = main_arg1 ∨ b = main_arg2 ∨ b = main_arg3) : RV m c b = m (c, Proc.tc.devRef b) := by
  unfold RV
  simp only [ops]
  rcases h with rfl | rfl | rfl | rfl <;> after_results_simp

end Cert.Reference2Ideal.Hand
end
-- ==== Proof.Bp.RefVal.lean ====
/-
  THE BACK-PROJECTION'S REFERENCE, entry by entry, over the extended reals: at cells `(x, y, z)` of a half the sum, over the
  half's lines, their samples and the samples' corners, of what lands there.
-/
module

public import proofs.«01_k».proof.Proof.Bp.Ref

@[expose] public section

noncomputable section

namespace Cert.Reference2Ideal.Hand

open Cert.Reference2Ideal Cert.Reference2Ideal.Gen Cert.Reference2Ideal.Value Cert.Spec Cert.Corner
open Idealize.ShloMosaic Idealize.ShloMosaic.TcCoe
open Idealize.SL.Sem

theorem ofNat_toInt {n : ℕ} (h : n < 2 ^ 31) : (BitVec.ofNat 32 n).toInt = n := by
  have e : (BitVec.ofNat 32 n).toNat = n := by rw [BitVec.toNat_ofNat]; exact Nat.mod_eq_of_lt (by omega)
  rw [BitVec.toInt_eq_toNat_of_lt (by rw [e]; omega), e]

/-- The half's word of a line is the half's number. -/
theorem half_word (i : Fin 50000) :
    (halfW i).toInt = ((i.val / 25000 : ℕ) : ℤ) := by
  have hi := i.isLt
  have e : IntOp.cmpi .sge (BitVec.ofNat 32 i.val) 25000#32 = BitVec.ofBool (decide (25000 ≤ i.val)) := by
    show BitVec.ofBool (decide ((25000#32 : BitVec 32).toInt ≤ (BitVec.ofNat 32 i.val).toInt)) = _
    rw [ofNat_toInt (by omega), ofNat_toInt (by omega)]
    exact congrArg BitVec.ofBool (decide_eq_decide.2 (by omega))
  unfold halfW
  rw [e]
  by_cases h : 25000 ≤ i.val
  · rw [decide_eq_true h, show i.val / 25000 = 1 by omega]; rfl
  · rw [decide_eq_false h, show i.val / 25000 = 0 by omega]; rfl

theorem cast_join (X : S2x192x192x192.Idx → EReal) (hc : S2x192x192x192.ShapeCasts S384x192x192) (h : Fin 2) (x y z : Fin 192) :
    shapeCast S384x192x192 X hc (ix3 ⟨h.val * 192 + x.val, by omega⟩ y z) = X (ix4 h x y z) := by
  refine shapeCast_apply X hc _ _ ?_
  rw [Shape.rowMajor_val_three, Shape.rowMajor_val_four]
  rfl

theorem scatter_at (X : FVec Ideal S2x192x192x192 .f32) (I : IVec S50000x96x8x4 32) (U : FVec Ideal S50000x96x8 .f32) (h : Fin 2) (x y z : Fin 192) :
    (Host.scatterAdd scatter_S2x192x192x192_S50000x96x8x4_S50000x96x8_n_0123_0123_3 X I U (ix4 h x y z) : EReal)
      = X (ix4 h x y z) + ∑ i : Fin 50000, ∑ s : Fin 96, ∑ k : Fin 8, if (I (ix4 i s k 0)).toInt = h.val ∧ (I (ix4 i s k 1)).toInt = x.val ∧ (I (ix4 i s k 2)).toInt = y.val ∧ (I (ix4 i s k 3)).toInt = z.val then (U (ix3 i s k) : EReal) else 0 := by
  show (Ideal.hostScatterAdd scatter_S2x192x192x192_S50000x96x8x4_S50000x96x8_n_0123_0123_3 X I U (ix4 h x y z) : EReal) = _
  unfold Ideal.hostScatterAdd
  rw [Finset.sum_filter, sum_idx3]
  refine congrArg (fun a : EReal => X (ix4 h x y z) + a) (Finset.sum_congr rfl fun i _ => Finset.sum_congr rfl fun s _ => Finset.sum_congr rfl fun k _ => ?_)
  exact if_congr (lands_at I i s k h x y z) rfl rfl

variable (m : (ℓ : Loc nD τ sig) → Buf (Elt Ideal) ℓ) (c : Dev nD)

/-- What a sample's corners add at a cell of the image. -/
def spreadR (v0 v1 v2 cf : EReal) (x y z : Fin 192) : EReal :=
  ∑ k : Fin 8, if (held (corner (F := Ideal) k 0 v0)).toInt = x.val ∧ (held (corner (F := Ideal) k 1 v1)).toInt = y.val
        ∧ (held (corner (F := Ideal) k 2 v2)).toInt = z.val then (weight (F := Ideal) k v0 v1 v2 : EReal) * cf else 0

theorem r_at (h : Fin 2) (x y z : Fin 192) :
    (RV m c main_v125 : S384x192x192.Idx → EReal) (ix3 ⟨h.val * 192 + x.val, by omega⟩ y z)
      = ∑ i : Fin 50000, if i.val / 25000 = h.val then ∑ s : Fin 96, spreadR (voxR m c 0 i s) (voxR m c 1 i s) (voxR m c 2 i s) (conR m c i) x y z else 0 := by
  have hI0 := fun i s k => i_at0 m c i s k
  have hI1 := fun i s k => i_at1 m c i s k
  have hI2 := fun i s k => i_at2 m c i s k
  have hI3 := fun i s k => i_at3 m c i s k
  have hU := fun i s k => u_at m c i s k
  have hZ := fun x => z_at m c x
  rw [r_eq]
  generalize RV m c main_v123 = I at *
  generalize RV m c main_v117 = U at *
  generalize RV m c main_v115 = Z at *
  refine (cast_join _ _ h x y z).trans ((scatter_at _ _ _ h x y z).trans ?_)
  have z0 : @Eq EReal (Z (ix4 h x y z)) 0 := (hZ _).trans Ideal.ofBits_zero_f32
  refine (congrArg (fun a : EReal => a + _) z0).trans ((zero_add _).trans ?_)
  refine Finset.sum_congr rfl fun i _ => ?_
  have hh : ∀ (s : Fin 96) (k : Fin 8), ((I (ix4 i s k 0)).toInt = h.val) ↔ i.val / 25000 = h.val := by
    intro s k
    rw [show I (ix4 i s k 0) = _ from hI0 i s k, half_word]
    omega
  by_cases e : i.val / 25000 = h.val
  · rw [if_pos e]
    refine Finset.sum_congr rfl fun s _ => ?_
    unfold spreadR
    refine Finset.sum_congr rfl fun k _ => ?_
    refine if_congr ?_ (hU i s k) rfl
    rw [hh, show I (ix4 i s k 1) = _ from hI1 i s k, show I (ix4 i s k 2) = _ from hI2 i s k, show I (ix4 i s k 3) = _ from hI3 i s k]
    exact ⟨fun a => a.2, fun a => ⟨e, a⟩⟩
  · rw [if_neg e]
    refine Finset.sum_eq_zero fun s _ => Finset.sum_eq_zero fun k _ => if_neg fun a => e ((hh s k).1 a.1)

end Cert.Reference2Ideal.Hand
end
-- ==== Proof.Bp.Ideal.Value.lean ====
/-
  THE BACK-PROJECTIONS AGREE: on arguments whose samples lie near the image, at cells `(x, y, z)` of a half both results are
  the sum over the half's 25000 lines of their samples' weights times the line's factor.
-/
module

public import proofs.«01_k».proof.Proof.Bp.Ideal.Tail
public import proofs.«01_k».proof.Proof.Bp.RefVal

@[expose] public section

noncomputable section

namespace Cert.Kernel2Ideal.Hand

open Cert.Kernel2Ideal Cert.Kernel2Ideal.Gen Cert.Spec Cert.Corner
open Idealize.ShloMosaic Idealize.ShloMosaic.TcCoe
open Cert.Reference2Ideal.Hand (spreadR)

/-- The lines of a half, of all lines. -/
theorem sum_half (L : ℕ → EReal) (h : Fin 2) :
    (∑ i : Fin 50000, if i.val / 25000 = h.val then L i.val else 0) = ∑ j ∈ Finset.range 25000, L (25000 * h.val + j) := by
  rw [← Finset.sum_range (fun i => if i / 25000 = h.val then L i else 0), show (50000 : ℕ) = 25000 + 25000 from rfl, Finset.sum_range_add]
  have hh := h.isLt
  by_cases e : h.val = 0
  · have z : ∑ j ∈ Finset.range 25000, (if (25000 + j) / 25000 = h.val then L (25000 + j) else 0) = 0 :=
      Finset.sum_eq_zero fun j hj => if_neg (by have := Finset.mem_range.1 hj; omega)
    rw [z, add_zero]
    refine Finset.sum_congr rfl fun j hj => ?_
    have := Finset.mem_range.1 hj
    rw [if_pos (by omega), e, Nat.mul_zero, Nat.zero_add]
  · have z : ∑ j ∈ Finset.range 25000, (if j / 25000 = h.val then L j else 0) = 0 :=
      Finset.sum_eq_zero fun j hj => if_neg (by have := Finset.mem_range.1 hj; omega)
    rw [z, zero_add]
    refine Finset.sum_congr rfl fun j hj => ?_
    have := Finset.mem_range.1 hj
    rw [if_pos (by omega), show h.val = 1 by omega]

variable {m : (ℓ : Loc nD τ sig) → Buf (Elt Ideal) ℓ} {c : Dev nD}

/-- The kernel's factor of a line, multiplied out. -/
theorem cfM_eq (i : Fin 50000) : cfM m c i
    = FloatOps.mulf (F := Ideal) (φ := .f32) (FloatOps.mulf (FloatOps.mulf (FloatOps.mulf ((m (c, Proc.tc.devRef main_arg3) : S1000x1x50.Idx → Ideal .f32) (ix3 ⟨i.val / 50, by omega⟩ 0 ⟨i.val % 50, by omega⟩))
      (seg (m (c, Proc.tc.devRef main_arg2)) i)) kw) (seg (m (c, Proc.tc.devRef main_arg2)) i)) kw := by
  unfold cfM
  rw [fac_at]
  have e : (⟨(⟨i.val / 50, by omega⟩ : Fin 1000).val * 50 + (⟨i.val % 50, by omega⟩ : Fin 50).val, by show i.val / 50 * 50 + i.val % 50 < 50000; omega⟩ : Fin 50000) = i :=
    Fin.ext (by show i.val / 50 * 50 + i.val % 50 = i.val; omega)
  rw [e]
  generalize seg (F := Ideal) (m (c, Proc.tc.devRef main_arg2)) i = s
  generalize (kw (F := Ideal)) = k
  generalize (m (c, Proc.tc.devRef main_arg3) : S1000x1x50.Idx → Ideal .f32) (ix3 ⟨i.val / 50, by omega⟩ 0 ⟨i.val % 50, by omega⟩) = p
  have e3 : ∀ p s k : EReal, (p * (s * k)) * (s * k) = (((p * s) * k) * s) * k := fun p s k => by rw [← mul_assoc, ← mul_assoc]
  exact e3 p s k

/-- A sample's corners land as the three axes' weights say. -/
theorem spreadR_eq (S : Cells m c) (i : Fin 50000) (s : Fin 96) (cf : EReal) (x y z : Fin 192) :
    spreadR (voxM m c 0 i s) (voxM m c 1 i s) (voxM m c 2 i s) cf x y z = S.w x y z i s * cf := by
  unfold spreadR
  refine (Finset.sum_congr rfl fun k _ => land_eq (S.ax 0 i s) (S.ax 1 i s) (S.ax 2 i s) k cf x y z).trans ?_
  exact corners_sum cf _ _ _ _ _ _ _ _ _

/-- The results agree, from equal arguments. -/
theorem agree (hn : NearM m c) (m' : (ℓ : Loc Cert.Reference2Ideal.nD Cert.Reference2Ideal.τ Cert.Reference2Ideal.sig) → Buf (Elt Ideal) ℓ)
    (h0 : m' (c, Proc.tc.devRef Cert.Reference2Ideal.main_arg0) = m (c, Proc.tc.devRef main_arg0))
    (h1 : m' (c, Proc.tc.devRef Cert.Reference2Ideal.main_arg1) = m (c, Proc.tc.devRef main_arg1))
    (h2 : m' (c, Proc.tc.devRef Cert.Reference2Ideal.main_arg2) = m (c, Proc.tc.devRef main_arg2))
    (h3 : m' (c, Proc.tc.devRef Cert.Reference2Ideal.main_arg3) = m (c, Proc.tc.devRef main_arg3)) :
    Cert.Reference2Ideal.Hand.RV m' c Cert.Reference2Ideal.main_v125 = finalAt m c main_v102 := by
  obtain ⟨S⟩ := cells_of hn
  have cell : ∀ (h : Fin 2) (x y z : Fin 192), (Cert.Reference2Ideal.Hand.RV m' c Cert.Reference2Ideal.main_v125 : S384x192x192.Idx → EReal) (ix3 ⟨h.val * 192 + x.val, by omega⟩ y z)
      = (finalAt m c main_v102 : S384x192x192.Idx → EReal) (ix3 ⟨h.val * 192 + x.val, by omega⟩ y z) := by
    intro h x y z
    have hk : @Eq EReal ((finalAt m c main_v102 : S384x192x192.Idx → EReal) (ix3 ⟨h.val * 192 + x.val, by omega⟩ y z))
        (∑ i : Fin 50000, if i.val / 25000 = h.val then S.line (cfM m c) x y z i.val else 0) :=
      ((final_at m c h x y z).trans (half_all S h x y z)).trans (sum_half _ h).symm
    refine @Eq.trans EReal _ _ _ (Cert.Reference2Ideal.Hand.r_at m' c h x y z) (@Eq.trans EReal _ _ _ ?_ hk.symm)
    refine Finset.sum_congr rfl fun i _ => ?_
    by_cases hi : i.val / 25000 = h.val
    · rw [if_pos hi, if_pos hi]
      unfold Cells.line
      rw [dif_pos i.isLt]
      refine Finset.sum_congr rfl fun s _ => ?_
      have hv : ∀ d : Fin 3, Cert.Reference2Ideal.Hand.voxR m' c d i s = voxM m c d i s := by
        intro d
        unfold Cert.Reference2Ideal.Hand.voxR voxM
        rw [h0, h1, h2]
      have hc : Cert.Reference2Ideal.Hand.conR m' c i = cfM m c i := by
        rw [cfM_eq]
        unfold Cert.Reference2Ideal.Hand.conR
        rw [h2, h3]
      rw [hv, hv, hv, hc]
      exact spreadR_eq S i s _ x y z
    · rw [if_neg hi, if_neg hi]
  funext e
  have hx : ((e : S384x192x192.Idx) 0).val < 384 := (e 0).isLt
  have he : (e : S384x192x192.Idx) = ix3 ⟨(⟨(e 0).val / 192, by omega⟩ : Fin 2).val * 192 + (⟨(e 0).val % 192, by omega⟩ : Fin 192).val, by show (e 0).val / 192 * 192 + (e 0).val % 192 < 384; omega⟩ (e 1) (e 2) := by
    refine (ValueIdx.eq_ix3 (n0 := 384) (n1 := 192) (n2 := 192) e).trans ?_
    exact congrArg (fun a : Fin 384 => (ix3 a (e 1) (e 2) : S384x192x192.Idx)) (Fin.ext (by show (e 0).val = (e 0).val / 192 * 192 + (e 0).val % 192; omega))
  rw [he]
  exact cell _ _ _ _

end Cert.Kernel2Ideal.Hand
end
-- ==== Proof.Bp.Near.lean ====
/-
  WHAT THE PRECONDITION SAYS of one sample of the back-projection: its three voxel coordinates lie in -1 ≤ v < 192.
-/
module

public import proofs.«01_k».proof.Defs
public import proofs.«01_k».proof.Proof.Spec
public import Idealize.ShloMosaic.Lib.ReduceAll
public import Idealize.ShloMosaic.Lib.Pointwise.Tactic
public import Idealize.ShloMosaic.PureOps.Ideal.Laws

@[expose] public section

noncomputable section

namespace Cert.Near2

open Cert.Pre_near2 Cert.Spec
open Idealize.ShloMosaic

theorem facts : Cert.Pre_near2.Facts := by constructor <;> decide

variable [Cert.Pre_near2.Facts]
variable {F : FTy → Type} [FloatOps F]

instance : Subsingleton S_.Idx := ⟨fun _ _ => funext fun a => a.elim0⟩

theorem near_words (cen size : FVec F S3 .f32) (lors : FVec F S50000x6 .f32) (praw : FVec F S1000x1x50 .f32)
    (h : fn cen size lors praw = fun _ => 1#1) (d : Fin 3) (i : Fin 50000) (s : Fin 96) :
    IntOp.andi (FloatOps.cmpf .oge (vox cen size lors d i s) (FloatOps.ofBits .f32 0xBF800000#32))
      (FloatOps.cmpf .olt (vox cen size lors d i s) (FloatOps.ofBits .f32 0x43400000#32)) = 1#1 := by
  have e := congrFun h ix0
  unfold fn fn_part1 at e
  have e' := Host.reduce_andi_all _ _ _ _ _ e (ix3 i s d)
  pointwise at e'
  have en : (⟨3 + d.val, by omega⟩ : Fin 6) = ⟨d.val + 3, by omega⟩ := Fin.ext (Nat.add_comm 3 d.val)
  rw [en] at e'
  exact e'

/-- Over the extended reals: the two bounds. -/
theorem near_at (cen size : FVec Ideal S3 .f32) (lors : FVec Ideal S50000x6 .f32) (praw : FVec Ideal S1000x1x50 .f32)
    (h : fn cen size lors praw = fun _ => 1#1) (d : Fin 3) (i : Fin 50000) (s : Fin 96) :
    ((-1 : ℝ) : EReal) ≤ vox cen size lors d i s ∧ (vox cen size lors d i s : EReal) < ((192 : ℝ) : EReal) := by
  obtain ⟨h1, h2⟩ := andi_one.1 (near_words cen size lors praw h d i s)
  generalize vox cen size lors d i s = v at *
  rw [Ideal.cmpf_def, Ideal.ofBits_def] at h1 h2
  have e1 : Ideal.ofBits .f32 0xBF800000#32 = ((-1 : ℝ) : EReal) := by simp [Ideal.ofBits, Ideal.ieee, -EReal.coe_mul]; norm_num
  have e2 : Ideal.ofBits .f32 0x43400000#32 = ((192 : ℝ) : EReal) := by simp [Ideal.ofBits, Ideal.ieee, -EReal.coe_mul]; norm_num
  rw [e1] at h1
  rw [e2] at h2
  unfold Ideal.cmp at h1 h2
  have bit : ∀ b : Bool, BitVec.ofBool b = 1#1 → b = true := by decide
  exact ⟨of_decide_eq_true (bit _ h1), of_decide_eq_true (bit _ h2)⟩

end Cert.Near2
end
-- ==== Proof.lean ====
/-
  The proof of `Cert.Claim`: the two kernel programs' frames from their runs, the reference's from its run, and the
  results' equality from the two results read index by index.
-/
module

public import proofs.«01_k».proof.Defs
public import proofs.«01_k».proof.Proof.Gen.ReferenceIdeal.Run
public import proofs.«01_k».proof.Proof.Gen.Kernel2
public import proofs.«01_k».proof.Proof.Gen.Kernel2.Frame
public import proofs.«01_k».proof.Proof.Gen.Kernel2.Launch
public import proofs.«01_k».proof.Proof.Gen.Kernel2.Points
public import proofs.«01_k».proof.Proof.Gen.Kernel2.Skeleton
public import proofs.«01_k».proof.Proof.Gen.Kernel2.Loops
public import proofs.«01_k».proof.Proof.Gen.Kernel2Ideal
public import proofs.«01_k».proof.Proof.Gen.Kernel2Ideal.Frame
public import proofs.«01_k».proof.Proof.Gen.Kernel2Ideal.Launch
public import proofs.«01_k».proof.Proof.Gen.Kernel2Ideal.Points
public import proofs.«01_k».proof.Proof.Gen.Kernel2Ideal.Skeleton
public import proofs.«01_k».proof.Proof.Gen.Kernel2Ideal.Loops
public import proofs.«01_k».proof.Proof.Gen.Reference2Ideal.Run
public import proofs.«01_k».proof.Proof.Gen.Kernel3.Frame
public import proofs.«01_k».proof.Proof.Gen.Kernel3Ideal.Value
public import proofs.«01_k».proof.Proof.Gen.Reference3Ideal.Run
public import proofs.«01_k».proof.Proof.Blocks
public import proofs.«01_k».proof.Proof.Ideal.Blocks
public import proofs.«01_k».proof.Proof.Ideal.Value
public import proofs.«01_k».proof.Proof.Combine
public import proofs.«01_k».proof.Proof.Bp.Blocks
public import proofs.«01_k».proof.Proof.Bp.Ideal.Blocks
public import proofs.«01_k».proof.Proof.Bp.Ideal.Value
public import proofs.«01_k».proof.Proof.Bp.Near
public import Idealize.ShloMosaic.Lib.Quiescent

@[expose] public section

noncomputable section

namespace Cert.Proof

open Idealize.ShloMosaic Idealize.SL.Sem

theorem frame_k : Cert.quiescent_Kernel := fun m ρ _ => Cert.Kernel.Hand.frame_all m ρ

theorem frame_ki : Cert.quiescent_KernelIdeal := fun m ρ _ => Cert.KernelIdeal.Hand.frame_all m ρ

theorem frame_r : Cert.quiescent_ReferenceIdeal := fun m ρ _ =>
  (θ_run Cert.ReferenceIdeal.defs _ _).mono (fun r h => ⟨fun c => (h c).2,
      Idealize.ShloMosaic.sem_eq_zero_of_no_sems (by decide) r.2⟩) (Cert.ReferenceIdeal.Value.run (F := Ideal) m ρ)

theorem frame_ki_near : Cert.quiescent_KernelIdeal_pre_near (hPre_near := Cert.Near.facts) := fun m ρ _ => frame_ki m ρ trivial

theorem frame_r_near : Cert.quiescent_ReferenceIdeal_pre_near (hPre_near := Cert.Near.facts) := fun m ρ _ => frame_r m ρ trivial

theorem values : Cert.algebraic_KernelIdeal_ReferenceIdeal_pre_near (hPre_near := Cert.Near.facts) := by
  intro m g m' g' hpre hargs
  haveI := Cert.Near.facts
  have hn : ∀ c, Cert.KernelIdeal.Hand.NearM m c := fun c d i s => Cert.Near.near_at (_) (_) (_) (_) (hpre c) d i s
  refine ⟨fun c => Cert.KernelIdeal.Hand.resArr m c, Cert.KernelIdeal.Hand.run_all m g, ?_⟩
  refine (θ_run Cert.ReferenceIdeal.defs _ _).mono (fun r h c => ?_)
    (StableHlo.run_seq Cert.ReferenceIdeal.Value.scopedRefs_eq Cert.ReferenceIdeal.Value.scopedSems_eq Cert.ReferenceIdeal.defs Cert.ReferenceIdeal.main
      (fun _ => Cert.ReferenceIdeal.Value.ops) Cert.ReferenceIdeal.Value.main_eq (fun _ => Cert.ReferenceIdeal.Value.ops_sub) m' g')
  obtain ⟨h0, h1, h2, h3⟩ := hargs c
  have arg := fun b hb => (h c b).trans (Cert.ReferenceIdeal.Hand.arg_eq m' c b hb)
  exact ⟨(h c Cert.ReferenceIdeal.main_v116).trans (Cert.KernelIdeal.Hand.agree (hn c) m' h0 h1 h2 h3), arg _ (Or.inl rfl),
    arg _ (Or.inr (Or.inl rfl)), arg _ (Or.inr (Or.inr (Or.inl rfl))), arg _ (Or.inr (Or.inr (Or.inr rfl)))⟩

theorem frame_k2 : Cert.quiescent_Kernel2 := fun m ρ _ => Cert.Kernel2.Hand.frame_all m ρ

theorem frame_ki2 : Cert.quiescent_Kernel2Ideal := fun m ρ _ => Cert.Kernel2Ideal.Hand.frame_all m ρ

theorem frame_r2 : Cert.quiescent_Reference2Ideal := fun m ρ _ =>
  (θ_run Cert.Reference2Ideal.defs _ _).mono (fun r h => ⟨fun c => (h c).2,
      Idealize.ShloMosaic.sem_eq_zero_of_no_sems (by decide) r.2⟩) (Cert.Reference2Ideal.Value.run (F := Ideal) m ρ)

theorem frame_ki2_near : Cert.quiescent_Kernel2Ideal_pre_near2 (hPre_near2 := Cert.Near2.facts) := fun m ρ _ => frame_ki2 m ρ trivial

theorem frame_r2_near : Cert.quiescent_Reference2Ideal_pre_near2 (hPre_near2 := Cert.Near2.facts) := fun m ρ _ => frame_r2 m ρ trivial

theorem values2 : Cert.algebraic_Kernel2Ideal_Reference2Ideal_pre_near2 (hPre_near2 := Cert.Near2.facts) := by
  intro m g m' g' hpre hargs
  haveI := Cert.Near2.facts
  have hn : ∀ c, Cert.Kernel2Ideal.Hand.NearM m c := fun c d i s => Cert.Near2.near_at (_) (_) (_) (_) (hpre c) d i s
  refine ⟨fun c => Cert.Kernel2Ideal.Hand.finalAt m c Cert.Kernel2Ideal.main_v102, Cert.Kernel2Ideal.Hand.run_all m g, ?_⟩
  refine (θ_run Cert.Reference2Ideal.defs _ _).mono (fun r h c => ?_)
    (StableHlo.run_seq Cert.Reference2Ideal.Value.scopedRefs_eq Cert.Reference2Ideal.Value.scopedSems_eq Cert.Reference2Ideal.defs Cert.Reference2Ideal.main
      (fun _ => Cert.Reference2Ideal.Value.ops) Cert.Reference2Ideal.Value.main_eq (fun _ => Cert.Reference2Ideal.Value.ops_sub) m' g')
  obtain ⟨h0, h1, h2, h3⟩ := hargs c
  have arg := fun b hb => (h c b).trans (Cert.Reference2Ideal.Hand.arg_eq m' c b hb)
  exact ⟨(h c Cert.Reference2Ideal.main_v125).trans (Cert.Kernel2Ideal.Hand.agree (hn c) m' h0 h1 h2 h3), arg _ (Or.inl rfl),
    arg _ (Or.inr (Or.inl rfl)), arg _ (Or.inr (Or.inr (Or.inl rfl))), arg _ (Or.inr (Or.inr (Or.inr rfl)))⟩

theorem frame_k3 : Cert.quiescent_Kernel3 := fun m ρ _ => Cert.Kernel3.Gen.frame m ρ

theorem frame_ki3 : Cert.quiescent_Kernel3Ideal := fun m ρ _ => Cert.Kernel3Ideal.Gen.frame m ρ

theorem frame_r3 : Cert.quiescent_Reference3Ideal := fun m ρ _ =>
  (θ_run Cert.Reference3Ideal.defs _ _).mono (fun r h => ⟨fun c => (h c).2,
      Idealize.ShloMosaic.sem_eq_zero_of_no_sems (by decide) r.2⟩) (Cert.Reference3Ideal.Value.run (F := Ideal) m ρ)

theorem values3 : Cert.algebraic_Kernel3Ideal_Reference3Ideal := by
  intro m g m' g' _ hargs
  refine ⟨_, Cert.Kernel3Ideal.Value.run m g, (θ_run Cert.Reference3Ideal.defs _ _).mono (fun r h c => ?_) (Cert.Reference3Ideal.Value.run m' g')⟩
  obtain ⟨h0, h1, h2, h3, h4⟩ := hargs c
  refine ⟨(h c).1.trans ?_, (h c).2⟩
  rw [h0, h1, h2, h3, h4]
  exact Cert.Combine.combine_eq _ _ _ _ _

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts, Cert.Near.facts, Cert.Near2.facts,
    frame_k, frame_ki, frame_ki_near, frame_r, frame_r_near, frame_k2, frame_ki2, frame_ki2_near, frame_r2, frame_r2_near, frame_k3, frame_ki3, frame_r3,
    trivial, values, trivial, values2, trivial, values3⟩

end Cert.Proof

end
